-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "least" .f32 0xFF7FC99E#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x7 : Shape := ⟨2, ![5000, 7]⟩
abbrev S5000 : Shape := ⟨1, ![5000]⟩
abbrev S16x16 : Shape := ⟨2, ![16, 16]⟩
abbrev S16 : Shape := ⟨1, ![16]⟩
abbrev S1x16 : Shape := ⟨2, ![1, 16]⟩
abbrev S1 : Shape := ⟨1, ![1]⟩
abbrev S1x8 : Shape := ⟨2, ![1, 8]⟩
abbrev S_ : Shape := ⟨0, ![]⟩
abbrev S5000x1 : Shape := ⟨2, ![5000, 1]⟩
abbrev S5000x8 : Shape := ⟨2, ![5000, 8]⟩
abbrev S1x1x1x8 : Shape := ⟨4, ![1, 1, 1, 8]⟩
abbrev S120x1x1x8 : Shape := ⟨4, ![120, 1, 1, 8]⟩
abbrev S120x8 : Shape := ⟨2, ![120, 8]⟩
abbrev S5120x8 : Shape := ⟨2, ![5120, 8]⟩
abbrev S8x5120 : Shape := ⟨2, ![8, 5120]⟩
abbrev S5120x16 : Shape := ⟨2, ![5120, 16]⟩
abbrev S256x8 : Shape := ⟨2, ![256, 8]⟩
abbrev S256x16 : Shape := ⟨2, ![256, 16]⟩
abbrev S256x512 : Shape := ⟨2, ![256, 512]⟩
abbrev S256x1 : Shape := ⟨2, ![256, 1]⟩
abbrev S8x512 : Shape := ⟨2, ![8, 512]⟩
abbrev S1x512 : Shape := ⟨2, ![1, 512]⟩
abbrev S256 : Shape := ⟨1, ![256]⟩
abbrev S1x256x512 : Shape := ⟨3, ![1, 256, 512]⟩
abbrev S1x1x1 : Shape := ⟨3, ![1, 1, 1]⟩
abbrev S256x6 : Shape := ⟨2, ![256, 6]⟩
abbrev S5128x8 : Shape := ⟨2, ![5128, 8]⟩
abbrev S2 : Shape := ⟨1, ![2]⟩
abbrev S41024 : Shape := ⟨1, ![41024]⟩
abbrev S81920x1 : Shape := ⟨2, ![81920, 1]⟩
abbrev S8 : Shape := ⟨1, ![8]⟩
abbrev S81920x8 : Shape := ⟨2, ![81920, 8]⟩
abbrev S655360 : Shape := ⟨1, ![655360]⟩
abbrev S32x20480 : Shape := ⟨2, ![32, 20480]⟩
abbrev S20480 : Shape := ⟨1, ![20480]⟩
abbrev S1x20480 : Shape := ⟨2, ![1, 20480]⟩
abbrev S5120x128 : Shape := ⟨2, ![5120, 128]⟩
abbrev S8x8 : Shape := ⟨2, ![8, 8]⟩
abbrev S1x8x8x1 : Shape := ⟨4, ![1, 8, 8, 1]⟩
abbrev S16x1x1x16 : Shape := ⟨4, ![16, 1, 1, 16]⟩
abbrev S16x8x8x16 : Shape := ⟨4, ![16, 8, 8, 16]⟩
abbrev S128x128 : Shape := ⟨2, ![128, 128]⟩
abbrev S8x16 : Shape := ⟨2, ![8, 16]⟩
abbrev S128 : Shape := ⟨1, ![128]⟩
abbrev S1x128 : Shape := ⟨2, ![1, 128]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S8x1x8 : Shape := ⟨3, ![8, 1, 8]⟩
abbrev S1x16x1 : Shape := ⟨3, ![1, 16, 1]⟩
abbrev S8x16x8 : Shape := ⟨3, ![8, 16, 8]⟩
abbrev S128x8 : Shape := ⟨2, ![128, 8]⟩
abbrev S512x128 : Shape := ⟨2, ![512, 128]⟩
abbrev S512x8 : Shape := ⟨2, ![512, 8]⟩
abbrev S512x1 : Shape := ⟨2, ![512, 1]⟩

abbrev nBuf : Table → Nat
  | .hbm => 142
  | .local .tc .vmem => 25
  | .local .tc .smem => 2
  | .local .scVector .vmem => 3
  | _ => 0

abbrev hbmTy0_0 (i : Nat) : BufTy := match i % 128 with
  | 0 => ⟨S5000x7, .f32⟩
  | 1 => ⟨S5000, .f32⟩
  | 2 => ⟨S5000, .i32⟩
  | 3 => ⟨S16x16, .f32⟩
  | 4 => ⟨S16, .f32⟩
  | 5 => ⟨S16x16, .f32⟩
  | 6 => ⟨S16, .f32⟩
  | 7 => ⟨S1x16, .f32⟩
  | 8 => ⟨S1, .f32⟩
  | 9 => ⟨S1x8, .f32⟩
  | 10 => ⟨S5000, .f32⟩
  | 11 => ⟨S5000, .i32⟩
  | 12 => ⟨S5000, .f32⟩
  | 13 => ⟨S5000, .i32⟩
  | 14 => ⟨S_, .i32⟩
  | 15 => ⟨S5000, .i32⟩
  | 16 => ⟨S5000, .i1⟩
  | 17 => ⟨S_, .i32⟩
  | 18 => ⟨S5000, .i32⟩
  | 19 => ⟨S5000, .i32⟩
  | 20 => ⟨S5000, .i32⟩
  | 21 => ⟨S5000x1, .i32⟩
  | 22 => ⟨S5000x7, .f32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000, .f32⟩
  | 32 => ⟨S_, .i32⟩
  | 33 => ⟨S5000, .i32⟩
  | 34 => ⟨S5000, .i1⟩
  | 35 => ⟨S_, .i32⟩
  | 36 => ⟨S5000, .i32⟩
  | 37 => ⟨S5000, .i32⟩
  | 38 => ⟨S5000, .i32⟩
  | 39 => ⟨S5000x1, .i32⟩
  | 40 => ⟨S5000, .i32⟩
  | 41 => ⟨S5000, .f32⟩
  | 42 => ⟨S_, .f32⟩
  | 43 => ⟨S5000, .f32⟩
  | 44 => ⟨S5000x1, .f32⟩
  | 45 => ⟨S5000, .f32⟩
  | 46 => ⟨S5000x1, .f32⟩
  | 47 => ⟨S5000, .f32⟩
  | 48 => ⟨S5000x1, .f32⟩
  | 49 => ⟨S5000, .f32⟩
  | 50 => ⟨S5000x1, .f32⟩
  | 51 => ⟨S5000, .f32⟩
  | 52 => ⟨S5000x1, .f32⟩
  | 53 => ⟨S5000x1, .f32⟩
  | 54 => ⟨S5000x1, .f32⟩
  | 55 => ⟨S5000x1, .f32⟩
  | 56 => ⟨S5000x1, .f32⟩
  | 57 => ⟨S5000x1, .f32⟩
  | 58 => ⟨S5000x1, .f32⟩
  | 59 => ⟨S5000x1, .f32⟩
  | 60 => ⟨S5000x8, .f32⟩
  | 61 => ⟨S1x1x1x8, .f32⟩
  | 62 => ⟨S120x1x1x8, .f32⟩
  | 63 => ⟨S120x8, .f32⟩
  | 64 => ⟨S5120x8, .f32⟩
  | 65 => ⟨S8x5120, .f32⟩
  | 66 => ⟨S_, .f32⟩
  | 67 => ⟨S5000, .f32⟩
  | 68 => ⟨S5000, .i1⟩
  | 69 => ⟨S5000, .i32⟩
  | 70 => ⟨S_, .i32⟩
  | 71 => ⟨S_, .i32⟩
  | 72 => ⟨S5120x8, .f32⟩
  | 73 => ⟨S5120x16, .i32⟩
  | 74 => ⟨S_, .f32⟩
  | 75 => ⟨S5128x8, .f32⟩
  | 76 => ⟨S_, .i32⟩
  | 77 => ⟨S1, .i32⟩
  | 78 => ⟨S_, .i32⟩
  | 79 => ⟨S1, .i32⟩
  | 80 => ⟨S2, .i32⟩
  | 81 => ⟨S5128x8, .f32⟩
  | 82 => ⟨S41024, .f32⟩
  | 83 => ⟨S81920x1, .i32⟩
  | 84 => ⟨S_, .i32⟩
  | 85 => ⟨S81920x1, .i32⟩
  | 86 => ⟨S81920x1, .i32⟩
  | 87 => ⟨S8, .i32⟩
  | 88 => ⟨S1x8, .i32⟩
  | 89 => ⟨S81920x8, .i32⟩
  | 90 => ⟨S81920x8, .i32⟩
  | 91 => ⟨S81920x8, .i32⟩
  | 92 => ⟨S655360, .i32⟩
  | 93 => ⟨S32x20480, .i32⟩
  | 94 => ⟨S32x20480, .f32⟩
  | 95 => ⟨S5120x128, .f32⟩
  | 96 => ⟨S8x8, .i32⟩
  | 97 => ⟨S8x8, .i32⟩
  | 98 => ⟨S_, .i32⟩
  | 99 => ⟨S8x8, .i32⟩
  | 100 => ⟨S8x8, .i32⟩
  | 101 => ⟨S8x8, .i1⟩
  | 102 => ⟨S8x8, .f32⟩
  | 103 => ⟨S1x8x8x1, .f32⟩
  | 104 => ⟨S16x16, .f32⟩
  | 105 => ⟨S16x1x1x16, .f32⟩
  | 106 => ⟨S16x8x8x16, .f32⟩
  | 107 => ⟨S16x8x8x16, .f32⟩
  | 108 => ⟨S16x8x8x16, .f32⟩
  | 109 => ⟨S128x128, .f32⟩
  | 110 => ⟨S1x16, .f32⟩
  | 111 => ⟨S8x16, .f32⟩
  | 112 => ⟨S128, .f32⟩
  | 113 => ⟨S1x128, .f32⟩
  | 114 => ⟨S8x1x8x1, .f32⟩
  | 115 => ⟨S16x16, .f32⟩
  | 116 => ⟨S1x16x1x16, .f32⟩
  | 117 => ⟨S8x16x8x16, .f32⟩
  | 118 => ⟨S8x16x8x16, .f32⟩
  | 119 => ⟨S8x16x8x16, .f32⟩
  | 120 => ⟨S128x128, .f32⟩
  | 121 => ⟨S1x16, .f32⟩
  | 122 => ⟨S8x16, .f32⟩
  | 123 => ⟨S128, .f32⟩
  | 124 => ⟨S1x128, .f32⟩
  | 125 => ⟨S8x1x8, .f32⟩
  | 126 => ⟨S16, .f32⟩
  | 127 => ⟨S1x16x1, .f32⟩
  | _ => ⟨S5000x7, .f32⟩

abbrev hbmTy0_1 (i : Nat) : BufTy := match i % 128 with
  | 0 => ⟨S8x16x8, .f32⟩
  | 1 => ⟨S8x16x8, .f32⟩
  | 2 => ⟨S8x16x8, .f32⟩
  | 3 => ⟨S128x8, .f32⟩
  | 4 => ⟨S_, .i32⟩
  | 5 => ⟨S_, .f32⟩
  | 6 => ⟨S128x128, .f32⟩
  | 7 => ⟨S_, .f32⟩
  | 8 => ⟨S1x128, .f32⟩
  | 9 => ⟨S_, .i32⟩
  | 10 => ⟨S_, .f32⟩
  | 11 => ⟨S5120x8, .f32⟩
  | 12 => ⟨S5120x8, .f32⟩
  | 13 => ⟨S5000x7, .f32⟩
  | _ => ⟨S5000x7, .f32⟩

abbrev hbmTy (i : Nat) : BufTy := match i / 128 with
  | 0 => hbmTy0_0 i
  | 1 => hbmTy0_1 i
  | _ => ⟨S5000x7, .f32⟩

abbrev bufTy : (tb : Table) → Fin (nBuf tb) → BufTy
  | .hbm, ⟨i, _⟩ => hbmTy i
  | .local .tc .vmem, ⟨0, _⟩ => ⟨S256x8, .f32⟩
  | .local .tc .vmem, ⟨1, _⟩ => ⟨S256x8, .f32⟩
  | .local .tc .vmem, ⟨2, _⟩ => ⟨S8x5120, .f32⟩
  | .local .tc .vmem, ⟨3, _⟩ => ⟨S256x8, .f32⟩
  | .local .tc .vmem, ⟨4, _⟩ => ⟨S256x8, .f32⟩
  | .local .tc .vmem, ⟨5, _⟩ => ⟨S256x16, .i32⟩
  | .local .tc .vmem, ⟨6, _⟩ => ⟨S256x16, .i32⟩
  | .local .tc .vmem, ⟨7, _⟩ => ⟨S256x512, .i32⟩
  | .local .tc .vmem, ⟨8, _⟩ => ⟨S256x1, .f32⟩
  | .local .tc .vmem, ⟨9, _⟩ => ⟨S256x1, .i32⟩
  | .local .tc .vmem, ⟨10, _⟩ => ⟨S256x16, .i32⟩
  | .local .tc .vmem, ⟨11, _⟩ => ⟨S512x128, .f32⟩
  | .local .tc .vmem, ⟨12, _⟩ => ⟨S512x128, .f32⟩
  | .local .tc .vmem, ⟨13, _⟩ => ⟨S128x128, .f32⟩
  | .local .tc .vmem, ⟨14, _⟩ => ⟨S1x128, .f32⟩
  | .local .tc .vmem, ⟨15, _⟩ => ⟨S128x128, .f32⟩
  | .local .tc .vmem, ⟨16, _⟩ => ⟨S1x128, .f32⟩
  | .local .tc .vmem, ⟨17, _⟩ => ⟨S128x128, .f32⟩
  | .local .tc .vmem, ⟨18, _⟩ => ⟨S1x128, .f32⟩
  | .local .tc .vmem, ⟨19, _⟩ => ⟨S512x8, .f32⟩
  | .local .tc .vmem, ⟨20, _⟩ => ⟨S512x8, .f32⟩
  | .local .tc .vmem, ⟨21, _⟩ => ⟨S512x8, .f32⟩
  | .local .tc .vmem, ⟨22, _⟩ => ⟨S512x8, .f32⟩
  | .local .tc .vmem, ⟨23, _⟩ => ⟨S512x8, .f32⟩
  | .local .tc .vmem, ⟨24, _⟩ => ⟨S512x8, .f32⟩
  | .local .tc .smem, ⟨0, _⟩ => ⟨S1, .i32⟩
  | .local .tc .smem, ⟨1, _⟩ => ⟨S1, .i32⟩
  | .local .scVector .vmem, ⟨0, _⟩ => ⟨S41024, .f32⟩
  | .local .scVector .vmem, ⟨1, _⟩ => ⟨S20480, .i32⟩
  | .local .scVector .vmem, ⟨2, _⟩ => ⟨S20480, .f32⟩
  | _, _ => ⟨S5000x7, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_call0_v0 : Ref sig .tc := ⟨.hbm, 11, rfl⟩
abbrev main_call0_v1_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v52_0 : Ref sig .tc := ⟨.hbm, 72, rfl⟩
abbrev main_v52_1 : Ref sig .tc := ⟨.hbm, 73, rfl⟩
abbrev main_cst_8 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_13 : Ref sig .tc := ⟨.hbm, 132, rfl⟩
abbrev main_call1_v0 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_14 : Ref sig .tc := ⟨.hbm, 137, rfl⟩
abbrev main_call2_v0 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v51 : Ref sig .tc := ⟨.smem, 0, rfl⟩
abbrev main_v58_scv : Ref sig .scVector := ⟨.hbm, 82, rfl⟩
abbrev main_v68_scv : Ref sig .scVector := ⟨.hbm, 93, rfl⟩
abbrev main_v69_scv : Ref sig .scVector := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc2_stg8_0 : Ref sig .tc := ⟨.vmem, 21, rfl⟩
abbrev cc2_stg8_1 : Ref sig .tc := ⟨.vmem, 22, rfl⟩
abbrev cc2_stg9_0 : Ref sig .tc := ⟨.vmem, 23, rfl⟩
abbrev cc2_stg9_1 : Ref sig .tc := ⟨.vmem, 24, rfl⟩
abbrev cc0_scratch4 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc2_sem8_0 : DmaSem sig := 20
abbrev cc2_sem8_1 : DmaSem sig := 21
abbrev cc2_sem9_0 : DmaSem sig := 22
abbrev cc2_sem9_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop (v69 : BitVec 32) : Scf.Loop 32 :=
  let c0_i32_23 : BitVec 32 := 0#32
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_25 : BitVec 32 := 1#32
  ⟨c0_i32_23, v74, c1_i32_25⟩

def k0_mult1 (v69 : BitVec 32) (k0_t1 : Fin (k0_t1_loop v69).trips) : BitVec 32 :=
  let c0_i32_23 : BitVec 32 := 0#32
  let c1_i32_25 : BitVec 32 := 1#32
  let arg11 : BitVec 32 := Scf.iv c0_i32_23 c1_i32_25 k0_t1
  let c512_i32_39 : BitVec 32 := 512#32
  let v88 : BitVec 32 := Scalar.muli arg11 c512_i32_39
  v88
def k0_off1 (v69 : BitVec 32) (k0_t1 : Fin (k0_t1_loop v69).trips) : Fin 2 → Nat :=
  let c0_40 : Index := 0#32
  let c0_i32_23 : BitVec 32 := 0#32
  let c1_i32_25 : BitVec 32 := 1#32
  let arg11 : BitVec 32 := Scf.iv c0_i32_23 c1_i32_25 k0_t1
  let c512_i32_39 : BitVec 32 := 512#32
  let v88 : BitVec 32 := Scalar.muli arg11 c512_i32_39
  let v89 : BitVec 32 := v88
  let v90 : Index := Scalar.indexCast v89
  ![0, v90.toNat]
@[reducible] def k0_t2_loop (v69 : BitVec 32) : Scf.Loop 32 :=
  let c0_i32_23 : BitVec 32 := 0#32
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let v71 : BitVec 32 := Scalar.addi c0_i32_23 v70
  let c1_i32_26 : BitVec 32 := 1#32
  ⟨v74, v71, c1_i32_26⟩
def k0_mult2 (v69 : BitVec 32) (k0_t2 : Fin (k0_t2_loop v69).trips) : BitVec 32 :=
  let c0_i32_23 : BitVec 32 := 0#32
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg11 : BitVec 32 := Scf.iv v74 c1_i32_26 k0_t2
  let c512_i32_39 : BitVec 32 := 512#32
  let v88 : BitVec 32 := Scalar.muli arg11 c512_i32_39
  v88
def k0_off2 (v69 : BitVec 32) (k0_t2 : Fin (k0_t2_loop v69).trips) : Fin 2 → Nat :=
  let c0_40 : Index := 0#32
  let c0_i32_23 : BitVec 32 := 0#32
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg11 : BitVec 32 := Scf.iv v74 c1_i32_26 k0_t2
  let c512_i32_39 : BitVec 32 := 512#32
  let v88 : BitVec 32 := Scalar.muli arg11 c512_i32_39
  let v89 : BitVec 32 := v88
  let v90 : Index := Scalar.indexCast v89
  ![0, v90.toNat]

def k0_chk1 (v69 : BitVec 32) : Prop :=
  ((k0_t1_loop v69).OK) ∧
  (∀ k0_t1 : Fin (k0_t1_loop v69).trips, 512 ∣ (k0_mult1 v69 k0_t1).toNat) ∧
  (∀ k0_t1 : Fin (k0_t1_loop v69).trips, ∀ a, (k0_off1 v69 k0_t1) a + S8x512.size a ≤ S8x5120.size a) ∧
  ((k0_t2_loop v69).OK) ∧
  (∀ k0_t2 : Fin (k0_t2_loop v69).trips, 512 ∣ (k0_mult2 v69 k0_t2).toNat) ∧
  (∀ k0_t2 : Fin (k0_t2_loop v69).trips, ∀ a, (k0_off2 v69 k0_t2) a + S8x512.size a ≤ S8x5120.size a)
theorem k0_t1_ok : ∀ (v69 : BitVec 32) (k0_hw1 : k0_chk1 v69), (k0_t1_loop v69).OK := fun v69 k0_hw1 => k0_hw1.1
theorem k0_mult1_dvd : ∀ (v69 : BitVec 32) (k0_hw1 : k0_chk1 v69) (k0_t1 : Fin (k0_t1_loop v69).trips), 512 ∣ (k0_mult1 v69 k0_t1).toNat := fun v69 k0_hw1 k0_t1 => k0_hw1.2.1 k0_t1
theorem k0_off1_inb : ∀ (v69 : BitVec 32) (k0_hw1 : k0_chk1 v69) (k0_t1 : Fin (k0_t1_loop v69).trips), ∀ a, (k0_off1 v69 k0_t1) a + S8x512.size a ≤ S8x5120.size a := fun v69 k0_hw1 k0_t1 => k0_hw1.2.2.1 k0_t1
theorem k0_t2_ok : ∀ (v69 : BitVec 32) (k0_hw1 : k0_chk1 v69), (k0_t2_loop v69).OK := fun v69 k0_hw1 => k0_hw1.2.2.2.1
theorem k0_mult2_dvd : ∀ (v69 : BitVec 32) (k0_hw1 : k0_chk1 v69) (k0_t2 : Fin (k0_t2_loop v69).trips), 512 ∣ (k0_mult2 v69 k0_t2).toNat := fun v69 k0_hw1 k0_t2 => k0_hw1.2.2.2.2.1 k0_t2
theorem k0_off2_inb : ∀ (v69 : BitVec 32) (k0_hw1 : k0_chk1 v69) (k0_t2 : Fin (k0_t2_loop v69).trips), ∀ a, (k0_off2 v69 k0_t2) a + S8x512.size a ≤ S8x5120.size a := fun v69 k0_hw1 k0_t2 => k0_hw1.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r1 : BitVec 32 := 0#32
  ![v1.toNat, 0]
@[reducible] def k1_t1_loop : Scf.Loop 32 :=
  let c0_i32_0 : BitVec 32 := 0#32
  let c1280_i32 : BitVec 32 := 1280#32
  let v2 : BitVec 32 := Scalar.addi c0_i32_0 c1280_i32
  let c1_i32 : BitVec 32 := 1#32
  ⟨c0_i32_0, v2, c1_i32⟩
def k1_off2 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v3 : BitVec 32 := Scalar.muli arg8 c16_i32
  let v4 : Index := Scalar.indexCast v3
  ![v4.toNat]

def k1_chk1 (v5 : IVec S16 32) : Prop :=
  (∀ a x, ((![v5] : Fin 1 → IVec S16 32) a x).toNat < S41024.size a)
theorem k1_idx1_inb : ∀ (v5 : IVec S16 32) (k1_hw1 : k1_chk1 v5), ∀ a x, ((![v5] : Fin 1 → IVec S16 32) a x).toNat < S41024.size a := fun v5 k1_hw1 => k1_hw1
def k1_off3 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32_2 : BitVec 32 := 16#32
  let v7 : BitVec 32 := Scalar.muli arg8 c16_i32_2
  let v8 : Index := Scalar.indexCast v7
  ![v8.toNat]
abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x8 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "least" => some ⊥
  | _ => none
-- ==== Reference.lean ====
abbrev S5000x7 : Shape := ⟨2, ![5000, 7]⟩
abbrev S5000 : Shape := ⟨1, ![5000]⟩
abbrev S16x16 : Shape := ⟨2, ![16, 16]⟩
abbrev S16 : Shape := ⟨1, ![16]⟩
abbrev S1x16 : Shape := ⟨2, ![1, 16]⟩
abbrev S1 : Shape := ⟨1, ![1]⟩
abbrev S_ : Shape := ⟨0, ![]⟩
abbrev S5000x1 : Shape := ⟨2, ![5000, 1]⟩
abbrev S1x5000 : Shape := ⟨2, ![1, 5000]⟩
abbrev S5000x5000 : Shape := ⟨2, ![5000, 5000]⟩
abbrev S5000x16 : Shape := ⟨2, ![5000, 16]⟩
abbrev S5000x16x1 : Shape := ⟨3, ![5000, 16, 1]⟩
abbrev S5000x16x7 : Shape := ⟨3, ![5000, 16, 7]⟩
abbrev S1x1x1 : Shape := ⟨3, ![1, 1, 1]⟩
abbrev S5000x7x16 : Shape := ⟨3, ![5000, 7, 16]⟩
abbrev S1x1x16 : Shape := ⟨3, ![1, 1, 16]⟩
abbrev S16x1 : Shape := ⟨2, ![16, 1]⟩
abbrev S5000x7x1 : Shape := ⟨3, ![5000, 7, 1]⟩
abbrev S5000x3 : Shape := ⟨2, ![5000, 3]⟩

abbrev nBuf : Space → Nat
  | .hbm => 247
  | .vmem => 0
  | .smem => 0
  | _ => 0

abbrev hbmTy0_0 (i : Nat) : BufTy := match i % 128 with
  | 0 => ⟨S5000x7, .f32⟩
  | 1 => ⟨S5000, .f32⟩
  | 2 => ⟨S5000, .i32⟩
  | 3 => ⟨S16x16, .f32⟩
  | 4 => ⟨S16, .f32⟩
  | 5 => ⟨S16x16, .f32⟩
  | 6 => ⟨S16, .f32⟩
  | 7 => ⟨S1x16, .f32⟩
  | 8 => ⟨S1, .f32⟩
  | 9 => ⟨S5000, .f32⟩
  | 10 => ⟨S5000, .i32⟩
  | 11 => ⟨S5000, .f32⟩
  | 12 => ⟨S5000, .i32⟩
  | 13 => ⟨S_, .i32⟩
  | 14 => ⟨S5000, .i32⟩
  | 15 => ⟨S5000, .i1⟩
  | 16 => ⟨S_, .i32⟩
  | 17 => ⟨S5000, .i32⟩
  | 18 => ⟨S5000, .i32⟩
  | 19 => ⟨S5000, .i32⟩
  | 20 => ⟨S5000x1, .i32⟩
  | 21 => ⟨S5000x7, .f32⟩
  | 22 => ⟨S_, .i32⟩
  | 23 => ⟨S5000, .i32⟩
  | 24 => ⟨S5000, .i1⟩
  | 25 => ⟨S_, .i32⟩
  | 26 => ⟨S5000, .i32⟩
  | 27 => ⟨S5000, .i32⟩
  | 28 => ⟨S5000, .i32⟩
  | 29 => ⟨S5000x1, .i32⟩
  | 30 => ⟨S5000, .f32⟩
  | 31 => ⟨S_, .i32⟩
  | 32 => ⟨S5000, .i32⟩
  | 33 => ⟨S5000, .i1⟩
  | 34 => ⟨S_, .i32⟩
  | 35 => ⟨S5000, .i32⟩
  | 36 => ⟨S5000, .i32⟩
  | 37 => ⟨S5000, .i32⟩
  | 38 => ⟨S5000x1, .i32⟩
  | 39 => ⟨S5000, .i32⟩
  | 40 => ⟨S_, .f32⟩
  | 41 => ⟨S5000, .f32⟩
  | 42 => ⟨S5000, .i1⟩
  | 43 => ⟨S5000x1, .f32⟩
  | 44 => ⟨S5000, .f32⟩
  | 45 => ⟨S5000x1, .f32⟩
  | 46 => ⟨S5000, .f32⟩
  | 47 => ⟨S5000x1, .f32⟩
  | 48 => ⟨S5000, .f32⟩
  | 49 => ⟨S5000x1, .f32⟩
  | 50 => ⟨S5000, .f32⟩
  | 51 => ⟨S_, .f32⟩
  | 52 => ⟨S5000, .f32⟩
  | 53 => ⟨S5000, .f32⟩
  | 54 => ⟨S5000, .f32⟩
  | 55 => ⟨S_, .f32⟩
  | 56 => ⟨S5000, .f32⟩
  | 57 => ⟨S5000, .f32⟩
  | 58 => ⟨S5000, .f32⟩
  | 59 => ⟨S_, .f32⟩
  | 60 => ⟨S5000, .f32⟩
  | 61 => ⟨S5000, .f32⟩
  | 62 => ⟨S5000, .f32⟩
  | 63 => ⟨S_, .f32⟩
  | 64 => ⟨S5000, .f32⟩
  | 65 => ⟨S5000, .f32⟩
  | 66 => ⟨S5000, .f32⟩
  | 67 => ⟨S5000x1, .f32⟩
  | 68 => ⟨S1x5000, .f32⟩
  | 69 => ⟨S5000x5000, .f32⟩
  | 70 => ⟨S5000x5000, .f32⟩
  | 71 => ⟨S5000x5000, .f32⟩
  | 72 => ⟨S5000x1, .f32⟩
  | 73 => ⟨S1x5000, .f32⟩
  | 74 => ⟨S5000x5000, .f32⟩
  | 75 => ⟨S5000x5000, .f32⟩
  | 76 => ⟨S5000x5000, .f32⟩
  | 77 => ⟨S5000x5000, .f32⟩
  | 78 => ⟨S_, .f32⟩
  | 79 => ⟨S_, .f32⟩
  | 80 => ⟨S5000x5000, .f32⟩
  | 81 => ⟨S5000x5000, .f32⟩
  | 82 => ⟨S5000x1, .f32⟩
  | 83 => ⟨S1x5000, .f32⟩
  | 84 => ⟨S5000x5000, .f32⟩
  | 85 => ⟨S5000x5000, .f32⟩
  | 86 => ⟨S5000x5000, .f32⟩
  | 87 => ⟨S5000x1, .f32⟩
  | 88 => ⟨S1x5000, .f32⟩
  | 89 => ⟨S5000x5000, .f32⟩
  | 90 => ⟨S5000x5000, .f32⟩
  | 91 => ⟨S5000x5000, .f32⟩
  | 92 => ⟨S5000x5000, .f32⟩
  | 93 => ⟨S_, .f32⟩
  | 94 => ⟨S_, .f32⟩
  | 95 => ⟨S5000x5000, .f32⟩
  | 96 => ⟨S5000x5000, .f32⟩
  | 97 => ⟨S5000x5000, .f32⟩
  | 98 => ⟨S5000, .f32⟩
  | 99 => ⟨S5000x1, .f32⟩
  | 100 => ⟨S1x5000, .f32⟩
  | 101 => ⟨S5000x5000, .f32⟩
  | 102 => ⟨S5000x5000, .f32⟩
  | 103 => ⟨S5000x5000, .f32⟩
  | 104 => ⟨S5000x5000, .f32⟩
  | 105 => ⟨S_, .f32⟩
  | 106 => ⟨S_, .f32⟩
  | 107 => ⟨S5000x5000, .f32⟩
  | 108 => ⟨S5000x5000, .f32⟩
  | 109 => ⟨S5000x5000, .f32⟩
  | 110 => ⟨S5000x1, .i32⟩
  | 111 => ⟨S1x5000, .i32⟩
  | 112 => ⟨S5000x5000, .i32⟩
  | 113 => ⟨S5000x5000, .i32⟩
  | 114 => ⟨S5000x5000, .i1⟩
  | 115 => ⟨S_, .f32⟩
  | 116 => ⟨S_, .f32⟩
  | 117 => ⟨S5000x5000, .f32⟩
  | 118 => ⟨S5000x5000, .f32⟩
  | 119 => ⟨S5000, .i32⟩
  | 120 => ⟨S1x5000, .i32⟩
  | 121 => ⟨S5000x1, .i32⟩
  | 122 => ⟨S5000x5000, .i32⟩
  | 123 => ⟨S5000x5000, .i32⟩
  | 124 => ⟨S5000x5000, .i1⟩
  | 125 => ⟨S_, .f32⟩
  | 126 => ⟨S5000x5000, .f32⟩
  | 127 => ⟨S5000x5000, .i1⟩
  | _ => ⟨S5000x7, .f32⟩

abbrev hbmTy0_1 (i : Nat) : BufTy := match i % 128 with
  | 0 => ⟨S5000x5000, .i1⟩
  | 1 => ⟨S1x5000, .i1⟩
  | 2 => ⟨S5000x5000, .i1⟩
  | 3 => ⟨S5000x5000, .i1⟩
  | 4 => ⟨S_, .i1⟩
  | 5 => ⟨S5000, .i1⟩
  | 6 => ⟨S5000, .i1⟩
  | 7 => ⟨S5000, .i1⟩
  | 8 => ⟨S_, .f32⟩
  | 9 => ⟨S5000x5000, .f32⟩
  | 10 => ⟨S5000x5000, .i1⟩
  | 11 => ⟨S1x5000, .i32⟩
  | 12 => ⟨S5000x1, .i32⟩
  | 13 => ⟨S5000x5000, .i32⟩
  | 14 => ⟨S5000x5000, .i32⟩
  | 15 => ⟨S5000x5000, .i1⟩
  | 16 => ⟨S5000x5000, .i1⟩
  | 17 => ⟨S1x5000, .i1⟩
  | 18 => ⟨S5000x5000, .i1⟩
  | 19 => ⟨S5000x5000, .i1⟩
  | 20 => ⟨S5000x5000, .i32⟩
  | 21 => ⟨S_, .i32⟩
  | 22 => ⟨S5000, .i32⟩
  | 23 => ⟨S_, .f32⟩
  | 24 => ⟨S_, .f32⟩
  | 25 => ⟨S5000x5000, .f32⟩
  | 26 => ⟨S5000x5000, .f32⟩
  | 27 => ⟨S5000x5000, .f32⟩
  | 28 => ⟨S1x5000, .i32⟩
  | 29 => ⟨S1x5000, .f32⟩
  | 30 => ⟨S_, .f32⟩
  | 31 => ⟨S1x5000, .f32⟩
  | 32 => ⟨S1x5000, .f32⟩
  | 33 => ⟨S5000x5000, .f32⟩
  | 34 => ⟨S5000x5000, .f32⟩
  | 35 => ⟨S5000x5000, .f32⟩
  | 36 => ⟨S5000x16, .f32⟩
  | 37 => ⟨S5000x16, .i32⟩
  | 38 => ⟨S_, .i32⟩
  | 39 => ⟨S5000x16, .i32⟩
  | 40 => ⟨S5000x16, .i1⟩
  | 41 => ⟨S_, .i32⟩
  | 42 => ⟨S5000x16, .i32⟩
  | 43 => ⟨S5000x16, .i32⟩
  | 44 => ⟨S5000x16, .i32⟩
  | 45 => ⟨S5000x16x1, .i32⟩
  | 46 => ⟨S5000x16x7, .f32⟩
  | 47 => ⟨S_, .i32⟩
  | 48 => ⟨S5000x16, .i32⟩
  | 49 => ⟨S5000x16, .i1⟩
  | 50 => ⟨S_, .i32⟩
  | 51 => ⟨S5000x16, .i32⟩
  | 52 => ⟨S5000x16, .i32⟩
  | 53 => ⟨S5000x16, .i32⟩
  | 54 => ⟨S5000x16x1, .i32⟩
  | 55 => ⟨S1, .i32⟩
  | 56 => ⟨S_, .i32⟩
  | 57 => ⟨S5000x16x1, .i32⟩
  | 58 => ⟨S5000x16x1, .i1⟩
  | 59 => ⟨S1x1x1, .i32⟩
  | 60 => ⟨S5000x16x1, .i32⟩
  | 61 => ⟨S5000x16x1, .i1⟩
  | 62 => ⟨S5000x16x1, .i1⟩
  | 63 => ⟨S_, .i1⟩
  | 64 => ⟨S5000x16, .i1⟩
  | 65 => ⟨S5000x16, .i1⟩
  | 66 => ⟨S_, .i1⟩
  | 67 => ⟨S5000x16, .i1⟩
  | 68 => ⟨S5000x16, .i1⟩
  | 69 => ⟨S5000x16x1, .i1⟩
  | 70 => ⟨S_, .f32⟩
  | 71 => ⟨S_, .f32⟩
  | 72 => ⟨S5000x16x7, .i1⟩
  | 73 => ⟨S5000x16x7, .f32⟩
  | 74 => ⟨S5000x16x7, .f32⟩
  | 75 => ⟨S5000x7x16, .f32⟩
  | 76 => ⟨S16x16, .f32⟩
  | 77 => ⟨S5000x7x16, .f32⟩
  | 78 => ⟨S1x1x16, .f32⟩
  | 79 => ⟨S5000x7x16, .f32⟩
  | 80 => ⟨S5000x7x16, .f32⟩
  | 81 => ⟨S_, .f32⟩
  | 82 => ⟨S5000x7x16, .f32⟩
  | 83 => ⟨S5000x7x16, .f32⟩
  | 84 => ⟨S16x16, .f32⟩
  | 85 => ⟨S5000x7x16, .f32⟩
  | 86 => ⟨S1x1x16, .f32⟩
  | 87 => ⟨S5000x7x16, .f32⟩
  | 88 => ⟨S5000x7x16, .f32⟩
  | 89 => ⟨S_, .f32⟩
  | 90 => ⟨S5000x7x16, .f32⟩
  | 91 => ⟨S5000x7x16, .f32⟩
  | 92 => ⟨S16x1, .f32⟩
  | 93 => ⟨S5000x7x1, .f32⟩
  | 94 => ⟨S1x1x1, .f32⟩
  | 95 => ⟨S5000x7x1, .f32⟩
  | 96 => ⟨S5000x7x1, .f32⟩
  | 97 => ⟨S5000x7, .f32⟩
  | 98 => ⟨S5000x3, .f32⟩
  | 99 => ⟨S5000x3, .f32⟩
  | 100 => ⟨S_, .f32⟩
  | 101 => ⟨S_, .f32⟩
  | 102 => ⟨S5000x3, .f32⟩
  | 103 => ⟨S5000x3, .f32⟩
  | 104 => ⟨S5000x1, .f32⟩
  | 105 => ⟨S5000x7, .f32⟩
  | 106 => ⟨S_, .i32⟩
  | 107 => ⟨S5000, .i32⟩
  | 108 => ⟨S5000, .i1⟩
  | 109 => ⟨S5000, .i1⟩
  | 110 => ⟨S5000x1, .i1⟩
  | 111 => ⟨S5000x7, .i1⟩
  | 112 => ⟨S5000x7, .f32⟩
  | 113 => ⟨S5000x1, .i1⟩
  | 114 => ⟨S_, .f32⟩
  | 115 => ⟨S_, .f32⟩
  | 116 => ⟨S5000x7, .i1⟩
  | 117 => ⟨S5000x7, .f32⟩
  | 118 => ⟨S5000x7, .f32⟩
  | _ => ⟨S5000x7, .f32⟩

abbrev hbmTy (i : Nat) : BufTy := match i / 128 with
  | 0 => hbmTy0_0 i
  | 1 => hbmTy0_1 i
  | _ => ⟨S5000x7, .f32⟩

abbrev bufTy : (tb : Table) → Fin (tcTables nBuf tb) → BufTy
  | .hbm, ⟨i, _⟩ => hbmTy i
  | _, _ => ⟨S5000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1_0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_call2_v0 : Ref sig .tc := ⟨.hbm, 94, rfl⟩
abbrev main_call2_v1 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_call3_v0 : Ref sig .tc := ⟨.hbm, 106, rfl⟩
abbrev main_call3_v1 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_12 : Ref sig .tc := ⟨.hbm, 115, rfl⟩
abbrev main_call4_v0 : Ref sig .tc := ⟨.hbm, 116, rfl⟩
abbrev main_call4_v1 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_13 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_14 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_15 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_16 : Ref sig .tc := ⟨.hbm, 149, rfl⟩
abbrev main_v112 : Ref sig .tc := ⟨.hbm, 150, rfl⟩
abbrev main_cst_17 : Ref sig .tc := ⟨.hbm, 151, rfl⟩
abbrev main_cst_18 : Ref sig .tc := ⟨.hbm, 152, rfl⟩
abbrev main_call5_v0 : Ref sig .tc := ⟨.hbm, 153, rfl⟩
abbrev main_call5_v1 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_19 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_values : Ref sig .tc := ⟨.hbm, 164, rfl⟩
abbrev main_indices : Ref sig .tc := ⟨.hbm, 165, rfl⟩
abbrev main_c_20 : Ref sig .tc := ⟨.hbm, 166, rfl⟩
abbrev main_v121 : Ref sig .tc := ⟨.hbm, 167, rfl⟩
abbrev main_v122 : Ref sig .tc := ⟨.hbm, 168, rfl⟩
abbrev main_c_21 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call6_c : Ref sig .tc := ⟨.hbm, 175, rfl⟩
abbrev main_call6_v0 : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_c_1 : Ref sig .tc := ⟨.hbm, 183, rfl⟩
abbrev main_call6_c_2 : Ref sig .tc := ⟨.hbm, 184, rfl⟩
abbrev main_call6_v6 : Ref sig .tc := ⟨.hbm, 185, rfl⟩
abbrev main_call6_v7 : Ref sig .tc := ⟨.hbm, 186, rfl⟩
abbrev main_call6_v8 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_3 : Ref sig .tc := ⟨.hbm, 191, rfl⟩
abbrev main_call6_v12 : Ref sig .tc := ⟨.hbm, 192, rfl⟩
abbrev main_call6_v13 : Ref sig .tc := ⟨.hbm, 193, rfl⟩
abbrev main_call6_c_4 : Ref sig .tc := ⟨.hbm, 194, rfl⟩
abbrev main_call6_v14 : Ref sig .tc := ⟨.hbm, 195, rfl⟩
abbrev main_v128 : Ref sig .tc := ⟨.hbm, 196, rfl⟩
abbrev main_v129 : Ref sig .tc := ⟨.hbm, 197, rfl⟩
abbrev main_cst_22 : Ref sig .tc := ⟨.hbm, 198, rfl⟩
abbrev main_call7_v0 : Ref sig .tc := ⟨.hbm, 199, rfl⟩
abbrev main_call7_v1 : Ref sig .tc := ⟨.hbm, 200, rfl⟩
abbrev main_call7_v2 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_call8_cst : Ref sig .tc := ⟨.hbm, 209, rfl⟩
abbrev main_call8_v0 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_call9_cst : Ref sig .tc := ⟨.hbm, 217, rfl⟩
abbrev main_call9_v0 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_23 : Ref sig .tc := ⟨.hbm, 228, rfl⟩
abbrev main_call10_v0 : Ref sig .tc := ⟨.hbm, 229, rfl⟩
abbrev main_call10_v1 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_c_24 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_call11_v0 : Ref sig .tc := ⟨.hbm, 239, rfl⟩
abbrev main_v159 : Ref sig .tc := ⟨.hbm, 240, rfl⟩
abbrev main_v160 : Ref sig .tc := ⟨.hbm, 241, rfl⟩
abbrev main_cst_25 : Ref sig .tc := ⟨.hbm, 242, rfl⟩
abbrev main_call12_v0 : Ref sig .tc := ⟨.hbm, 243, rfl⟩
abbrev main_call12_v1 : Ref sig .tc := ⟨.hbm, 244, rfl⟩
abbrev main_call12_v2 : Ref sig .tc := ⟨.hbm, 245, rfl⟩
abbrev main_v161 : Ref sig .tc := ⟨.hbm, 246, rfl⟩

abbrev nD : Nat := 1
abbrev τ : Topo := Topo.v7x

variable {F : FTy → Type} [FloatOps F]
-- ==== Proof.Base.lean ====
/-
  The SparseCore call's setting: the launch's records, the arrays and their rows, and what the call hands each tile.

  Tile `(c, s)` (SparseCore `c` of two, vector subcore `s` of sixteen) works on row `2·s + c` of the 32 rows of the
  address array and of the output array; it reads the whole table.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch sees it -/

abbrev ΛP : Labels := Pipeline.Sig (Λ₀ F) (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.nat
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resources: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The three arrays of the call -/

/-- The table, the addresses and the gathered output, as locations of device `d`. -/
abbrev tabLoc (d : Dev nD) : Loc nD τ sig := (SparseCore.T d).loc main_v58
abbrev adrLoc (d : Dev nD) : Loc nD τ sig := (SparseCore.T d).loc main_v68
abbrev outLoc (d : Dev nD) : Loc nD τ sig := (SparseCore.T d).loc main_v69

/-- The place of the table a word addresses. -/
def tabIx (w : BitVec 32) : S41024.Idx := fun a => ⟨w.toNat % S41024.size a, Nat.mod_lt _ (by decide +revert)⟩

/-- What the call computes: at each place the table's word at the address found there. -/
def gathered {d : Dev nD} (tb : Buf (Elt F) (tabLoc d)) (ad : Buf (Elt F) (adrLoc d)) : Buf (Elt F) (outLoc d) :=
  fun x => tb (tabIx (ad x))

local notation "tabW" => (Memref.whole Cert.KernelIdeal.main_v58_scv : Memref Cert.KernelIdeal.sig Kind.scVector Space.hbm Cert.KernelIdeal.S41024 EltTy.f32)
local notation "adrW" => (Memref.whole Cert.KernelIdeal.main_v68_scv : Memref Cert.KernelIdeal.sig Kind.scVector Space.hbm Cert.KernelIdeal.S32x20480 EltTy.i32)
local notation "outW" => (Memref.whole Cert.KernelIdeal.main_v69_scv : Memref Cert.KernelIdeal.sig Kind.scVector Space.hbm Cert.KernelIdeal.S32x20480 EltTy.f32)

theorem hdiv : 32 ∣ S32x20480.size 0 := ⟨1, rfl⟩
/-- Row `w` of the 32 rows, as a rectangle of the array. -/
abbrev row (w : Fin 32) : Rect S32x20480 := Rect.part (s := S32x20480) (a₀ := 0) hdiv w
abbrev rowSet (w : Fin 32) : Finset S32x20480.Idx := (row w).set

/-- The row a tile works on. -/
def wid (c : Fin 2) (s : Fin 16) : Fin 32 := ⟨2 * s.val + c.val, by omega⟩

/-- A tile's number is its SparseCore and its subcore. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_) <;> simp only [wid] <;> omega
  right_inv w := Fin.ext (by simp only [wid]; omega)

/-! ## What the handshakes carry -/

variable (TB : (d : Dev nD) → Buf (Elt F) (tabLoc d)) (AD : (d : Dev nD) → Buf (Elt F) (adrLoc d))
  (O0 : (d : Dev nD) → Buf (Elt F) (outLoc d))

/-- The read share of the table of tile number `w`. -/
abbrev tq (w : ℕ) : PosShare TreeShare := Transfers.shareTokN fullShare w

/-- Tile `w`'s operands: its read share of the table, its row of addresses, its row of the output at `o`. -/
def piece (o : (d : Dev nD) → Buf (Elt F) (outLoc d)) (d : Dev nD) (w : Fin 32) : sProp 𝕄 :=
  iprop((tabLoc d ↦{tq w.val} TB d) ∗ (adrLoc d ↦[rowSet w]{fullShare} AD d) ∗ outLoc d ↦[rowSet w]{fullShare} o d)

instance piece_storable (o : (d : Dev nD) → Buf (Elt F) (outLoc d)) (d : Dev nD) (w : Fin 32) :
    BI.Storable (upEmb : UEmb _ 𝕄) (piece TB AD o d w) := by unfold piece; infer_instance

/-- The output after the call. -/
abbrev OT (d : Dev nD) : Buf (Elt F) (outLoc d) := gathered (TB d) (AD d)

theorem nSub_zero : (K (F := F)).nSub 0 = 16 := rfl
theorem nCore_zero : (K (F := F)).nCore 0 = 2 := rfl

/-- A SparseCore takes its tiles' operands and brings them back with the rows gathered. -/
def P : (K (F := F)).Pay (nD := nD) (Val := Elt F) (Name := ℕ) (U := UU) where
  st := fun q d c => match q with
    | 0 => bigSep Finset.univ fun s : Fin 16 => piece TB AD O0 d (wid (Fin.cast nCore_zero c) s)
  dn := fun q d c => match q with
    | 0 => bigSep Finset.univ fun s : Fin 16 => piece TB AD (OT TB AD) d (wid (Fin.cast nCore_zero c) s)
  go := fun q d c i => match q with | 0 => piece TB AD O0 d (wid (Fin.cast nCore_zero c) (Fin.cast nSub_zero i))
  td := fun q d c i => match q with | 0 => piece TB AD (OT TB AD) d (wid (Fin.cast nCore_zero c) (Fin.cast nSub_zero i))
  x := fun _ _ => iprop(emp)

instance P_storable : (P TB AD O0).IsStorable where
  st q d c := match q with
    | 0 => (inferInstance : BI.Storable (upEmb : UEmb _ 𝕄) (bigSep Finset.univ fun s : Fin 16 => piece TB AD O0 d (wid (Fin.cast nCore_zero c) s)))
  dn q d c := match q with
    | 0 => (inferInstance : BI.Storable (upEmb : UEmb _ 𝕄) (bigSep Finset.univ fun s : Fin 16 => piece TB AD (OT TB AD) d (wid (Fin.cast nCore_zero c) s)))
  go q d c i := match q with
    | 0 => (inferInstance : BI.Storable (upEmb : UEmb _ 𝕄) (piece TB AD O0 d (wid (Fin.cast nCore_zero c) (Fin.cast nSub_zero i))))
  td q d c i := match q with
    | 0 => (inferInstance : BI.Storable (upEmb : UEmb _ 𝕄) (piece TB AD (OT TB AD) d (wid (Fin.cast nCore_zero c) (Fin.cast nSub_zero i))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles'. -/
theorem vecSplit : (K (F := F)).VecSplit' (P TB AD O0) 0 := by
  intro d c
  show (bigSep Finset.univ fun s : Fin 16 => piece TB AD O0 d (wid (Fin.cast nCore_zero c) s)) ⊢ |={Set.univ}=> iprop(
      (bigSep Finset.univ fun i : Fin ((K (F := F)).nSub 0) => piece TB AD O0 d (wid (Fin.cast nCore_zero c) (Fin.cast nSub_zero i)))
      ∗ ((bigSep Finset.univ fun i : Fin ((K (F := F)).nSub 0) => piece TB AD (OT TB AD) d (wid (Fin.cast nCore_zero c) (Fin.cast nSub_zero i)))
          -∗ bigSep Finset.univ fun s : Fin 16 => piece TB AD (OT TB AD) d (wid (Fin.cast nCore_zero c) s)))
  rw [bigSep_tasks (F := F) (fun s => piece TB AD O0 d (wid (Fin.cast nCore_zero c) s)),
    bigSep_tasks (F := F) (fun s => piece TB AD (OT TB AD) d (wid (Fin.cast nCore_zero c) s))]
  iintro H; imodintro
  isplitl [H]; · iexact H
  iintro H; iexact H

/-! ## The whole arrays are the tiles' pieces -/

theorem rows_disjoint : ∀ i ∈ (Finset.univ : Finset (Fin 32)), ∀ j ∈ (Finset.univ : Finset (Fin 32)), i ≠ j → Disjoint (rowSet i) (rowSet j) :=
  fun i _ j _ h => Rect.part_disjoint hdiv h
theorem rows_cover : (Finset.univ : Finset (Fin 32)).biUnion rowSet = Finset.univ := Rect.biUnion_part hdiv

theorem adr_rows (d : Dev nD) (f : Buf (Elt F) (adrLoc d)) :
    (adrLoc d ↦{fullShare} f : sProp 𝕄) = bigSep Finset.univ fun w : Fin 32 => adrLoc d ↦[rowSet w]{fullShare} f := by
  rw [← pointsTo_biUnion Finset.univ (ℓ := adrLoc d) rowSet rows_disjoint, rows_cover]; try rfl
theorem out_rows (d : Dev nD) (f : Buf (Elt F) (outLoc d)) :
    (outLoc d ↦{fullShare} f : sProp 𝕄) = bigSep Finset.univ fun w : Fin 32 => outLoc d ↦[rowSet w]{fullShare} f := by
  rw [← pointsTo_biUnion Finset.univ (ℓ := outLoc d) rowSet rows_disjoint, rows_cover]; try rfl
theorem tab_shares (d : Dev nD) (f : Buf (Elt F) (tabLoc d)) :
    (tabLoc d ↦{fullShare} f : sProp 𝕄)
      = iprop((tabLoc d ↦{Transfers.shareDrop fullShare 32} f) ∗ bigSep Finset.univ fun w : Fin 32 => tabLoc d ↦{tq w.val} f) :=
  BI.Entails.antisymm (Transfers.pointsTo_toks_split (ℓ := tabLoc d) fullShare 32) (Transfers.pointsTo_toks_join (ℓ := tabLoc d) fullShare 32)

/-- The two SparseCores' operands together are all 32 tiles'. -/
theorem cores_pieces (o : (d : Dev nD) → Buf (Elt F) (outLoc d)) (d : Dev nD) :
    (bigSep Finset.univ fun c : Fin 2 => bigSep Finset.univ fun s : Fin 16 => piece TB AD o d (wid c s))
      = bigSep Finset.univ fun w : Fin 32 => piece TB AD o d w := by
  rw [bigSep_univ_equiv widEquiv (fun w : Fin 32 => piece TB AD o d w), BI.bigSep_univ_prod]; rfl

/-- The three arrays whole are a kept read share of the table and every tile's operands. -/
theorem whole_pieces (o : (d : Dev nD) → Buf (Elt F) (outLoc d)) (d : Dev nD) :
    (iprop((tabLoc d ↦{fullShare} TB d) ∗ (adrLoc d ↦{fullShare} AD d) ∗ outLoc d ↦{fullShare} o d) : sProp 𝕄)
      = iprop((tabLoc d ↦{Transfers.shareDrop fullShare 32} TB d)
          ∗ bigSep Finset.univ fun c : Fin 2 => bigSep Finset.univ fun s : Fin 16 => piece TB AD o d (wid c s)) := by
  rw [cores_pieces]
  unfold piece
  rw [bigSep_sep', bigSep_sep', tab_shares, adr_rows, out_rows]
  exact BI.Entails.antisymm BI.sep_assoc BI.sep_assoc'

theorem st_eq (d : Dev nD) :
    (bigSep Finset.univ fun c : Fin ((K (F := F)).nCore 0) => (P TB AD O0).st 0 d c)
      = bigSep Finset.univ fun c : Fin 2 => bigSep Finset.univ fun s : Fin 16 => piece TB AD O0 d (wid c s) := rfl
theorem dn_eq (d : Dev nD) :
    (bigSep Finset.univ fun c : Fin ((K (F := F)).nCore 0) => (P TB AD O0).dn 0 d c)
      = bigSep Finset.univ fun c : Fin 2 => bigSep Finset.univ fun s : Fin 16 => piece TB AD (OT TB AD) d (wid c s) := rfl

end Cert.Proof.Sc

end
-- ==== Proof.Tile.lean ====
/-
  One tile's task, at a symbolic pair of SparseCore and vector subcore: the table and the tile's row of addresses are
  copied in, the row is gathered sixteen words at a time, and the gathered row is copied out.

  The loop's invariant carries the value: after `k` trips the first `16·k` words of the output scratch are the table's
  words at the addresses of the row.
-/
module

public import proofs.«01_k».proof.Proof.Base

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tabW" => (Memref.whole Cert.KernelIdeal.main_v58_scv : Memref Cert.KernelIdeal.sig Kind.scVector Space.hbm Cert.KernelIdeal.S41024 EltTy.f32)
local notation "adrW" => (Memref.whole Cert.KernelIdeal.main_v68_scv : Memref Cert.KernelIdeal.sig Kind.scVector Space.hbm Cert.KernelIdeal.S32x20480 EltTy.i32)
local notation "outW" => (Memref.whole Cert.KernelIdeal.main_v69_scv : Memref Cert.KernelIdeal.sig Kind.scVector Space.hbm Cert.KernelIdeal.S32x20480 EltTy.f32)
local notation "sT" => (Memref.whole Cert.KernelIdeal.cc1_scratch0 : Memref Cert.KernelIdeal.sig Kind.scVector Space.vmem Cert.KernelIdeal.S41024 EltTy.f32)
local notation "sA" => (Memref.whole Cert.KernelIdeal.cc1_scratch1 : Memref Cert.KernelIdeal.sig Kind.scVector Space.vmem Cert.KernelIdeal.S20480 EltTy.i32)
local notation "sO" => (Memref.whole Cert.KernelIdeal.cc1_scratch2 : Memref Cert.KernelIdeal.sig Kind.scVector Space.vmem Cert.KernelIdeal.S20480 EltTy.f32)

variable (TB : (d : Dev nD) → Buf (Elt F) (tabLoc d)) (AD : (d : Dev nD) → Buf (Elt F) (adrLoc d))
  (O0 : (d : Dev nD) → Buf (Elt F) (outLoc d))

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev wL (L : grid1.Coords) : Fin 32 := wid (Fin.cast bound_zero (L 0)) (Fin.cast bound_one (L 1))
abbrev VT : Thread nD τ := V d (cV L) (jV L)

abbrev rowK (L : grid1.Coords) : Rect S32x20480 := Rect.unit (s := S32x20480) (k1_off1 L) S1x20480.size (k1_off1_inb L)
abbrev adrRow (L : grid1.Coords) : Memref sig .scVector .hbm S20480 .i32 := ((adrW).slice (rowK L) (fun _ => rfl)).squeeze S20480 squeezes_S1x20480_S20480
abbrev outRow (L : grid1.Coords) : Memref sig .scVector .hbm S20480 .f32 := ((outW).slice (rowK L) (fun _ => rfl)).squeeze S20480 squeezes_S1x20480_S20480

/-- The row's first coordinate is the tile's number. -/
theorem off1_eq : k1_off1 L = ![(wL L).val, 0] := by
  exact k1_off1_eq L

theorem rowK_eq : rowK L = row (wL L) := by
  unfold rowK row Rect.part Rect.block
  congr 1 <;> funext a
  · rw [off1_eq]
    match a with
    | 0 => simp [Shape.partIx, Shape.partSize]
    | 1 => simp [Shape.partIx, Shape.partSize]
  · match a with
    | 0 => simp [Shape.partSize]
    | 1 => simp [Shape.partSize]

theorem set_adrRow : (adrRow L).view.set = rowSet (wL L) := by
  show (((adrW).view.slice (rowK L)).reshape S20480 squeezes_S1x20480_S20480.numel_eq).set = _
  rw [View.set_reshape, View.set_slice]
  exact Finset.map_refl.trans (rowK_eq L ▸ rfl)
theorem set_outRow : (outRow L).view.set = rowSet (wL L) := by
  show (((outW).view.slice (rowK L)).reshape S20480 squeezes_S1x20480_S20480.numel_eq).set = _
  rw [View.set_reshape, View.set_slice]
  exact Finset.map_refl.trans (rowK_eq L ▸ rfl)

abbrev cAcell : GSem nD τ sig := (VT d L, .dma cc1_scoped0.sem)
abbrev cXcell : GSem nD τ sig := (VT d L, .dma cc1_scoped1.sem)
abbrev cBcell : GSem nD τ sig := (VT d L, .dma cc1_scoped2.sem)

/-- The tile's three transfer semaphores are among its own scoped ones. -/
theorem ownSems0_V :
    (ownSems0 (VT d L) : sProp 𝕄)
      = iprop(semVal (cAcell d L) 0 ∗ semVal (cXcell d L) 0 ∗ semVal (cBcell d L) 0
          ∗ bigSep ((((ownCells (VT d L)).erase (cAcell d L)).erase (cXcell d L)).erase (cBcell d L)) fun g => semVal g 0) := by
  unfold SparseCore.Cfg.ownSems0
  rw [SparseCore.bigSep_erase' ((mem_ownCells (g := cAcell d L)).mpr ⟨rfl, by
      show (SemLoc.dma cc1_scoped0.sem : SemLoc sig).isScoped .scVector = true; decide⟩),
    SparseCore.bigSep_erase' (Finset.mem_erase.mpr ⟨by simp [cAcell, cXcell]; decide, (mem_ownCells (g := cXcell d L)).mpr ⟨rfl, by
      show (SemLoc.dma cc1_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d L)).mpr ⟨rfl, by show (SemLoc.dma cc1_scoped2.sem : SemLoc sig).isScoped .scVector = true; decide⟩⟩⟩)]

/-- The tile's three scratch buffers are among its own buffers. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The loop -/

/-- The tile's row of addresses. -/
def adrs (j : S20480.Idx) : BitVec 32 := AD d ((adrRow L).view.emb j)

/-- The gathered row. -/
def gath (j : S20480.Idx) : Elt F .f32 := TB d (tabIx (adrs AD d L j))

def inv (O : CellTallies nD τ sig (HIx 1)) (W : Waits sig (HIx 1)) (k : Nat) (_ : PUnit) : sProp 𝕄 :=
  iprop(Transfers.MayWaits (VT d L) (none : HIx 1) O
    ∗ ((sT).view.loc (VT d L) ↦{fullShare} TB d)
    ∗ ((sA).view.loc (VT d L) ↦{fullShare} adrs AD d L)
    ∗ ∃ f, ⌜∀ j : S20480.Idx, (j 0).val < 16 * k → f j = gath TB AD d L j⌝ ∗ ((sO).view.loc (VT d L) ↦{fullShare} f))

/-- The rectangle of trip `k`: words `16·k` to `16·k + 15` of a scratch. -/
abbrev rI (k : Fin k1_t1_loop.trips) : Rect S20480 := Rect.unit (s := S20480) (k1_off2 k) S16.size (k1_off2_inb k)
abbrev rO (k : Fin k1_t1_loop.trips) : Rect S20480 := Rect.unit (s := S20480) (k1_off3 k) S16.size (k1_off3_inb k)

/-- The sixteen addresses of trip `k`. -/
abbrev vI (k : Fin k1_t1_loop.trips) : IVec S16 32 :=
  (sA).view.readAt (Elt F) (rI k).toLoadRect (adrs AD d L)

theorem vI_apply (k : Fin k1_t1_loop.trips) (x : S16.Idx) : vI (F := F) AD d L k x = adrs AD d L ((rI k).emb x) := by
  show (sA).view.readAt (Elt F) (rI k).toLoadRect (adrs AD d L) x = _
  rw [View.readAt_apply]; rfl

/-- Every address of the trip is in the table. -/
theorem chk_vI (hAD : ∀ d i, (AD d i).toNat < 41024) (k : Fin k1_t1_loop.trips) : k1_chk1 (vI (F := F) AD d L k) := by
  intro a x
  obtain rfl : a = 0 := Subsingleton.elim _ _
  show (vI (F := F) AD d L k x).toNat < 41024
  rw [vI_apply]; exact hAD d _

theorem pts_access (f : Buf (Elt F) ((sT).view.loc (VT d L))) :
    (((sT).access (.whole S41024)).loc (VT d L) ↦{fullShare} f : sProp 𝕄) = ((sT).view.loc (VT d L) ↦{fullShare} f) := rfl

/-- The sixteen words gathered at trip `k`, spelt as the indexed load returns them. -/
abbrev vG (k : Fin k1_t1_loop.trips) (hk : k1_chk1 (vI (F := F) AD d L k)) : Vec F S16 .f32 :=
  loadIdx (((sT).access (.whole S41024)).read (Elt F) (TB d)) ![vI (F := F) AD d L k] (k1_idx1_inb _ hk)

theorem vG_apply (k : Fin k1_t1_loop.trips) (hk : k1_chk1 (vI (F := F) AD d L k)) (x : S16.Idx) :
    vG TB AD d L k hk x = gath TB AD d L ((rO k).emb x) := by
  have h1 : (vI (F := F) AD d L k x).toNat < 41024 := hk 0 x
  have e : (rO k).emb x = (rI k).emb x := by
    funext a; apply Fin.ext
    show k1_off3 k a + 1 * _ = k1_off2 k a + 1 * _
    rw [k1_off3_eq, k1_off2_eq]
  rw [e]
  show ((sT).access (.whole S41024)).read (Elt F) (TB d) (fun a => ⟨_, _⟩) = TB d (tabIx _)
  rw [View.read_apply, ← vI_apply AD d L k x]
  refine (cast_eq _ _).trans (congrArg (TB d) ?_)
  funext (a : Fin 1); apply Fin.ext
  obtain rfl : a = 0 := Subsingleton.elim _ _
  show 0 + 1 * (vI (F := F) AD d L k x).toNat = (vI (F := F) AD d L k x).toNat % 41024
  rw [Nat.mod_eq_of_lt h1]; omega

/-- One trip's store extends the gathered prefix by sixteen words. -/
theorem step_val (k : Fin k1_t1_loop.trips) (hk : k1_chk1 (vI (F := F) AD d L k))
    (f : Buf (Elt F) ((sO).view.loc (VT d L)))
    (hf : ∀ j : S20480.Idx, (j 0).val < 16 * k.val → f j = gath TB AD d L j) (j : S20480.Idx) (hj : (j 0).val < 16 * (k.val + 1)) :
    (sO).view.writes (Elt F) f [⟨rO k, vG TB AD d L k hk⟩] j = gath TB AD d L j := by
  have hr : ∀ g : Buf (Elt F) ((sO).view.loc (VT d L)), (sO).view.read (Elt F) g j = g j := fun g => View.read_apply _ _
  refine (hr _).symm.trans ?_
  rcases Classical.em ((j 0).val < 16 * k.val) with h | h
  · rw [View.read_writes_cons_miss_of_axis (sO).view f _ [] j 0 (16 * k.val) 16 (by
      show k1_off3 k 0 = _; rw [k1_off3_eq]; rfl) rfl rfl (.inl h)]
    exact (hr f).trans (hf j h)
  · refine (View.read_writes_cons_hit_of_coords (sO).view f (rO k) _ [] (fun a => ⟨(j 0).val - 16 * k.val, by
      match a with | 0 => show (j 0).val - 16 * k.val < 16; omega⟩) j ?_).trans ?_
    · intro (a : Fin 1)
      obtain rfl : a = 0 := Subsingleton.elim _ _
      show (j 0).val = k1_off3 k 0 + 1 * ((j 0).val - 16 * k.val)
      rw [k1_off3_eq]
      show (j 0).val = 16 * k.val + 1 * ((j 0).val - 16 * k.val)
      omega
    · rw [vG_apply]
      congr 1
      funext (a : Fin 1); apply Fin.ext
      obtain rfl : a = 0 := Subsingleton.elim _ _
      show k1_off3 k 0 + 1 * ((j 0).val - 16 * k.val) = (j 0).val
      rw [k1_off3_eq]
      show 16 * k.val + 1 * ((j 0).val - 16 * k.val) = (j 0).val
      omega

/-- The copy out leaves the row of the output gathered. -/
theorem out_val (f : Buf (Elt F) ((sO).view.loc (VT d L))) (pay : S20480.Idx → Elt F .f32)
    (hp : ∀ j, pay j = gath TB AD d L j) (i) (hi : i ∈ (outRow L).view.set) :
    (outRow L).view.writes (Elt F) (O0 d) [⟨Rect.whole S20480, pay⟩] i = OT TB AD d i := by
  obtain ⟨j, -, rfl⟩ := Finset.mem_map.mp hi
  have hr : ∀ g : Buf (Elt F) ((outRow L).view.loc (VT d L)), (outRow L).view.read (Elt F) g j = g ((outRow L).view.emb j) :=
    fun g => (View.read_apply _ _).trans (cast_eq _ _)
  refine (hr _).symm.trans ?_
  rw [View.read_writes_whole, hp]
  rfl

set_option maxHeartbeats 1600000 in
theorem tile_run (hAD : ∀ d i, (AD d i).toNat < 41024) (O : CellTallies nD τ sig (HIx 1)) (W : Waits sig (HIx 1))
    (f0 : Buf (Elt F) ((sT).view.loc (VT d L))) (f1 : Buf (Elt F) ((sA).view.loc (VT d L))) (f2 : Buf (Elt F) ((sO).view.loc (VT d L))) :
    (iprop(Transfers.MayWaits (VT d L) (none : HIx 1) O
        ∗ ((tabW).view.loc (VT d L) ↦{tq (wL L).val} TB d)
        ∗ ((adrRow L).view.loc (VT d L) ↦[(adrRow L).view.set]{fullShare} AD d)
        ∗ ((outRow L).view.loc (VT d L) ↦[(outRow L).view.set]{fullShare} O0 d)
        ∗ ((sT).view.loc (VT d L) ↦{fullShare} f0)
        ∗ ((sA).view.loc (VT d L) ↦{fullShare} f1)
        ∗ ((sO).view.loc (VT d L) ↦{fullShare} f2)
        ∗ semVal (cAcell d L) 0 ∗ semVal (cXcell d L) 0 ∗ semVal (cBcell d L) 0
        ∗ owes (VT d L) O W) : sProp 𝕄)
      ⊢ wp frame (wpE (defs₀ (F := F)) 𝒱₀ (VT d L) none) Set.univ
          (cc1_gk L tabW (Memref.isWhole_whole _) adrW (Memref.isWhole_whole _) outW (Memref.isWhole_whole _)
            sT (Memref.isWhole_whole _) sA (Memref.isWhole_whole _) sO (Memref.isWhole_whole _) cc1_scoped0 cc1_scoped1 cc1_scoped2)
          fun _ => iprop(((tabW).view.loc (VT d L) ↦{tq (wL L).val} TB d)
            ∗ ((adrRow L).view.loc (VT d L) ↦[(adrRow L).view.set]{fullShare} AD d)
            ∗ ((outRow L).view.loc (VT d L) ↦[(outRow L).view.set]{fullShare} OT TB AD d)
            ∗ (∃ f, (sT).view.loc (VT d L) ↦{fullShare} f)
            ∗ (∃ f, (sA).view.loc (VT d L) ↦{fullShare} f)
            ∗ (∃ f, (sO).view.loc (VT d L) ↦{fullShare} f)
            ∗ semVal (cAcell d L) 0 ∗ semVal (cXcell d L) 0 ∗ semVal (cBcell d L) 0
            ∗ ∃ W', ⌜∀ p ∈ W', p ∈ W ∨ p.2 = none⌝ ∗ owes (VT d L) O W') := by
  iintro ⟨#Hmw, Htab, Hadr, Hout, HsT, HsA, HsO, HcA, HcX, HcB, HO⟩
  rw [cc1_gk_eq_skeleton]
  sl_unfold [cc1_gk_skel]
  sl_exec
  have hT : View.write (Elt F) (sT).view f0 (tile_run.sl.dma0 TB d) Finset.univ = TB d := by
    exact View.write_whole_univ _ _ _
  have hA : View.write (Elt F) (sA).view f1 (tile_run.sl.dma0_1 AD d L) Finset.univ = adrs AD d L := by
    refine (View.write_whole_univ _ _ _).trans ?_
    funext j
    exact (View.read_apply _ _).trans (cast_eq _ _)
  rw [hT, hA]
  sl_for (inv TB AD d L O W) $$ [Hmw HsT HsA HsO]
  case region =>
    intro k _
    unfold inv
    iintro ⟨#Hmw, HsT, HsA, %f, %hf, HsO⟩
    have hk := chk_vI AD d L hAD k
    sl_exec
    ihave HsT' := (Entails.of_eq (pts_access (F := F) d L _).symm) $$ HsT
    iapply (SparseCore.wp_vectorLoadIdx 𝒱₀ (VT d L) none Set.univ (base := sT) (S := Finset.univ) (q := fullShare) (Finset.subset_univ _)) $$ HsT'
    iintro HsT'
    ihave HsT := (Entails.of_eq (pts_access (F := F) d L _)) $$ HsT'
    sl_exec
    sl_step
    isplitr; · iexact Hmw
    isplitl [HsT]; · iexact HsT
    isplitl [HsA]; · iexact HsA
    iexists _
    isplitr
    rotate_left
    · iexact HsO
    · ipureintro
      intro j hj
      exact step_val TB AD d L k hk f hf j hj
  · unfold inv
    isplitr; · iexact Hmw
    isplitl [HsT]; · iexact HsT
    isplitl [HsA]; · iexact HsA
    iexists f2
    isplitr
    · ipureintro; intro j hj; omega
    · iexact HsO
  iintro %_ HI
  unfold inv
  icases HI with ⟨-, HsT, HsA, %f, %hf, HsO⟩
  sl_exec
  have hout := out_val TB AD O0 d L f (tile_run.sl.dma0_2 d L f) fun j =>
    (View.read_apply _ _).trans (hf j (show (j 0).val < 20480 from (j 0).isLt))
  sl_step
  isplitl [Htab]; · iexact Htab
  isplitl [Hadr]; · iexact Hadr
  isplitl [Hout]
  · iapply (Entails.of_eq (pointsTo_congr hout)); iexact Hout
  isplitl [HsT]; · iexists _; iexact HsT
  isplitl [HsA]; · iexists _; iexact HsA
  isplitl [HsO]; · iexists _; iexact HsO
  isplitl [HcA]; · iexact HcA
  isplitl [HcX]; · iexact HcX
  isplitl [HcB]; · iexact HcB
  iexists _; isplitr
  rotate_left
  · iexact HO
  · ipureintro; intro p hp
    simp only [Finset.mem_insert] at hp
    rcases hp with rfl | rfl | rfl | hp
    · exact .inr rfl
    · exact .inr rfl
    · exact .inr rfl
    · exact .inl hp

theorem pts_adrRow (f : Buf (Elt F) (adrLoc d)) :
    ((adrRow L).view.loc (VT d L) ↦[(adrRow L).view.set]{fullShare} f : sProp 𝕄) = adrLoc d ↦[rowSet (wL L)]{fullShare} f := by
  rw [set_adrRow]
theorem pts_outRow (f : Buf (Elt F) (outLoc d)) :
    ((outRow L).view.loc (VT d L) ↦[(outRow L).view.set]{fullShare} f : sProp 𝕄) = outLoc d ↦[rowSet (wL L)]{fullShare} f := by
  rw [set_outRow]

/-- The task, from what the launch hands the tile to what it hands back. -/
theorem tile_body (hF : (K (F := F)).Facts) (hAD : ∀ d i, (AD d i).toNat < 41024) (O : CellTallies nD τ sig (HIx 1)) (W : Waits sig (HIx 1))
    (hO : ∀ g, O g none = 0) :
    iprop(levAts (K (F := F)).L (K (F := F)).lev ∗ emp ∗ piece TB AD O0 d (wL L)
        ∗ scopedBufs (VT d L) ∗ scopedSems0 (VT d L) ∗ owes (VT d L) O W)
      ⊢ wp frame (wpE (defs₀ (F := F)) 𝒱₀ (VT d L) none) Set.univ
          (cc1_gk L tabW (Memref.isWhole_whole _) adrW (Memref.isWhole_whole _) outW (Memref.isWhole_whole _)
            sT (Memref.isWhole_whole _) sA (Memref.isWhole_whole _) sO (Memref.isWhole_whole _) cc1_scoped0 cc1_scoped1 cc1_scoped2)
          fun _ => iprop(piece TB AD (OT TB AD) d (wL L) ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  unfold piece
  iintro ⟨#Hlv, -, ⟨Htab, Hadr, Hout⟩, ⟨⟨%f0, HsT⟩, ⟨%f1, HsA⟩, ⟨%f2, HsO⟩, Hbufs⟩, ⟨HcA, HcX, HcB, Hsems⟩, HO⟩
  ihave Hmw := ((K (F := F)).mayWaits_none (thr := VT d L) hO) $$ Hlv
  ihave Hadr' := (Entails.of_eq (pts_adrRow (F := F) d L _).symm) $$ Hadr
  ihave Hout' := (Entails.of_eq (pts_outRow (F := F) d L _).symm) $$ Hout
  iapply (wp_wand_r Idealize.ShloMosaic.frame (wpE (defs₀ (F := F)) 𝒱₀ (VT d L) none) Set.univ)
  isplitl [Hmw Htab Hadr' Hout' HsT HsA HsO HcA HcX HcB HO]
  · iapply (tile_run TB AD O0 d L hAD O W f0 f1 f2)
    isplitl [Hmw]; · iexact Hmw
    isplitl [Htab]; · iexact Htab
    isplitl [Hadr']; · iexact Hadr'
    isplitl [Hout']; · iexact Hout'
    isplitl [HsT]; · iexact HsT
    isplitl [HsA]; · iexact HsA
    isplitl [HsO]; · iexact HsO
    isplitl [HcA]; · iexact HcA
    isplitl [HcX]; · iexact HcX
    isplitl [HcB]; · iexact HcB
    iexact HO
  iintro %_ ⟨Htab, Hadr', Hout', ⟨%g0, HsT⟩, ⟨%g1, HsA⟩, ⟨%g2, HsO⟩, HcA, HcX, HcB, HO⟩
  isplitl [Htab Hadr' Hout']
  · isplitl [Htab]; · iexact Htab
    isplitl [Hadr']; · iapply (Entails.of_eq (pts_adrRow (F := F) d L _)); iexact Hadr'
    iapply (Entails.of_eq (pts_outRow (F := F) d L _)); iexact Hout'
  isplitl [HsT HsA HsO Hbufs]
  · isplitl [HsT]; · iexists _; iexact HsT
    isplitl [HsA]; · iexists _; iexact HsA
    isplitl [HsO]; · iexists _; iexact HsO
    iexact Hbufs
  isplitl [HcA HcX HcB Hsems]
  · isplitl [HcA]; · iexact HcA
    isplitl [HcX]; · iexact HcX
    isplitl [HcB]; · iexact HcB
    iexact Hsems
  iexact HO

/-! ## The launch's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1_gk (coordsV c s)
          tabW (Memref.isWhole_whole _) adrW (Memref.isWhole_whole _) outW (Memref.isWhole_whole _)
          sT (Memref.isWhole_whole _) sA (Memref.isWhole_whole _) sO (Memref.isWhole_whole _) cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hAD : ∀ d i, (AD d i).toNat < 41024) : (K (F := F)).TileObl (D (F := F)) 𝒱 (P TB AD O0) v₀ 0 := by
  intro d c i O W hO _ _
  simp only [show (P TB AD O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body TB AD O0 d (coordsV ⟨_, hci.1⟩ ⟨_, hci.2⟩) hF hAD O W hO).trans (wp_mono frame _ _ fun _ => obl_post)

end Cert.Proof.Sc

end
-- ==== Proof.Ops.lean ====
/-
  @main of the kernel as lists of host operations with the calls between them, and what each list reads and writes.
-/
module

public import proofs.«01_k».proof.Proof.Base
public import Idealize.ShloMosaic.Lib.Pipeline.Frame

@[expose] public section

set_option maxRecDepth 16384

noncomputable section

namespace Cert.Proof.Sc

open Cert.KernelIdeal Cert.KernelIdeal.Gen

open Idealize.ShloMosaic
open Idealize.ShloMosaic.StableHlo (seq tcRefs forall_writes_sub_of_map)
open Idealize.ShloMosaic.Pipeline (ucRefs sub_ucRefs)
open Idealize.SL Idealize.SL.Sem

variable {F : FTy → Type} [FloatOps F] [Named F]

/-- The host operations before the first call. -/
def opsFst : List (HloOp τ sig (Elt F)) :=
  [StableHlo.nullary main_cst (fun i => FloatOps.ofBits .f32 (lit0 (S1x8.rowMajor i))),
   StableHlo.unary main_arg1 main_v0 (Host.negf : (⟨S5000, .f32⟩ : BufTy).Contents (Elt F) → (⟨S5000, .f32⟩ : BufTy).Contents (Elt F)),
   StableHlo.TRef.nullary (.of main_call0_v0 : StableHlo.TRef sig ⟨S5000, .i32⟩) (iotaInDim S5000 32 0),
   StableHlo.TRef.binary (.of main_v0 : StableHlo.TRef sig ⟨S5000, .f32⟩) (.of main_call0_v0 : StableHlo.TRef sig ⟨S5000, .i32⟩) (.of main_call0_v1_0 : StableHlo.TRef sig ⟨S5000, .f32⟩) (fun x y => (Host.sort2 S5000 0 comparator_f32_i32_d0 x y).1),
   StableHlo.TRef.binary (.of main_v0 : StableHlo.TRef sig ⟨S5000, .f32⟩) (.of main_call0_v0 : StableHlo.TRef sig ⟨S5000, .i32⟩) (.of main_v1 : StableHlo.TRef sig ⟨S5000, .i32⟩) (fun x y => (Host.sort2 S5000 0 comparator_f32_i32_d0 x y).2),
   StableHlo.nullary main_c (constantI S_ 32 0#32),
   StableHlo.unary main_c main_v2 (broadcastInDim S5000 ![] bcast_S_S5000 : (⟨S_, .i32⟩ : BufTy).Contents (Elt F) → (⟨S5000, .i32⟩ : BufTy).Contents (Elt F)),
   StableHlo.binary main_v1 main_v2 main_v3 (cmpi .slt : (⟨S5000, .i32⟩ : BufTy).Contents (Elt F) → (⟨S5000, .i32⟩ : BufTy).Contents (Elt F) → (⟨S5000, .i1⟩ : BufTy).Contents (Elt F)),
   StableHlo.nullary main_c_0 (constantI S_ 32 5000#32),
   StableHlo.unary main_c_0 main_v4 (broadcastInDim S5000 ![] bcast_S_S5000 : (⟨S_, .i32⟩ : BufTy).Contents (Elt F) → (⟨S5000, .i32⟩ : BufTy).Contents (Elt F)),
   StableHlo.binary main_v1 main_v4 main_v5 (addi : (⟨S5000, .i32⟩ : BufTy).Contents (Elt F) → (⟨S5000, .i32⟩ : BufTy).Contents (Elt F) → (⟨S5000, .i32⟩ : BufTy).Contents (Elt F)),
   StableHlo.ternary main_v3 main_v5 main_v1 main_v6 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
   StableHlo.unary main_v6 main_v7 (broadcastInDim S5000x1 ![0] bcast_S5000_S5000x1_0 : (⟨S5000, .i32⟩ : BufTy).Contents (Elt F) → (⟨S5000x1, .i32⟩ : BufTy).Contents (Elt F)),
   StableHlo.binary main_arg0 main_v7 main_v8 ((fun x i => Host.gather gather_S5000x7_S5000x1_S5000x7_1_0_n_n_0_1_17 x i) : (⟨S5000x7, .f32⟩ : BufTy).Contents (Elt F) → (⟨S5000x1, .i32⟩ : BufTy).Contents (Elt F) → (⟨S5000x7, .f32⟩ : BufTy).Contents (Elt F)),
   StableHlo.nullary main_c_1 (constantI S_ 32 0#32),
   StableHlo.unary main_c_1 main_v9 (broadcastInDim S5000 ![] bcast_S_S5000 : (⟨S_, .i32⟩ : BufTy).Contents (Elt F) → (⟨S5000, .i32⟩ : BufTy).Contents (Elt F)),
   StableHlo.binary main_v1 main_v9 main_v10 (cmpi .slt : (⟨S5000, .i32⟩ : BufTy).Contents (Elt F) → (⟨S5000, .i32⟩ : BufTy).Contents (Elt F) → (⟨S5000, .i1⟩ : BufTy).Contents (Elt F)),
   StableHlo.nullary main_c_2 (constantI S_ 32 5000#32),
   StableHlo.unary main_c_2 main_v11 (broadcastInDim S5000 ![] bcast_S_S5000 : (⟨S_, .i32⟩ : BufTy).Contents (Elt F) → (⟨S5000, .i32⟩ : BufTy).Contents (Elt F)),
   StableHlo.binary main_v1 main_v11 main_v12 (addi : (⟨S5000, .i32⟩ : BufTy).Contents (Elt F) → (⟨S5000, .i32⟩ : BufTy).Contents (Elt F) → (⟨S5000, .i32⟩ : BufTy).Contents (Elt F)),
   StableHlo.ternary main_v10 main_v12 main_v1 main_v13 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
   StableHlo.unary main_v13 main_v14 (broadcastInDim S5000x1 ![0] bcast_S5000_S5000x1_0 : (⟨S5000, .i32⟩ : BufTy).Contents (Elt F) → (⟨S5000x1, .i32⟩ : BufTy).Contents (Elt F)),
   StableHlo.binary main_arg1 main_v14 main_v15 ((fun x i => Host.gather gather_S5000_S5000x1_S5000_n_0_n_n_0_1_1 x i) : (⟨S5000, .f32⟩ : BufTy).Contents (Elt F) → (⟨S5000x1, .i32⟩ : BufTy).Contents (Elt F) → (⟨S5000, .f32⟩ : BufTy).Contents (Elt F)),
   StableHlo.nullary main_c_3 (constantI S_ 32 0#32),
   StableHlo.unary main_c_3 main_v16 (broadcastInDim S5000 ![] bcast_S_S5000 : (⟨S_, .i32⟩ : BufTy).Contents (Elt F) → (⟨S5000, .i32⟩ : BufTy).Contents (Elt F)),
   StableHlo.binary main_v1 main_v16 main_v17 (cmpi .slt : (⟨S5000, .i32⟩ : BufTy).Contents (Elt F) → (⟨S5000, .i32⟩ : BufTy).Contents (Elt F) → (⟨S5000, .i1⟩ : BufTy).Contents (Elt F)),
   StableHlo.nullary main_c_4 (constantI S_ 32 5000#32),
   StableHlo.unary main_c_4 main_v18 (broadcastInDim S5000 ![] bcast_S_S5000 : (⟨S_, .i32⟩ : BufTy).Contents (Elt F) → (⟨S5000, .i32⟩ : BufTy).Contents (Elt F)),
   StableHlo.binary main_v1 main_v18 main_v19 (addi : (⟨S5000, .i32⟩ : BufTy).Contents (Elt F) → (⟨S5000, .i32⟩ : BufTy).Contents (Elt F) → (⟨S5000, .i32⟩ : BufTy).Contents (Elt F)),
   StableHlo.ternary main_v17 main_v19 main_v1 main_v20 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
   StableHlo.unary main_v20 main_v21 (broadcastInDim S5000x1 ![0] bcast_S5000_S5000x1_0 : (⟨S5000, .i32⟩ : BufTy).Contents (Elt F) → (⟨S5000x1, .i32⟩ : BufTy).Contents (Elt F)),
   StableHlo.binary main_arg2 main_v21 main_v22 ((fun x i => Host.gather gather_S5000_S5000x1_S5000_n_0_n_n_0_1_1 x i) : (⟨S5000, .i32⟩ : BufTy).Contents (Elt F) → (⟨S5000x1, .i32⟩ : BufTy).Contents (Elt F) → (⟨S5000, .i32⟩ : BufTy).Contents (Elt F)),
   StableHlo.unary main_v22 main_v23 (sitofp .f32 : (⟨S5000, .i32⟩ : BufTy).Contents (Elt F) → (⟨S5000, .f32⟩ : BufTy).Contents (Elt F)),
   StableHlo.nullary main_cst_5 (constant S_ .f32 0x00000000#32),
   StableHlo.unary main_cst_5 main_v24 (broadcastInDim S5000 ![] bcast_S_S5000 : (⟨S_, .f32⟩ : BufTy).Contents (Elt F) → (⟨S5000, .f32⟩ : BufTy).Contents (Elt F)),
   StableHlo.unary main_v8 main_v25 ((extractStridedSlice S5000x1 ![0, 0] · slices_S5000x7_S5000x1_0_0) : (⟨S5000x7, .f32⟩ : BufTy).Contents (Elt F) → (⟨S5000x1, .f32⟩ : BufTy).Contents (Elt F)),
   StableHlo.reshape main_v25 main_v26 (rfl : (.f32 : EltTy) = .f32) shapeCasts_S5000x1_S5000,
   StableHlo.unary main_v8 main_v27 ((extractStridedSlice S5000x1 ![0, 1] · slices_S5000x7_S5000x1_0_1) : (⟨S5000x7, .f32⟩ : BufTy).Contents (Elt F) → (⟨S5000x1, .f32⟩ : BufTy).Contents (Elt F)),
   StableHlo.reshape main_v27 main_v28 (rfl : (.f32 : EltTy) = .f32) shapeCasts_S5000x1_S5000,
   StableHlo.unary main_v8 main_v29 ((extractStridedSlice S5000x1 ![0, 3] · slices_S5000x7_S5000x1_0_3) : (⟨S5000x7, .f32⟩ : BufTy).Contents (Elt F) → (⟨S5000x1, .f32⟩ : BufTy).Contents (Elt F)),
   StableHlo.reshape main_v29 main_v30 (rfl : (.f32 : EltTy) = .f32) shapeCasts_S5000x1_S5000,
   StableHlo.unary main_v8 main_v31 ((extractStridedSlice S5000x1 ![0, 4] · slices_S5000x7_S5000x1_0_4) : (⟨S5000x7, .f32⟩ : BufTy).Contents (Elt F) → (⟨S5000x1, .f32⟩ : BufTy).Contents (Elt F)),
   StableHlo.reshape main_v31 main_v32 (rfl : (.f32 : EltTy) = .f32) shapeCasts_S5000x1_S5000,
   StableHlo.unary main_v26 main_v33 (broadcastInDim S5000x1 ![0] bcast_S5000_S5000x1_0 : (⟨S5000, .f32⟩ : BufTy).Contents (Elt F) → (⟨S5000x1, .f32⟩ : BufTy).Contents (Elt F)),
   StableHlo.unary main_v28 main_v34 (broadcastInDim S5000x1 ![0] bcast_S5000_S5000x1_0 : (⟨S5000, .f32⟩ : BufTy).Contents (Elt F) → (⟨S5000x1, .f32⟩ : BufTy).Contents (Elt F)),
   StableHlo.unary main_v30 main_v35 (broadcastInDim S5000x1 ![0] bcast_S5000_S5000x1_0 : (⟨S5000, .f32⟩ : BufTy).Contents (Elt F) → (⟨S5000x1, .f32⟩ : BufTy).Contents (Elt F)),
   StableHlo.unary main_v32 main_v36 (broadcastInDim S5000x1 ![0] bcast_S5000_S5000x1_0 : (⟨S5000, .f32⟩ : BufTy).Contents (Elt F) → (⟨S5000x1, .f32⟩ : BufTy).Contents (Elt F)),
   StableHlo.unary main_v23 main_v37 (broadcastInDim S5000x1 ![0] bcast_S5000_S5000x1_0 : (⟨S5000, .f32⟩ : BufTy).Contents (Elt F) → (⟨S5000x1, .f32⟩ : BufTy).Contents (Elt F)),
   StableHlo.unary main_v15 main_v38 (broadcastInDim S5000x1 ![0] bcast_S5000_S5000x1_0 : (⟨S5000, .f32⟩ : BufTy).Contents (Elt F) → (⟨S5000x1, .f32⟩ : BufTy).Contents (Elt F)),
   StableHlo.unary main_v24 main_v39 (broadcastInDim S5000x1 ![0] bcast_S5000_S5000x1_0 : (⟨S5000, .f32⟩ : BufTy).Contents (Elt F) → (⟨S5000x1, .f32⟩ : BufTy).Contents (Elt F)),
   StableHlo.unary main_v24 main_v40 (broadcastInDim S5000x1 ![0] bcast_S5000_S5000x1_0 : (⟨S5000, .f32⟩ : BufTy).Contents (Elt F) → (⟨S5000x1, .f32⟩ : BufTy).Contents (Elt F)),
   StableHlo.nary ![main_v33, main_v34, main_v35, main_v36, main_v37, main_v38, main_v39, main_v40] main_v41 (fun u => (concatenate S5000x8 1 [⟨S5000x1, (u 0 : (⟨S5000x1, .f32⟩ : BufTy).Contents (Elt F))⟩, ⟨S5000x1, (u 1 : (⟨S5000x1, .f32⟩ : BufTy).Contents (Elt F))⟩, ⟨S5000x1, (u 2 : (⟨S5000x1, .f32⟩ : BufTy).Contents (Elt F))⟩, ⟨S5000x1, (u 3 : (⟨S5000x1, .f32⟩ : BufTy).Contents (Elt F))⟩, ⟨S5000x1, (u 4 : (⟨S5000x1, .f32⟩ : BufTy).Contents (Elt F))⟩, ⟨S5000x1, (u 5 : (⟨S5000x1, .f32⟩ : BufTy).Contents (Elt F))⟩, ⟨S5000x1, (u 6 : (⟨S5000x1, .f32⟩ : BufTy).Contents (Elt F))⟩, ⟨S5000x1, (u 7 : (⟨S5000x1, .f32⟩ : BufTy).Contents (Elt F))⟩] concatenates_S5000x1_S5000x1_S5000x1_S5000x1_S5000x1_S5000x1_S5000x1_S5000x1_S5000x8_d1 : (⟨S5000x8, .f32⟩ : BufTy).Contents (Elt F))),
   StableHlo.reshape main_cst main_v42 (rfl : (.f32 : EltTy) = .f32) shapeCasts_S1x8_S1x1x1x8,
   StableHlo.unary main_v42 main_v43 (broadcastInDim S120x1x1x8 ![0, 1, 2, 3] bcast_S1x1x1x8_S120x1x1x8_0_1_2_3 : (⟨S1x1x1x8, .f32⟩ : BufTy).Contents (Elt F) → (⟨S120x1x1x8, .f32⟩ : BufTy).Contents (Elt F)),
   StableHlo.reshape main_v43 main_v44 (rfl : (.f32 : EltTy) = .f32) shapeCasts_S120x1x1x8_S120x8,
   StableHlo.binary main_v41 main_v44 main_v45 ((fun a b => concatenate S5120x8 0 [⟨S5000x8, a⟩, ⟨S120x8, b⟩] concatenates_S5000x8_S120x8_S5120x8_d0) : (⟨S5000x8, .f32⟩ : BufTy).Contents (Elt F) → (⟨S120x8, .f32⟩ : BufTy).Contents (Elt F) → (⟨S5120x8, .f32⟩ : BufTy).Contents (Elt F)),
   StableHlo.unary main_v45 main_v46 ((transpose S8x5120 [1, 0] · transposes_S5120x8_S8x5120_1_0) : (⟨S5120x8, .f32⟩ : BufTy).Contents (Elt F) → (⟨S8x5120, .f32⟩ : BufTy).Contents (Elt F)),
   StableHlo.nullary main_cst_6 (constant S_ .f32 0x3E4CCCCD#32),
   StableHlo.unary main_cst_6 main_v47 (broadcastInDim S5000 ![] bcast_S_S5000 : (⟨S_, .f32⟩ : BufTy).Contents (Elt F) → (⟨S5000, .f32⟩ : BufTy).Contents (Elt F)),
   StableHlo.binary main_v15 main_v47 main_v48 (cmpf .ogt : (⟨S5000, .f32⟩ : BufTy).Contents (Elt F) → (⟨S5000, .f32⟩ : BufTy).Contents (Elt F) → (⟨S5000, .i1⟩ : BufTy).Contents (Elt F)),
   StableHlo.unary main_v48 main_v49 ((extui 32 · natLt_1_32) : (⟨S5000, .i1⟩ : BufTy).Contents (Elt F) → (⟨S5000, .i32⟩ : BufTy).Contents (Elt F)),
   StableHlo.nullary main_c_7 (constantI S_ 32 0#32),
   StableHlo.binary main_v49 main_c_7 main_v50 ((fun x v => Host.reduce IntOp.addi x v reducesTo_S5000_S_d0 h_S_) : (⟨S5000, .i32⟩ : BufTy).Contents (Elt F) → (⟨S_, .i32⟩ : BufTy).Contents (Elt F) → (⟨S_, .i32⟩ : BufTy).Contents (Elt F)),
   StableHlo.unary main_v50 main_v51 (broadcastInDim S1 ![] bcast_S_S1 : (⟨S_, .i32⟩ : BufTy).Contents (Elt F) → (⟨S1, .i32⟩ : BufTy).Contents (Elt F))]

/-- What they write. -/
abbrev wFst : List (Ref sig .tc) := [main_cst, main_v0, main_call0_v0, main_call0_v1_0, main_v1, main_c, main_v2, main_v3, main_c_0, main_v4, main_v5, main_v6, main_v7, main_v8, main_c_1, main_v9, main_v10, main_c_2, main_v11, main_v12, main_v13, main_v14, main_v15, main_c_3, main_v16, main_v17, main_c_4, main_v18, main_v19, main_v20, main_v21, main_v22, main_v23, main_cst_5, main_v24, main_v25, main_v26, main_v27, main_v28, main_v29, main_v30, main_v31, main_v32, main_v33, main_v34, main_v35, main_v36, main_v37, main_v38, main_v39, main_v40, main_v41, main_v42, main_v43, main_v44, main_v45, main_v46, main_cst_6, main_v47, main_v48, main_v49, main_c_7, main_v50, main_v51]

theorem fst_sub : (opsFst (F := F)).Forall fun op => op.bufs ⊆ tcRefs τ sig :=
  ⟨StableHlo.nullary_bufs_sub .., StableHlo.unary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.reshape_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub ..⟩
theorem fst_bufs : ∀ op ∈ opsFst (F := F), op.bufs ⊆ ucRefs τ sig :=
  fun op h => sub_ucRefs op (List.forall_iff_forall_mem.mp fst_sub op h)
theorem fst_fresh : ∀ op ∈ opsFst (F := F), op.fresh = ∅ :=
  List.forall_iff_forall_mem.mp (show (opsFst (F := F)).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
theorem fst_writes : (opsFst (F := F)).Forall fun op => op.writes ⊆ (wFst.map (Proc.devRef (τ := τ) .tc)).toFinset :=
  forall_writes_sub_of_map rfl

/-- The host operations between the suppression call and the SparseCore call. -/
def opsPre : List (HloOp τ sig (Elt F)) :=
  [StableHlo.nullary main_cst_8 (constant S_ .f32 0x00000000#32),
   StableHlo.unary main_cst_8 main_v53 (broadcastInDim S5128x8 ![] bcast_S_S5128x8 : (⟨S_, .f32⟩ : BufTy).Contents (Elt F) → (⟨S5128x8, .f32⟩ : BufTy).Contents (Elt F)),
   StableHlo.nullary main_c_9 (constantI S_ 32 0#32),
   StableHlo.unary main_c_9 main_v54 (broadcastInDim S1 ![] bcast_S_S1 : (⟨S_, .i32⟩ : BufTy).Contents (Elt F) → (⟨S1, .i32⟩ : BufTy).Contents (Elt F)),
   StableHlo.nullary main_c_10 (constantI S_ 32 0#32),
   StableHlo.unary main_c_10 main_v55 (broadcastInDim S1 ![] bcast_S_S1 : (⟨S_, .i32⟩ : BufTy).Contents (Elt F) → (⟨S1, .i32⟩ : BufTy).Contents (Elt F)),
   StableHlo.binary main_v54 main_v55 main_v56 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v53 main_v56 main_v8 main_v57 ((fun x i u => Host.scatter scatter_S5128x8_S2_S5000x7_01_n_01_0 (fun _ b => b) x i u) : (⟨S5128x8, .f32⟩ : BufTy).Contents (Elt F) → (⟨S2, .i32⟩ : BufTy).Contents (Elt F) → (⟨S5000x7, .f32⟩ : BufTy).Contents (Elt F) → (⟨S5128x8, .f32⟩ : BufTy).Contents (Elt F)),
   StableHlo.reshape main_v57 main_v58 (rfl : (.f32 : EltTy) = .f32) shapeCasts_S5128x8_S41024,
   StableHlo.reshape main_v52_1 main_v59 (rfl : (.i32 : EltTy) = .i32) shapeCasts_S5120x16_S81920x1,
   StableHlo.nullary main_c_11 (constantI S_ 32 8#32),
   StableHlo.unary main_c_11 main_v60 (broadcastInDim S81920x1 ![] bcast_S_S81920x1 : (⟨S_, .i32⟩ : BufTy).Contents (Elt F) → (⟨S81920x1, .i32⟩ : BufTy).Contents (Elt F)),
   StableHlo.binary main_v59 main_v60 main_v61 (muli : (⟨S81920x1, .i32⟩ : BufTy).Contents (Elt F) → (⟨S81920x1, .i32⟩ : BufTy).Contents (Elt F) → (⟨S81920x1, .i32⟩ : BufTy).Contents (Elt F)),
   StableHlo.nullary main_v62 (iotaInDim S8 32 0),
   StableHlo.unary main_v62 main_v63 (broadcastInDim S1x8 ![1] bcast_S8_S1x8_1 : (⟨S8, .i32⟩ : BufTy).Contents (Elt F) → (⟨S1x8, .i32⟩ : BufTy).Contents (Elt F)),
   StableHlo.unary main_v61 main_v64 (broadcastInDim S81920x8 ![0, 1] bcast_S81920x1_S81920x8_0_1 : (⟨S81920x1, .i32⟩ : BufTy).Contents (Elt F) → (⟨S81920x8, .i32⟩ : BufTy).Contents (Elt F)),
   StableHlo.unary main_v63 main_v65 (broadcastInDim S81920x8 ![0, 1] bcast_S1x8_S81920x8_0_1 : (⟨S1x8, .i32⟩ : BufTy).Contents (Elt F) → (⟨S81920x8, .i32⟩ : BufTy).Contents (Elt F)),
   StableHlo.binary main_v64 main_v65 main_v66 (addi : (⟨S81920x8, .i32⟩ : BufTy).Contents (Elt F) → (⟨S81920x8, .i32⟩ : BufTy).Contents (Elt F) → (⟨S81920x8, .i32⟩ : BufTy).Contents (Elt F)),
   StableHlo.reshape main_v66 main_v67 (rfl : (.i32 : EltTy) = .i32) shapeCasts_S81920x8_S655360,
   StableHlo.reshape main_v67 main_v68 (rfl : (.i32 : EltTy) = .i32) shapeCasts_S655360_S32x20480]

/-- What they write. -/
abbrev wPre : List (Ref sig .tc) := [main_cst_8, main_v53, main_c_9, main_v54, main_c_10, main_v55, main_v56, main_v57, main_v58, main_v59, main_c_11, main_v60, main_v61, main_v62, main_v63, main_v64, main_v65, main_v66, main_v67, main_v68]

theorem pre_sub : (opsPre (F := F)).Forall fun op => op.bufs ⊆ tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩
theorem pre_bufs : ∀ op ∈ opsPre (F := F), op.bufs ⊆ ucRefs τ sig :=
  fun op h => sub_ucRefs op (List.forall_iff_forall_mem.mp pre_sub op h)
theorem pre_fresh : ∀ op ∈ opsPre (F := F), op.fresh = ∅ :=
  List.forall_iff_forall_mem.mp (show (opsPre (F := F)).Forall fun op => op.fresh = ∅ from ⟨rfl, rfl, rfl, rfl, rfl, rfl, rfl, rfl, rfl, rfl, rfl, rfl, rfl, rfl, rfl, rfl, rfl, rfl, rfl, rfl⟩)
theorem pre_writes : (opsPre (F := F)).Forall fun op => op.writes ⊆ (wPre.map (Proc.devRef (τ := τ) .tc)).toFinset :=
  forall_writes_sub_of_map rfl

/-- The host operations between the SparseCore call and the merge call. -/
def opsMid : List (HloOp τ sig (Elt F)) :=
  [StableHlo.reshape main_v69 main_v70 (rfl : (.f32 : EltTy) = .f32) shapeCasts_S32x20480_S5120x128,
   StableHlo.nullary main_v71 (iotaInDim S8x8 32 0),
   StableHlo.nullary main_v72 (iotaInDim S8x8 32 1),
   StableHlo.nullary main_c_12 (constantI S_ 32 0#32),
   StableHlo.unary main_c_12 main_v73 (broadcastInDim S8x8 ![] bcast_S_S8x8 : (⟨S_, .i32⟩ : BufTy).Contents (Elt F) → (⟨S8x8, .i32⟩ : BufTy).Contents (Elt F)),
   StableHlo.binary main_v71 main_v73 main_v74 (addi : (⟨S8x8, .i32⟩ : BufTy).Contents (Elt F) → (⟨S8x8, .i32⟩ : BufTy).Contents (Elt F) → (⟨S8x8, .i32⟩ : BufTy).Contents (Elt F)),
   StableHlo.binary main_v74 main_v72 main_v75 (cmpi .eq : (⟨S8x8, .i32⟩ : BufTy).Contents (Elt F) → (⟨S8x8, .i32⟩ : BufTy).Contents (Elt F) → (⟨S8x8, .i1⟩ : BufTy).Contents (Elt F)),
   StableHlo.unary main_v75 main_v76 (uitofp .f32 : (⟨S8x8, .i1⟩ : BufTy).Contents (Elt F) → (⟨S8x8, .f32⟩ : BufTy).Contents (Elt F)),
   StableHlo.unary main_v76 main_v77 (broadcastInDim S1x8x8x1 ![1, 2] bcast_S8x8_S1x8x8x1_1_2 : (⟨S8x8, .f32⟩ : BufTy).Contents (Elt F) → (⟨S1x8x8x1, .f32⟩ : BufTy).Contents (Elt F)),
   StableHlo.unary main_arg3 main_v78 ((transpose S16x16 [1, 0] · transposes_S16x16_S16x16_1_0) : (⟨S16x16, .f32⟩ : BufTy).Contents (Elt F) → (⟨S16x16, .f32⟩ : BufTy).Contents (Elt F)),
   StableHlo.unary main_v78 main_v79 (broadcastInDim S16x1x1x16 ![0, 3] bcast_S16x16_S16x1x1x16_0_3 : (⟨S16x16, .f32⟩ : BufTy).Contents (Elt F) → (⟨S16x1x1x16, .f32⟩ : BufTy).Contents (Elt F)),
   StableHlo.unary main_v77 main_v80 (broadcastInDim S16x8x8x16 ![0, 1, 2, 3] bcast_S1x8x8x1_S16x8x8x16_0_1_2_3 : (⟨S1x8x8x1, .f32⟩ : BufTy).Contents (Elt F) → (⟨S16x8x8x16, .f32⟩ : BufTy).Contents (Elt F)),
   StableHlo.unary main_v79 main_v81 (broadcastInDim S16x8x8x16 ![0, 1, 2, 3] bcast_S16x1x1x16_S16x8x8x16_0_1_2_3 : (⟨S16x1x1x16, .f32⟩ : BufTy).Contents (Elt F) → (⟨S16x8x8x16, .f32⟩ : BufTy).Contents (Elt F)),
   StableHlo.binary main_v80 main_v81 main_v82 (mulf : (⟨S16x8x8x16, .f32⟩ : BufTy).Contents (Elt F) → (⟨S16x8x8x16, .f32⟩ : BufTy).Contents (Elt F) → (⟨S16x8x8x16, .f32⟩ : BufTy).Contents (Elt F)),
   StableHlo.reshape main_v82 main_v83 (rfl : (.f32 : EltTy) = .f32) shapeCasts_S16x8x8x16_S128x128,
   StableHlo.reshape main_arg4 main_v84 (rfl : (.f32 : EltTy) = .f32) shapeCasts_S16_S1x16,
   StableHlo.unary main_v84 main_v85 (broadcastInDim S8x16 ![0, 1] bcast_S1x16_S8x16_0_1 : (⟨S1x16, .f32⟩ : BufTy).Contents (Elt F) → (⟨S8x16, .f32⟩ : BufTy).Contents (Elt F)),
   StableHlo.reshape main_v85 main_v86 (rfl : (.f32 : EltTy) = .f32) shapeCasts_S8x16_S128,
   StableHlo.unary main_v86 main_v87 (broadcastInDim S1x128 ![1] bcast_S128_S1x128_1 : (⟨S128, .f32⟩ : BufTy).Contents (Elt F) → (⟨S1x128, .f32⟩ : BufTy).Contents (Elt F)),
   StableHlo.unary main_v76 main_v88 (broadcastInDim S8x1x8x1 ![0, 2] bcast_S8x8_S8x1x8x1_0_2 : (⟨S8x8, .f32⟩ : BufTy).Contents (Elt F) → (⟨S8x1x8x1, .f32⟩ : BufTy).Contents (Elt F)),
   StableHlo.unary main_arg5 main_v89 ((transpose S16x16 [1, 0] · transposes_S16x16_S16x16_1_0) : (⟨S16x16, .f32⟩ : BufTy).Contents (Elt F) → (⟨S16x16, .f32⟩ : BufTy).Contents (Elt F)),
   StableHlo.unary main_v89 main_v90 (broadcastInDim S1x16x1x16 ![1, 3] bcast_S16x16_S1x16x1x16_1_3 : (⟨S16x16, .f32⟩ : BufTy).Contents (Elt F) → (⟨S1x16x1x16, .f32⟩ : BufTy).Contents (Elt F)),
   StableHlo.unary main_v88 main_v91 (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)),
   StableHlo.unary main_v90 main_v92 (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)),
   StableHlo.binary main_v91 main_v92 main_v93 (mulf : (⟨S8x16x8x16, .f32⟩ : BufTy).Contents (Elt F) → (⟨S8x16x8x16, .f32⟩ : BufTy).Contents (Elt F) → (⟨S8x16x8x16, .f32⟩ : BufTy).Contents (Elt F)),
   StableHlo.reshape main_v93 main_v94 (rfl : (.f32 : EltTy) = .f32) shapeCasts_S8x16x8x16_S128x128,
   StableHlo.reshape main_arg6 main_v95 (rfl : (.f32 : EltTy) = .f32) shapeCasts_S16_S1x16,
   StableHlo.unary main_v95 main_v96 (broadcastInDim S8x16 ![0, 1] bcast_S1x16_S8x16_0_1 : (⟨S1x16, .f32⟩ : BufTy).Contents (Elt F) → (⟨S8x16, .f32⟩ : BufTy).Contents (Elt F)),
   StableHlo.reshape main_v96 main_v97 (rfl : (.f32 : EltTy) = .f32) shapeCasts_S8x16_S128,
   StableHlo.unary main_v97 main_v98 (broadcastInDim S1x128 ![1] bcast_S128_S1x128_1 : (⟨S128, .f32⟩ : BufTy).Contents (Elt F) → (⟨S1x128, .f32⟩ : BufTy).Contents (Elt F)),
   StableHlo.unary main_v76 main_v99 (broadcastInDim S8x1x8 ![0, 2] bcast_S8x8_S8x1x8_0_2 : (⟨S8x8, .f32⟩ : BufTy).Contents (Elt F) → (⟨S8x1x8, .f32⟩ : BufTy).Contents (Elt F)),
   StableHlo.reshape main_arg7 main_v100 (rfl : (.f32 : EltTy) = .f32) shapeCasts_S1x16_S16,
   StableHlo.unary main_v100 main_v101 (broadcastInDim S1x16x1 ![1] bcast_S16_S1x16x1_1 : (⟨S16, .f32⟩ : BufTy).Contents (Elt F) → (⟨S1x16x1, .f32⟩ : BufTy).Contents (Elt F)),
   StableHlo.unary main_v99 main_v102 (broadcastInDim S8x16x8 ![0, 1, 2] bcast_S8x1x8_S8x16x8_0_1_2 : (⟨S8x1x8, .f32⟩ : BufTy).Contents (Elt F) → (⟨S8x16x8, .f32⟩ : BufTy).Contents (Elt F)),
   StableHlo.unary main_v101 main_v103 (broadcastInDim S8x16x8 ![0, 1, 2] bcast_S1x16x1_S8x16x8_0_1_2 : (⟨S1x16x1, .f32⟩ : BufTy).Contents (Elt F) → (⟨S8x16x8, .f32⟩ : BufTy).Contents (Elt F)),
   StableHlo.binary main_v102 main_v103 main_v104 (mulf : (⟨S8x16x8, .f32⟩ : BufTy).Contents (Elt F) → (⟨S8x16x8, .f32⟩ : BufTy).Contents (Elt F) → (⟨S8x16x8, .f32⟩ : BufTy).Contents (Elt F)),
   StableHlo.reshape main_v104 main_v105 (rfl : (.f32 : EltTy) = .f32) shapeCasts_S8x16x8_S128x8,
   StableHlo.nullary main_c_13 (constantI S_ 32 0#32),
   StableHlo.TRef.unary (.of main_c_13 : StableHlo.TRef sig ⟨S_, .i32⟩) (.of main_call1_v0 : StableHlo.TRef sig ⟨S_, .f32⟩) (sitofp .f32),
   StableHlo.TRef.binary (.of main_v105 : StableHlo.TRef sig ⟨S128x8, .f32⟩) (.of main_call1_v0 : StableHlo.TRef sig ⟨S_, .f32⟩) (.of main_v106 : StableHlo.TRef sig ⟨S128x128, .f32⟩) (fun x v => pad S128x128 ![0, 0] ![0, 120] ![0, 0] x v pads_S128x8_S128x128_000_01200 h_S_),
   StableHlo.reshape main_arg8 main_v107 (rfl : (.f32 : EltTy) = .f32) shapeCasts_S1_S_,
   StableHlo.unary main_v107 main_v108 (broadcastInDim S1x128 ![] bcast_S_S1x128 : (⟨S_, .f32⟩ : BufTy).Contents (Elt F) → (⟨S1x128, .f32⟩ : BufTy).Contents (Elt F)),
   StableHlo.nullary main_c_14 (constantI S_ 32 0#32),
   StableHlo.TRef.unary (.of main_c_14 : StableHlo.TRef sig ⟨S_, .i32⟩) (.of main_call2_v0 : StableHlo.TRef sig ⟨S_, .f32⟩) (sitofp .f32),
   StableHlo.TRef.binary (.of main_v8 : StableHlo.TRef sig ⟨S5000x7, .f32⟩) (.of main_call2_v0 : StableHlo.TRef sig ⟨S_, .f32⟩) (.of main_v109 : StableHlo.TRef sig ⟨S5120x8, .f32⟩) (fun x v => pad S5120x8 ![0, 0] ![120, 1] ![0, 0] x v pads_S5000x7_S5120x8_01200_010 h_S_)]

/-- What they write. -/
abbrev wMid : List (Ref sig .tc) := [main_v70, main_v71, main_v72, main_c_12, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_c_13, main_call1_v0, main_v106, main_v107, main_v108, main_c_14, main_call2_v0, main_v109]

theorem mid_sub : (opsMid (F := F)).Forall fun op => op.bufs ⊆ tcRefs τ sig :=
  ⟨StableHlo.reshape_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub ..⟩
theorem mid_bufs : ∀ op ∈ opsMid (F := F), op.bufs ⊆ ucRefs τ sig :=
  fun op h => sub_ucRefs op (List.forall_iff_forall_mem.mp mid_sub op h)
theorem mid_fresh : ∀ op ∈ opsMid (F := F), op.fresh = ∅ :=
  List.forall_iff_forall_mem.mp (show (opsMid (F := F)).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
theorem mid_writes : (opsMid (F := F)).Forall fun op => op.writes ⊆ (wMid.map (Proc.devRef (τ := τ) .tc)).toFinset :=
  forall_writes_sub_of_map rfl

/-- The host operations after the last call. -/
def opsPost : List (HloOp τ sig (Elt F)) :=
  [StableHlo.unary main_v110 main_v111 ((extractStridedSlice S5000x7 ![0, 0] · slices_S5120x8_S5000x7_0_0) : (⟨S5120x8, .f32⟩ : BufTy).Contents (Elt F) → (⟨S5000x7, .f32⟩ : BufTy).Contents (Elt F))]

/-- What they write. -/
abbrev wPost : List (Ref sig .tc) := [main_v111]

theorem post_sub : (opsPost (F := F)).Forall fun op => op.bufs ⊆ tcRefs τ sig :=
  StableHlo.unary_bufs_sub ..
theorem post_bufs : ∀ op ∈ opsPost (F := F), op.bufs ⊆ ucRefs τ sig :=
  fun op h => sub_ucRefs op (List.forall_iff_forall_mem.mp post_sub op h)
theorem post_fresh : ∀ op ∈ opsPost (F := F), op.fresh = ∅ :=
  List.forall_iff_forall_mem.mp (show (opsPost (F := F)).Forall fun op => op.fresh = ∅ from rfl)
theorem post_writes : (opsPost (F := F)).Forall fun op => op.writes ⊆ (wPost.map (Proc.devRef (τ := τ) .tc)).toFinset :=
  forall_writes_sub_of_map rfl

set_option maxHeartbeats 4000000 in
/-- @main runs the lists in order, the calls between them. -/
theorem main_eq (d : Dev nD) : (main (F := F) d) = (seq opsFst >>= fun _ =>
      Prog.lift (.customCall (SparseCore.inner (Pipeline.entry 0)) ()) >>= fun _ => seq opsPre >>= fun _ =>
      sc.run d 0 >>= fun _ => seq opsMid >>= fun _ =>
      Prog.lift (.customCall (SparseCore.inner (Pipeline.entry 1)) ()) >>= fun _ => seq opsPost >>= fun _ => pure ⟨⟩) := by
  simp only [main, main_part0, main_part1, main_part2, fn_argsort.body, fn_pad.body, fn_pad_0.body, opsFst, opsPre, opsMid, opsPost, seq, bind_assoc, pure_bind]

end Cert.Proof.Sc

end
-- ==== Proof.Rows.lean ====
/-
  One row of the suppression kernel, with no program in sight: picking the first sixteen columns of a predicate, chunk of 512
  columns by chunk, one column a time.

  A row holds the marks of the chunk's columns still to be taken, the number of columns taken so far and the columns taken.
  A step takes the least marked column: its number joins the list, its mark is dropped, and once sixteen are taken every mark
  is. `RowInv` says where the row stands, `RowInv.step` that a step keeps it, `RowInv.done` what is known with no mark left.
-/
module

public import Idealize.ShloMosaic.PureOps
public import Idealize.ShloMosaic.PureOps.Reduce
public import Mathlib.Data.Nat.Count
public import Idealize.ShloMosaic.Lib.WordCmp
public import Mathlib.Data.Finset.Fold

@[expose] public section

noncomputable section

namespace Cert.Proof.Row

open Idealize.ShloMosaic
open scoped Classical

/-! ## What the words say -/

/-- The number of columns below `x` at which `q` holds, counted to sixteen. -/
def cnt (q : ℕ → Prop) (x : ℕ) : ℕ := min 16 (Nat.count q x)

/-- The `l`-th column at which `q` holds, of those below `x`; 5120 where there are fewer. -/
def slot (q : ℕ → Prop) : ℕ → ℕ → ℕ
  | 0, _ => 5120
  | x + 1, l => if q x ∧ Nat.count q x = l then x else slot q x l

theorem slot_le (q : ℕ → Prop) (x l : ℕ) (hx : x ≤ 5120) : slot q x l ≤ 5120 := by
  induction x with
  | zero => exact le_rfl
  | succ x ih =>
    unfold slot
    split
    · omega
    · exact ih (by omega)

theorem slot_stop {q : ℕ → Prop} {x y l : ℕ} (h : x ≤ y) (hq : ∀ z, x ≤ z → z < y → ¬ (q z ∧ Nat.count q z = l)) :
    slot q y l = slot q x l := by
  induction y, h using Nat.le_induction with
  | base => rfl
  | succ y hy ih =>
    rw [slot, if_neg (hq y hy (Nat.lt_succ_self y))]
    exact ih fun z h1 h2 => hq z h1 (Nat.lt_succ_of_lt h2)

theorem cnt_le (q : ℕ → Prop) (x : ℕ) : cnt q x ≤ 16 := min_le_left _ _

/-! ## The least marked column, as a word -/

/-- The minimum over a chunk's columns of the column numbers at the marks, `2 ^ 30` elsewhere. -/
def least (c0 : BitVec 32) (w : Fin 512 → BitVec 32) : BitVec 32 :=
  Finset.fold IntOp.minsi (2147483647#32)
    (fun x => Scalar.select (IntOp.cmpi .sgt (w x) 0#32) (IntOp.addi c0 (BitVec.ofNat 32 x.val)) 1073741824#32) Finset.univ

theorem minsi_toInt (x y : BitVec 32) : (IntOp.minsi x y).toInt = min x.toInt y.toInt := by
  unfold IntOp.minsi
  by_cases h : x.slt y
  · rw [if_pos h]; have := BitVec.slt_iff_toInt_lt.mp h; omega
  · rw [if_neg h]; have : ¬ x.toInt < y.toInt := fun h' => h (BitVec.slt_iff_toInt_lt.mpr h'); omega

theorem fold_min_le {ι : Type} (s : Finset ι) (f : ι → BitVec 32) (b : BitVec 32) (k : ℤ) :
    k ≤ (s.fold IntOp.minsi b f).toInt ↔ k ≤ b.toInt ∧ ∀ x ∈ s, k ≤ (f x).toInt := by
  classical
  induction s using Finset.induction_on with
  | empty => simp
  | insert a s ha ih =>
    rw [Finset.fold_insert ha, minsi_toInt, le_min_iff, ih]
    simp only [Finset.mem_insert, forall_eq_or_imp]
    tauto

theorem word_toInt (n : ℕ) (h : n < 2 ^ 31) : (BitVec.ofNat 32 n).toInt = n := by
  rw [BitVec.toInt_ofNat']
  simp only [Int.bmod]; omega

theorem fold_min_elem {ι : Type} (s : Finset ι) (f : ι → BitVec 32) (b : BitVec 32) (x : ι) (hx : x ∈ s) :
    (s.fold IntOp.minsi b f).toInt ≤ (f x).toInt := ((fold_min_le s f b _).mp le_rfl).2 x hx

/-- What a mark reads as. -/
def wide (v : BitVec 1) : BitVec 32 := BitVec.setWidth 32 v

theorem sgt_wide (v : BitVec 1) : IntOp.cmpi .sgt (wide v) 0#32 = v := by
  revert v; decide

theorem add_word (a b : ℕ) : IntOp.addi (BitVec.ofNat 32 a) (BitVec.ofNat 32 b) = BitVec.ofNat 32 (a + b) := by
  unfold IntOp.addi; rw [BitVec.ofNat_add]

theorem select_mark (v : BitVec 1) (a b : BitVec 32) : Scalar.select v a b = if v = 1#1 then a else b := by
  rfl

theorem least_some (c0 : ℕ) (hc0 : c0 + 512 ≤ 5120) (v : Fin 512 → BitVec 1) (f : Fin 512) (hf : v f = 1#1)
    (hmin : ∀ c, v c = 1#1 → f ≤ c) : least (BitVec.ofNat 32 c0) (fun x => wide (v x)) = BitVec.ofNat 32 (c0 + f.val) := by
  apply BitVec.toInt_inj.mp
  rw [word_toInt _ (by omega)]
  unfold least
  simp only [sgt_wide, add_word, select_mark]
  apply le_antisymm
  · refine (fold_min_elem Finset.univ _ _ f (Finset.mem_univ f)).trans ?_
    rw [if_pos hf, word_toInt _ (by omega)]
  · rw [fold_min_le]
    refine ⟨by rw [show ((2147483647#32 : BitVec 32)).toInt = 2147483647 from rfl]; omega, fun x _ => ?_⟩
    split
    · rename_i hx
      have := hmin x hx
      rw [word_toInt _ (by omega)]
      have h2 : f.val ≤ x.val := this
      omega
    · rw [show ((1073741824#32 : BitVec 32)).toInt = 1073741824 from rfl]; omega

theorem least_none (c0 : ℕ) (v : Fin 512 → BitVec 1) (hv : ∀ c, v c ≠ 1#1) :
    least (BitVec.ofNat 32 c0) (fun x => wide (v x)) = 1073741824#32 := by
  apply BitVec.toInt_inj.mp
  unfold least
  simp only [sgt_wide, add_word, select_mark, hv, if_false]
  apply le_antisymm
  · exact fold_min_elem Finset.univ _ _ 0 (Finset.mem_univ _)
  · rw [fold_min_le]
    exact ⟨by decide, fun x _ => le_rfl⟩

/-! ## A step of a row -/

/-- The count after a step. -/
def nxtN (c0 : BitVec 32) (w : Fin 512 → BitVec 32) (n : BitVec 32) : BitVec 32 :=
  IntOp.addi n (BitVec.setWidth 32 (IntOp.cmpi .slt (least c0 w) 1073741824#32))

/-- The marks after a step. -/
def nxtV (c0 : BitVec 32) (w : Fin 512 → BitVec 32) (n : BitVec 32) (c : Fin 512) : BitVec 1 :=
  IntOp.andi (IntOp.andi (IntOp.cmpi .sgt (w c) 0#32) (IntOp.cmpi .ne (IntOp.addi c0 (BitVec.ofNat 32 c.val)) (least c0 w)))
    (IntOp.cmpi .slt (nxtN c0 w n) 16#32)

/-- The list after a step. -/
def nxtI (c0 : BitVec 32) (w : Fin 512 → BitVec 32) (n : BitVec 32) (I : Fin 16 → BitVec 32) (l : Fin 16) : BitVec 32 :=
  Scalar.select (IntOp.andi (IntOp.andi (IntOp.cmpi .eq (BitVec.ofNat 32 l.val) n) (IntOp.cmpi .slt (least c0 w) 1073741824#32))
    (IntOp.cmpi .slt n 16#32)) (least c0 w) (I l)

/-- Where a row stands within the chunk at `c0`: everything below some column `x` is done, the marks are the columns from `x`
    on at which `q` holds, as long as fewer than sixteen are taken. -/
def RowInv (q : ℕ → Prop) (c0 : ℕ) (v : Fin 512 → BitVec 1) (n : BitVec 32) (I : Fin 16 → BitVec 32) : Prop :=
  ∃ x, c0 ≤ x ∧ x ≤ c0 + 512 ∧ n = BitVec.ofNat 32 (cnt q x) ∧ (∀ l : Fin 16, I l = BitVec.ofNat 32 (slot q x l.val))
    ∧ ∀ c : Fin 512, v c = 1#1 ↔ (Nat.count q x < 16 ∧ x ≤ c0 + c.val ∧ q (c0 + c.val))

theorem count_stop {q : ℕ → Prop} {x y : ℕ} (h : x ≤ y) (hq : ∀ z, x ≤ z → z < y → ¬ q z) : Nat.count q y = Nat.count q x := by
  induction y, h using Nat.le_induction with
  | base => rfl
  | succ y hy ih =>
    rw [Nat.count_succ, if_neg (hq y hy (Nat.lt_succ_self y)), add_zero]
    exact ih fun z h1 h2 => hq z h1 (Nat.lt_succ_of_lt h2)

theorem andi_one (a b : BitVec 1) : IntOp.andi a b = 1#1 ↔ a = 1#1 ∧ b = 1#1 := by revert a b; decide

theorem cmpi_slt_one (a b : BitVec 32) : IntOp.cmpi .slt a b = 1#1 ↔ a.toInt < b.toInt := by
  show BitVec.ofBool (decide (a.toInt < b.toInt)) = 1#1 ↔ _; by_cases h : a.toInt < b.toInt <;> simp [h]
theorem cmpi_sge_one (a b : BitVec 32) : IntOp.cmpi .sge a b = 1#1 ↔ b.toInt ≤ a.toInt := by
  show BitVec.ofBool (decide (b.toInt ≤ a.toInt)) = 1#1 ↔ _; by_cases h : b.toInt ≤ a.toInt <;> simp [h]
theorem cmpi_eq_one (a b : BitVec 32) : IntOp.cmpi .eq a b = 1#1 ↔ a = b := by
  show BitVec.ofBool (a == b) = 1#1 ↔ _; by_cases h : a = b
  · simp [h]
  · have h2 : (a == b) = false := by simpa using h
    rw [h2]; simpa using h
theorem cmpi_ne_one (a b : BitVec 32) : IntOp.cmpi .ne a b = 1#1 ↔ a ≠ b := by
  show BitVec.ofBool (a != b) = 1#1 ↔ _; by_cases h : a = b
  · simp [h]
  · have h2 : (a != b) = true := by simpa using h
    rw [h2]; simpa using h

theorem word_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · rintro rfl; rfl

theorem RowInv.step {q : ℕ → Prop} {c0 : ℕ} {v : Fin 512 → BitVec 1} {n : BitVec 32} {I : Fin 16 → BitVec 32}
    (hc0 : c0 + 512 ≤ 5120) (h : RowInv q c0 v n I) :
    RowInv q c0 (nxtV (BitVec.ofNat 32 c0) (fun x => wide (v x)) n) (nxtN (BitVec.ofNat 32 c0) (fun x => wide (v x)) n)
      (nxtI (BitVec.ofNat 32 c0) (fun x => wide (v x)) n I) := by
  obtain ⟨x, hx0, hx1, rfl, hI, hv⟩ := h
  by_cases hex : ∃ c, v c = 1#1
  · obtain ⟨f, hf, hmin⟩ : ∃ f, v f = 1#1 ∧ ∀ c, v c = 1#1 → f ≤ c := by
      obtain ⟨f, hf, hm⟩ := Finset.exists_min_image (Finset.univ.filter fun c => v c = 1#1) id
        (by obtain ⟨c, hc⟩ := hex; exact ⟨c, by simp [hc]⟩)
      exact ⟨f, by simpa using hf, fun c hc => hm c (by simp [hc])⟩
    have hl := least_some c0 hc0 v f hf hmin
    obtain ⟨h16, hxf, hqf⟩ := (hv f).mp hf
    have hclear : ∀ z, x ≤ z → z < c0 + f.val → ¬ q z := fun z h1 h2 hz => by
      have h3 : c0 ≤ z := hx0.trans h1
      have h4 : z - c0 < 512 := by have := f.isLt; omega
      have h5 := hmin ⟨z - c0, h4⟩ ((hv _).mpr ⟨h16, by simp only; omega, by
        rw [show c0 + (⟨z - c0, h4⟩ : Fin 512).val = z by simp only; omega]; exact hz⟩)
      have h6 : f.val ≤ z - c0 := h5
      omega
    have hcf : Nat.count q (c0 + f.val) = Nat.count q x := count_stop hxf hclear
    have hcs : Nat.count q (c0 + f.val + 1) = Nat.count q x + 1 := by
      rw [Nat.count_succ, if_pos hqf, hcf]
    have hcx : cnt q x = Nat.count q x := by unfold cnt; omega
    have hcx' : cnt q (c0 + f.val + 1) = Nat.count q x + 1 := by unfold cnt; omega
    have hlt : IntOp.cmpi .slt (least (BitVec.ofNat 32 c0) fun x => wide (v x)) 1073741824#32 = 1#1 := by
      rw [cmpi_slt_one, hl, word_toInt _ (by omega)]
      rw [show ((1073741824#32 : BitVec 32)).toInt = 1073741824 from rfl]; omega
    have hn : nxtN (BitVec.ofNat 32 c0) (fun x => wide (v x)) (BitVec.ofNat 32 (cnt q x)) = BitVec.ofNat 32 (cnt q (c0 + f.val + 1)) := by
      unfold nxtN
      rw [hlt, show BitVec.setWidth 32 1#1 = BitVec.ofNat 32 1 from rfl, add_word, hcx, hcx']
    refine ⟨c0 + f.val + 1, by omega, by omega, hn, fun l => ?_, fun c => ?_⟩
    · unfold nxtI
      rw [select_mark, hlt, hl, hI]
      have h1 : IntOp.andi (IntOp.andi (IntOp.cmpi .eq (BitVec.ofNat 32 l.val) (BitVec.ofNat 32 (cnt q x))) 1#1)
          (IntOp.cmpi .slt (BitVec.ofNat 32 (cnt q x)) 16#32) = 1#1 ↔ l.val = cnt q x := by
        rw [andi_one, andi_one, cmpi_eq_one, cmpi_slt_one, word_toInt _ (by omega), word_inj (by omega) (by omega)]
        rw [show ((16#32 : BitVec 32)).toInt = 16 from rfl]
        constructor
        · exact fun h => h.1.1
        · exact fun h => ⟨⟨h, rfl⟩, by omega⟩
      by_cases hlx : l.val = cnt q x
      · rw [if_pos (h1.mpr hlx), slot, if_pos ⟨hqf, by omega⟩]
      · rw [if_neg (fun h => hlx (h1.mp h)), slot, if_neg (fun h => hlx (by rw [hcx, ← hcf]; exact h.2.symm)),
          slot_stop hxf fun z h1 h2 hz => hclear z h1 h2 hz.1]
    · unfold nxtV
      rw [hn, andi_one, andi_one, sgt_wide, cmpi_ne_one, cmpi_slt_one, hl, add_word, Ne, word_inj (by omega) (by omega),
        word_toInt _ (by have := cnt_le q (c0 + f.val + 1); omega), hv, hcx', hcs]
      rw [show ((16#32 : BitVec 32)).toInt = 16 from rfl]
      constructor
      · rintro ⟨⟨⟨-, h1, h2⟩, h3⟩, h4⟩
        have h5 : f ≤ c := hmin c ((hv c).mpr ⟨h16, h1, h2⟩)
        have h6 : f.val ≤ c.val := h5
        exact ⟨by omega, by omega, h2⟩
      · rintro ⟨h1, h2, h3⟩
        exact ⟨⟨⟨by omega, by omega, h3⟩, by omega⟩, by omega⟩
  · have hno : ∀ c, v c ≠ 1#1 := fun c hc => hex ⟨c, hc⟩
    have hl := least_none c0 v hno
    have hlt : IntOp.cmpi .slt (least (BitVec.ofNat 32 c0) fun x => wide (v x)) 1073741824#32 = 0#1 := by rw [hl]; decide
    refine ⟨x, hx0, hx1, ?_, fun l => ?_, fun c => ?_⟩
    · unfold nxtN
      rw [hlt, show BitVec.setWidth 32 0#1 = BitVec.ofNat 32 0 from rfl, add_word, add_zero]
    · unfold nxtI
      rw [select_mark, hlt, if_neg, hI]
      rw [andi_one, andi_one]
      rintro ⟨⟨-, h⟩, -⟩
      exact absurd h (by decide)
    · unfold nxtV
      rw [andi_one, andi_one, sgt_wide, ← hv]
      exact ⟨fun h => h.1.1, fun h => absurd h (hno c)⟩

/-- A step drops a mark, and sets none. -/
theorem nxtV_sub (c0 : ℕ) (v : Fin 512 → BitVec 1) (n : BitVec 32) (c : Fin 512)
    (h : nxtV (BitVec.ofNat 32 c0) (fun x => wide (v x)) n c = 1#1) : v c = 1#1 := by
  unfold nxtV at h
  rw [andi_one, andi_one, sgt_wide] at h
  exact h.1.1

theorem nxtV_drop (c0 : ℕ) (hc0 : c0 + 512 ≤ 5120) (v : Fin 512 → BitVec 1) (n : BitVec 32) (hex : ∃ c, v c = 1#1) :
    ∃ f, v f = 1#1 ∧ nxtV (BitVec.ofNat 32 c0) (fun x => wide (v x)) n f ≠ 1#1 := by
  obtain ⟨f, hf, hm⟩ := Finset.exists_min_image (Finset.univ.filter fun c => v c = 1#1) id
    (by obtain ⟨c, hc⟩ := hex; exact ⟨c, by simp [hc]⟩)
  have hf' : v f = 1#1 := by simpa using hf
  refine ⟨f, hf', fun h => ?_⟩
  unfold nxtV at h
  rw [andi_one, andi_one, cmpi_ne_one, least_some c0 hc0 v f hf' fun c hc => hm c (by simp [hc]), add_word] at h
  exact h.1.2 rfl

/-- With no mark left the chunk is done. -/
theorem RowInv.done {q : ℕ → Prop} {c0 : ℕ} {v : Fin 512 → BitVec 1} {n : BitVec 32} {I : Fin 16 → BitVec 32}
    (h : RowInv q c0 v n I) (hv : ∀ c, v c ≠ 1#1) :
    n = BitVec.ofNat 32 (cnt q (c0 + 512)) ∧ ∀ l : Fin 16, I l = BitVec.ofNat 32 (slot q (c0 + 512) l.val) := by
  obtain ⟨x, hx0, hx1, rfl, hI, hm⟩ := h
  by_cases h16 : Nat.count q x < 16
  · have hno : ∀ z, x ≤ z → z < c0 + 512 → ¬ q z := fun z h1 h2 hz => by
      have h4 : z - c0 < 512 := by omega
      refine hv ⟨z - c0, h4⟩ ((hm _).mpr ⟨h16, by simp only; omega, ?_⟩)
      rw [show c0 + (⟨z - c0, h4⟩ : Fin 512).val = z by simp only; omega]; exact hz
    refine ⟨by unfold cnt; rw [count_stop hx1 hno], fun l => ?_⟩
    rw [hI, slot_stop hx1 fun z h1 h2 hz => hno z h1 h2 hz.1]
  · have := Nat.count_monotone q hx1
    refine ⟨by congr 1; unfold cnt; omega, fun l => ?_⟩
    rw [hI, slot_stop hx1 fun z h1 h2 hz => ?_]
    have := Nat.count_monotone q h1
    omega

/-- A chunk begins with the columns at which `q` holds marked, if fewer than sixteen are taken. -/
theorem RowInv.start {q : ℕ → Prop} {c0 : ℕ} {v : Fin 512 → BitVec 1} {n : BitVec 32} {I : Fin 16 → BitVec 32}
    (hn : n = BitVec.ofNat 32 (cnt q c0)) (hI : ∀ l : Fin 16, I l = BitVec.ofNat 32 (slot q c0 l.val))
    (hv : ∀ c : Fin 512, v c = 1#1 ↔ (Nat.count q c0 < 16 ∧ q (c0 + c.val))) : RowInv q c0 v n I :=
  ⟨c0, le_rfl, by omega, hn, hI, fun c => (hv c).trans ⟨fun h => ⟨h.1, by omega, h.2⟩, fun h => ⟨h.1, h.2.2⟩⟩⟩

theorem cnt_lt_iff (q : ℕ → Prop) (x : ℕ) : IntOp.cmpi .slt (BitVec.ofNat 32 (cnt q x)) 16#32 = 1#1 ↔ Nat.count q x < 16 := by
  rw [cmpi_slt_one, word_toInt _ (by have := cnt_le q x; omega), show ((16#32 : BitVec 32)).toInt = 16 from rfl]
  unfold cnt; omega

end Cert.Proof.Row

end
-- ==== Proof.NmsStep.lean ====
/-
  One step of the suppression kernel's inner loop on a chunk of columns, and the whole of that loop: it takes every row's
  marked columns in order until no mark is left.
-/
module

public import proofs.«01_k».proof.Proof.Base
public import proofs.«01_k».proof.Proof.Rows
public import Idealize.ShloMosaic.Lib.Pointwise
public import Idealize.ShloMosaic.Lib.Pipeline.Value
public import Idealize.ShloMosaic.Lib.Pipeline.FrameBody

@[expose] public section

set_option maxRecDepth 16384

noncomputable section

namespace Cert.Proof.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## The step's values, row by row -/

theorem pay50_at (c0 : BitVec 32) (w : Vec F S256x512 .i32) (N : Vec F S256x1 .i32) (r : Fin 256) (l : Fin 512) :
    k0_pay50 (F := F) (k0_pay13 c0) 1073741824#32 w N (ix2 r l) = Row.nxtV c0 (fun x => w (ix2 r x)) (N (ix2 r 0)) l := by
  unfold k0_pay50 k0_pay48 k0_pay46 k0_pay45 k0_pay44 k0_pay13 k0_pay11
  pointwise
  rfl

theorem pay49_at (c0 : BitVec 32) (w : Vec F S256x512 .i32) (N : Vec F S256x1 .i32) (r : Fin 256) :
    k0_pay49 (F := F) (k0_pay13 c0) 1073741824#32 w N (ix2 r 0) = Row.nxtN c0 (fun x => w (ix2 r x)) (N (ix2 r 0)) := by
  unfold k0_pay49 k0_pay48 k0_pay46 k0_pay45 k0_pay44 k0_pay13 k0_pay11
  pointwise
  rfl

theorem pay47_at (c0 : BitVec 32) (w : Vec F S256x512 .i32) (N : Vec F S256x1 .i32) (I : Vec F S256x16 .i32) (r : Fin 256) (l : Fin 16) :
    k0_pay47 (F := F) (k0_pay13 c0) (iota .tc S256x16 32 [1] iota_S256x16_d1_w32) 1073741824#32 w N I (ix2 r l)
      = Row.nxtI c0 (fun x => w (ix2 r x)) (N (ix2 r 0)) (fun l => I (ix2 r l)) l := by
  unfold k0_pay47 k0_pay46 k0_pay45 k0_pay44 k0_pay13 k0_pay11
  pointwise
  rfl

/-- The marks as words, as the kernel keeps them. -/
def ext (v : IVec S256x512 1) : Vec F S256x512 .i32 := k0_pay40 (extui 32 v natLt_1_32)

theorem ext_at (v : IVec S256x512 1) (r : Fin 256) (l : Fin 512) : ext (F := F) v (ix2 r l) = Row.wide (v (ix2 r l)) := by
  unfold ext k0_pay40
  pointwise
  rfl

theorem pay50_ext (c0 : BitVec 32) (v : IVec S256x512 1) (N : Vec F S256x1 .i32) (r : Fin 256) (l : Fin 512) :
    k0_pay50 (F := F) (k0_pay13 c0) 1073741824#32 (ext (F := F) v) N (ix2 r l) = Row.nxtV c0 (fun x => Row.wide (v (ix2 r x))) (N (ix2 r 0)) l := by
  rw [pay50_at]; simp only [ext_at]

theorem pay51_eq (v174 : IVec S256x512 32) (w : Vec F S256x512 .i32) (N : Vec F S256x1 .i32) :
    k0_pay51 (F := F) v174 1073741824#32 w N = ext (F := F) (k0_pay50 (F := F) v174 1073741824#32 w N) := rfl

/-- Every row of the chunk at `c0` stands where `Row.RowInv` says. -/
def ChunkInv (q : Fin 256 → ℕ → Prop) (c0 : ℕ) (v : IVec S256x512 1) (N : Vec F S256x1 .i32) (I : Vec F S256x16 .i32) : Prop :=
  ∀ r : Fin 256, Row.RowInv (q r) c0 (fun c => v (ix2 r c)) (N (ix2 r 0)) (fun l => I (ix2 r l))

theorem ChunkInv.step {q : Fin 256 → ℕ → Prop} {c0 : ℕ} {v : IVec S256x512 1} {N : Vec F S256x1 .i32} {I : Vec F S256x16 .i32}
    (hc0 : c0 + 512 ≤ 5120) (h : ChunkInv (F := F) q c0 v N I) :
    ChunkInv (F := F) q c0 (k0_pay50 (F := F) (k0_pay13 (BitVec.ofNat 32 c0)) 1073741824#32 (ext (F := F) v) N)
      (k0_pay49 (F := F) (k0_pay13 (BitVec.ofNat 32 c0)) 1073741824#32 (ext (F := F) v) N)
      (k0_pay47 (F := F) (k0_pay13 (BitVec.ofNat 32 c0)) (iota .tc S256x16 32 [1] iota_S256x16_d1_w32) 1073741824#32 (ext (F := F) v) N I) := by
  intro r
  have h1 := (h r).step hc0
  have e1 : (fun c => k0_pay50 (F := F) (k0_pay13 (BitVec.ofNat 32 c0)) 1073741824#32 (ext (F := F) v) N (ix2 r c))
      = Row.nxtV (BitVec.ofNat 32 c0) (fun x => Row.wide (v (ix2 r x))) (N (ix2 r 0)) := funext fun c => pay50_ext _ v N r c
  have e2 : (fun l => k0_pay47 (F := F) (k0_pay13 (BitVec.ofNat 32 c0)) (iota .tc S256x16 32 [1] iota_S256x16_d1_w32) 1073741824#32 (ext (F := F) v) N I (ix2 r l))
      = Row.nxtI (BitVec.ofNat 32 c0) (fun x => Row.wide (v (ix2 r x))) (N (ix2 r 0)) (fun l => I (ix2 r l)) :=
    funext fun l => by rw [pay47_at]; simp only [ext_at]
  rw [e1, e2, pay49_at]
  simp only [ext_at]
  exact h1

/-- How many marks there are. -/
def marks (v : IVec S256x512 1) : ℕ := (Finset.univ.filter fun j => v j = 1#1).card

theorem marks_le (v : IVec S256x512 1) : marks v ≤ 131072 :=
  (Finset.card_filter_le _ _).trans (by rw [Finset.card_univ, Shape.card_idx]; decide)

theorem marks_step {c0 : ℕ} (hc0 : c0 + 512 ≤ 5120) (v : IVec S256x512 1) (N : Vec F S256x1 .i32) (hex : ∃ j, v j = 1#1) :
    marks (k0_pay50 (F := F) (k0_pay13 (BitVec.ofNat 32 c0)) 1073741824#32 (ext (F := F) v) N) < marks v := by
  obtain ⟨j, hj⟩ := hex
  rw [eq_ix2 j] at hj
  obtain ⟨f, hf, hf'⟩ := Row.nxtV_drop c0 hc0 (fun c => v (ix2 (j 0) c)) (N (ix2 (j 0) 0)) ⟨j 1, hj⟩
  refine Finset.card_lt_card (Finset.ssubset_iff_of_subset ?_ |>.mpr ⟨ix2 (j 0) f, by simpa using hf, ?_⟩)
  · intro i hi
    rw [Finset.mem_filter] at hi ⊢
    refine ⟨hi.1, (congrArg v (eq_ix2 i)).trans ?_⟩
    exact Row.nxtV_sub _ _ _ _ ((pay50_ext _ v N _ _).symm.trans ((congrArg _ (eq_ix2 i)).symm.trans hi.2))
  · rw [Finset.mem_filter]
    rintro ⟨-, h⟩
    exact hf' ((pay50_ext _ v N _ _).symm.trans h)

/-- The sum of the marks is positive exactly if there is a mark. -/
class SumTest (F : FTy → Type) [FloatOps F] : Prop where
  test : ∀ v : IVec S256x512 1, Scalar.cmpf .ogt (k0_pay2 (F := F) v) (Scalar.ofBits .f32 0x00000000#32) = 1#1 ↔ ∃ j, v j = 1#1

variable [SumTest F]

/-! ## The inner loop -/

theorem off0s : (![0, 0] : Fin 2 → ℕ) = fun _ => 0 := by funext a; fin_cases a <;> rfl

abbrev rN6 : Rect S256x512 := Rect.unit (s := S256x512) ![0, 0] S256x512.size inb_S256x512_S256x512_0_0
abbrev rN8 : Rect S256x1 := Rect.unit (s := S256x1) ![0, 0] S256x1.size inb_S256x1_S256x1_0_0
abbrev rN9 : Rect S256x16 := Rect.unit (s := S256x16) ![0, 0] S256x16.size inb_S256x16_S256x16_0_0

/-- A whole buffer written all over holds what was written. -/
theorem owns_written (c : Dev nD) {sp : Space} {s : Shape} {e : EltTy} (m : Memref sig .tc sp s e) (f : m.view.ty.Contents (Elt F))
    {off : Fin s.rank → ℕ} (h : off = fun _ => 0) (inb : ∀ a, off a + s.size a ≤ s.size a) (p : Vec F s e) :
    (View.loc (c : Thread nD τ) m.view ↦[m.view.set]{fullShare} m.view.writes (Elt F) f [⟨Rect.unit (s := s) off s.size inb, p⟩] : sProp 𝕄)
      ⊢ owns (c : Thread nD τ) m fullShare p := by
  unfold owns
  iintro H
  iexists _; isplitr
  swap; · iexact H
  ipureintro
  rw [View.read_writes_eq_canon _ _ _ (fun y => ⟨_, List.mem_singleton_self _, View.mem_set_unit_zero h inb y⟩), View.canon_unit_zero h]

/-- A whole buffer read all over gives what it holds. -/
theorem readAt_whole (c : Dev nD) {sp : Space} {s : Shape} {e : EltTy} (m : Memref sig .tc sp s e) (f : m.view.ty.Contents (Elt F))
    {off : Fin s.rank → ℕ} (h : off = fun _ => 0) (inb : ∀ a, off a + s.size a ≤ s.size a) :
    View.readAt (Elt F) m.view (Rect.unit (s := s) off s.size inb).toLoadRect f = View.read (Elt F) m.view f :=
  View.ld_unit_zero h inb _

/-- A call of a loop's body, from its own body at a larger variant. -/
theorem wp_call_below (c : Dev nD) (E : Set ℕ) (n : ℕ) {α : Type} {ℓ : (Λ₀ F).Label} {a : (Λ₀ F).Args ℓ} {k : (Λ₀ F).Result ℓ → Prog (TpuEff nD τ sig (Elt F) (Λ₀ F) .tc) α} {Q : α → sProp 𝕄} :
    wp frame (wpE (defs₀ (F := F)) 𝒱₀ c (some n)) E (defs₀ .tc ℓ a) (fun x => wp frame (wpE (defs₀ (F := F)) 𝒱₀ c (some (n + 1))) E (k x) Q)
      ⊢ wp frame (wpE (defs₀ (F := F)) 𝒱₀ c (some (n + 1))) E (.op (.call ℓ a) k) Q :=
  wp_call 𝒱₀ (c : Thread nD τ) (some (n + 1)) E n (fun u hu => by cases hu; exact Nat.lt_succ_self n)

theorem while_spec (c : Dev nD) (E : Set ℕ) (q : Fin 256 → ℕ → Prop) (c0 : ℕ) (hc0 : c0 + 512 ≤ 5120) (i : grid0.Coords) (v69 : BitVec 32)
    (hw : k0_chk1 v69) (t : Fin (k0_t1_loop v69).trips) (arg6 : Memref sig .tc .vmem S256x512 .i32) (harg6 : arg6.IsWhole)
    (arg8 : Memref sig .tc .vmem S256x1 .i32) (harg8 : arg8.IsWhole) (arg9 : Memref sig .tc .vmem S256x16 .i32) (harg9 : arg9.IsWhole)
    (n : ℕ) : ∀ (Kp : F .f32 → sProp 𝕄) (v : IVec S256x512 1) (N : Vec F S256x1 .i32) (I : Vec F S256x16 .i32),
    marks v ≤ n → ChunkInv (F := F) q c0 v N I →
    iprop(owns (c : Thread nD τ) arg6 fullShare (ext (F := F) v) ∗ owns (c : Thread nD τ) arg8 fullShare N ∗ owns (c : Thread nD τ) arg9 fullShare I
        ∗ (∀ x N' I', ⌜∀ r : Fin 256, N' (ix2 r 0) = BitVec.ofNat 32 (Row.cnt (q r) (c0 + 512)) ∧ ∀ l : Fin 16, I' (ix2 r l) = BitVec.ofNat 32 (Row.slot (q r) (c0 + 512) l.val)⌝ -∗
          iprop((∃ g, owns (c : Thread nD τ) arg6 fullShare g) ∗ owns (c : Thread nD τ) arg8 fullShare N' ∗ owns (c : Thread nD τ) arg9 fullShare I') -∗ Kp x))
      ⊢ wp frame (wpE (defs₀ (F := F)) 𝒱₀ c (some n)) E
          (defs₀ (F := F) .tc 3 ⟨i, v69, hw, t, arg6, harg6, k0_pay13 (BitVec.ofNat 32 c0), arg8, harg8, iota .tc S256x16 32 [1] iota_S256x16_d1_w32, arg9, harg9, k0_pay2 (F := F) v⟩) Kp := by
  induction n with
  | zero =>
    intro Kp v N I hm hI
    show _ ⊢ wp frame (wpE (defs₀ (F := F)) 𝒱₀ c _) E (cc0_while1 _ _ _ _ _ _ _ _ _ _ _ _ _) _
    have hno : ∀ j, v j ≠ 1#1 := fun j hj => by
      have : 0 < (Finset.univ.filter fun j => v j = 1#1).card := Finset.card_pos.mpr ⟨j, by simpa using hj⟩
      unfold marks at hm; omega
    have ht : ¬ Scalar.cmpf .ogt (k0_pay2 (F := F) v) (Scalar.ofBits .f32 0x00000000#32) = 1#1 := fun h => by
      obtain ⟨j, hj⟩ := (SumTest.test v).mp h; exact hno j hj
    simp only [cc0_while1_eq_skeleton]; unfold cc0_while1_skel
    simp only [if_neg ht]
    iintro ⟨H6, H8, H9, Hk⟩
    sl_step
    iapply Hk $$ %_ %N %I %(fun r => (hI r).done fun j => hno _)
    isplitl [H6]; · iexists _; iexact H6
    isplitl [H8] <;> iassumption
  | succ n ih =>
    intro Kp v N I hm hI
    show _ ⊢ wp frame (wpE (defs₀ (F := F)) 𝒱₀ c _) E (cc0_while1 _ _ _ _ _ _ _ _ _ _ _ _ _) _
    simp only [cc0_while1_eq_skeleton]; unfold cc0_while1_skel
    by_cases ht : Scalar.cmpf .ogt (k0_pay2 (F := F) v) (Scalar.ofBits .f32 0x00000000#32) = 1#1
    · simp only [if_pos ht, k0_part7_eq_skeleton]; unfold k0_part7_skel
      have hlt := marks_step hc0 v N ((SumTest.test v).mp ht)
      unfold owns
      iintro ⟨⟨%f6, %hf6, H6⟩, ⟨%f8, %hf8, H8⟩, ⟨%f9, %hf9, H9⟩, Hk⟩
      sl_exec
      rw [readAt_whole c arg6 f6 off0s, readAt_whole c arg8 f8 off0s, readAt_whole c arg9 f9 off0s, hf6, hf8, hf9, pay51_eq]
      iapply (wp_call_below c E n (ℓ := 3))
      iapply (ih _ _ _ _ (by omega) (hI.step hc0))
      isplitl [H6]; · iapply (owns_written c arg6 f6 off0s); iexact H6
      isplitl [H8]; · iapply (owns_written c arg8 f8 off0s); iexact H8
      isplitl [H9]; · iapply (owns_written c arg9 f9 off0s); iexact H9
      iintro %x %N' %I' %hx H
      rw [wp_ret]
      imodintro
      unfold owns
      iapply Hk $$ %x %N' %I' %hx
      iexact H
    · simp only [if_neg ht]
      have hno : ∀ j, v j ≠ 1#1 := fun j hj => ht ((SumTest.test v).mpr ⟨j, hj⟩)
      iintro ⟨H6, H8, H9, Hk⟩
      sl_step
      iapply Hk $$ %_ %N %I %(fun r => (hI r).done fun j => hno _)
      isplitl [H6]; · iexists _; iexact H6
      isplitl [H8] <;> iassumption

end Cert.Proof.Sc

end
-- ==== Proof.NmsBody.lean ====
/-
  The suppression kernel's body: the loop over the chunks of columns, each chunk's own loop within it, and what the body
  leaves in its two results' blocks.
-/
module

public import proofs.«01_k».proof.Proof.NmsStep
public import proofs.«01_k».proof.Proof.Gen.KernelIdeal.Loops
public import Idealize.ShloMosaic.Lib.Tactic

@[expose] public section

set_option maxRecDepth 16384

noncomputable section

namespace Cert.Proof.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] [SumTest F]

local notation "𝕄" => MT nD τ sig (HIx 1) (Elt F) ℕ UU ℕ

/-! ## What the body computes, from its block of rows and the array of columns -/

/-- Columns `512 k` to `512 k + 511`. -/
def colBlk (x1 : Vec F S8x5120 .f32) (k : ℕ) : Vec F S8x512 .f32 :=
  fun j => x1 (ix2 (j 0) ⟨(512 * k + (j 1).val) % 5120, Nat.mod_lt _ (by decide)⟩)

/-- Which pairs of a row and a column of chunk `k` overlap enough, carry one label and have a column that counts. -/
def hit (x0 : Vec F S256x8 .f32) (x1 : Vec F S8x5120 .f32) (k : ℕ) : IVec S256x512 1 :=
  k0_pay10 (k0_pay33 x0) (k0_pay34 x0) (k0_pay5 (colBlk x1 k)) (k0_pay6 (colBlk x1 k)) (k0_pay7 (colBlk x1 k))
    (k0_pay8 (k0_pay29 x0) (k0_pay30 x0) (colBlk x1 k)) (k0_pay9 (k0_pay31 x0) (k0_pay32 x0) (colBlk x1 k))

/-- Column `j` is one of row `r`'s members: not before the row, and hit. -/
def mem (i : grid0.Coords) (x0 : Vec F S256x8 .f32) (x1 : Vec F S8x5120 .f32) (r : Fin 256) (j : ℕ) : Prop :=
  hit x0 x1 (j / 512) (ix2 r ⟨j % 512, Nat.mod_lt _ (by decide)⟩) = 1#1 ∧ 256 * (i 0).val + r.val ≤ j

/-- Whether an earlier column of the first `k` chunks suppresses a row. -/
def supAt (i : grid0.Coords) (x0 : Vec F S256x8 .f32) (x1 : Vec F S8x5120 .f32) : ℕ → Vec F S256x1 .f32
  | 0 => k0_pay37 (F := F)
  | k + 1 => k0_pay12 (k0_pay33 x0) (k0_pay34 x0) (k0_pay36 i) (BitVec.ofNat 32 (512 * k)) (k0_pay5 (colBlk x1 k)) (k0_pay6 (colBlk x1 k)) (k0_pay7 (colBlk x1 k))
      (k0_pay8 (k0_pay29 x0) (k0_pay30 x0) (colBlk x1 k)) (k0_pay9 (k0_pay31 x0) (k0_pay32 x0) (colBlk x1 k)) (supAt i x0 x1 k)

/-- How many members each row has, of the first `k` chunks, counted to sixteen. -/
def cntAt (i : grid0.Coords) (x0 : Vec F S256x8 .f32) (x1 : Vec F S8x5120 .f32) (k : ℕ) : Vec F S256x1 .i32 :=
  fun j => BitVec.ofNat 32 (Row.cnt (mem i x0 x1 (j 0)) (512 * k))

/-- The members. -/
def idxAt (i : grid0.Coords) (x0 : Vec F S256x8 .f32) (x1 : Vec F S8x5120 .f32) (k : ℕ) : Vec F S256x16 .i32 :=
  fun j => BitVec.ofNat 32 (Row.slot (mem i x0 x1 (j 0)) (512 * k) (j 1).val)

/-- The number of chunks the body goes through, of `n` boxes that count. -/
def trips (i : grid0.Coords) (n : ℕ) : ℕ := if n ≤ 256 * (i 0).val then 0 else (n + 511) / 512

theorem trips_le (i : grid0.Coords) {n : ℕ} (hn : n ≤ 5000) : trips i n ≤ 10 := by
  unfold trips; split <;> omega

/-! ## A chunk -/

theorem chunkOff_eq (v69 : BitVec 32) (k : Fin (k0_t1_loop v69).trips) (hk : k.val < 10) : k0_off1 v69 k = ![0, 512 * k.val] := by
  have h : ∀ n < 10, (![0, (Scalar.indexCast (Scalar.muli (Scf.iv 0#32 1#32 n) 512#32) : Index).toNat] : Fin 2 → ℕ) = ![0, 512 * n] := by decide
  exact h k.val hk

theorem iv_eq (k : ℕ) : Scalar.muli (Scf.iv 0#32 1#32 k) 512#32 = BitVec.ofNat 32 (512 * k) := by
  unfold Scf.iv
  show (0#32 + BitVec.ofNat 32 k * 1#32) * 512#32 = _
  rw [BitVec.zero_add, BitVec.mul_one, BitVec.ofNat_mul, BitVec.mul_comm]

theorem ld_chunk (x1 : Vec F S8x5120 .f32) (v69 : BitVec 32) (k : Fin (k0_t1_loop v69).trips) (hk : k.val < 10)
    (h : ∀ a, k0_off1 v69 k a + S8x512.size a ≤ S8x5120.size a) :
    View.ld x1 (Rect.unit (s := S8x5120) (k0_off1 v69 k) S8x512.size h) = colBlk x1 k.val := by
  funext j
  refine congrArg x1 (funext fun a => Fin.ext ?_)
  refine (congrArg (· + 1 * (j a).val) (congrFun (chunkOff_eq v69 k hk) a)).trans ?_
  fin_cases a
  · show 0 + 1 * (j 0).val = (j 0).val; omega
  · show 512 * k.val + 1 * (j 1).val = (512 * k.val + (j 1).val) % 5120
    have : (j 1).val < 512 := (j 1).isLt
    omega

theorem pay36_at (i : grid0.Coords) (r : Fin 256) : k0_pay36 i (ix2 r 0) = BitVec.ofNat 32 (256 * (i 0).val + r.val) := by
  unfold k0_pay36
  pointwise
  show BitVec.ofNat 32 (i 0).val * 256#32 + BitVec.ofNat 32 r.val = _
  rw [BitVec.ofNat_add, BitVec.ofNat_mul, BitVec.mul_comm]

theorem start (i : grid0.Coords) (x0 : Vec F S256x8 .f32) (x1 : Vec F S8x5120 .f32) (k : ℕ) (hk : k < 10) :
    ChunkInv (F := F) (mem i x0 x1) (512 * k)
      (k0_pay14 (k0_pay33 x0) (k0_pay34 x0) (k0_pay36 i) (BitVec.ofNat 32 (512 * k)) (k0_pay5 (colBlk x1 k)) (k0_pay6 (colBlk x1 k)) (k0_pay7 (colBlk x1 k))
        (k0_pay8 (k0_pay29 x0) (k0_pay30 x0) (colBlk x1 k)) (k0_pay9 (k0_pay31 x0) (k0_pay32 x0) (colBlk x1 k)) (cntAt i x0 x1 k))
      (cntAt i x0 x1 k) (idxAt i x0 x1 k) := by
  intro r
  refine Row.RowInv.start rfl (fun l => rfl) fun c => ?_
  have hg : (i 0).val < 20 := (i 0).isLt
  have e : k0_pay14 (k0_pay33 x0) (k0_pay34 x0) (k0_pay36 i) (BitVec.ofNat 32 (512 * k)) (k0_pay5 (colBlk x1 k)) (k0_pay6 (colBlk x1 k)) (k0_pay7 (colBlk x1 k))
        (k0_pay8 (k0_pay29 x0) (k0_pay30 x0) (colBlk x1 k)) (k0_pay9 (k0_pay31 x0) (k0_pay32 x0) (colBlk x1 k)) (cntAt i x0 x1 k) (ix2 r c)
      = IntOp.andi (IntOp.andi (hit x0 x1 k (ix2 r c)) (IntOp.cmpi .sge (IntOp.addi (BitVec.ofNat 32 (512 * k)) (BitVec.ofNat 32 c.val)) (k0_pay36 i (ix2 r 0))))
          (IntOp.cmpi .slt (cntAt i x0 x1 k (ix2 r 0)) 16#32) := by
    unfold k0_pay14 k0_pay13 k0_pay11 hit
    pointwise
  have hge : IntOp.cmpi .sge (IntOp.addi (BitVec.ofNat 32 (512 * k)) (BitVec.ofNat 32 c.val)) (k0_pay36 i (ix2 r 0)) = 1#1
      ↔ 256 * (i 0).val + r.val ≤ 512 * k + c.val := by
    rw [pay36_at, Row.add_word, Row.cmpi_sge_one, Row.word_toInt _ (by omega), Row.word_toInt _ (by omega)]
    omega
  have hm : mem i x0 x1 r (512 * k + c.val) ↔ hit x0 x1 k (ix2 r c) = 1#1 ∧ 256 * (i 0).val + r.val ≤ 512 * k + c.val := by
    unfold mem
    have h1 : (512 * k + c.val) / 512 = k := by omega
    have h2 : (⟨(512 * k + c.val) % 512, Nat.mod_lt _ (by decide)⟩ : Fin 512) = c := Fin.ext (by simp only; omega)
    rw [h1, h2]
  rw [e, Row.andi_one, Row.andi_one, hge, hm]
  show _ ∧ IntOp.cmpi .slt (BitVec.ofNat 32 (Row.cnt (mem i x0 x1 r) (512 * k))) 16#32 = 1#1 ↔ _
  rw [Row.cnt_lt_iff]
  tauto

section Body

variable (c : Dev nD) (E : Set ℕ) (i : grid0.Coords)
  (arg1 : Memref sig .tc .smem S1 .i32) (harg1 : arg1.IsWhole) (arg2 : Memref sig .tc .vmem S256x8 .f32) (harg2 : arg2.IsWhole)
  (arg3 : Memref sig .tc .vmem S8x5120 .f32) (harg3 : arg3.IsWhole) (arg4 : Memref sig .tc .vmem S256x8 .f32) (harg4 : arg4.IsWhole)
  (arg5 : Memref sig .tc .vmem S256x16 .i32) (harg5 : arg5.IsWhole) (arg6 : Memref sig .tc .vmem S256x512 .i32) (harg6 : arg6.IsWhole)
  (arg7 : Memref sig .tc .vmem S256x1 .f32) (harg7 : arg7.IsWhole) (arg8 : Memref sig .tc .vmem S256x1 .i32) (harg8 : arg8.IsWhole)
  (arg9 : Memref sig .tc .vmem S256x16 .i32) (harg9 : arg9.IsWhole) (arg10 : Memref sig .tc .smem S1 .i32) (harg10 : arg10.IsWhole)
  (x0 : Vec F S256x8 .f32) (x1 : Vec F S8x5120 .f32)

/-- What the loop over the chunks holds before chunk `k`. -/
def chunkRes (k : ℕ) : sProp 𝕄 :=
  iprop(owns (c : Thread nD τ) arg3 fullShare x1 ∗ (∃ g, owns (c : Thread nD τ) arg6 fullShare g) ∗ owns (c : Thread nD τ) arg7 fullShare (supAt i x0 x1 k)
    ∗ owns (c : Thread nD τ) arg8 fullShare (cntAt i x0 x1 k) ∗ owns (c : Thread nD τ) arg9 fullShare (idxAt i x0 x1 k))

/-- A call of a loop's body from outside it. -/
theorem wp_call_top (n : ℕ) {α : Type} {ℓ : (Λ₀ F).Label} {a : (Λ₀ F).Args ℓ} {k : (Λ₀ F).Result ℓ → Prog (TpuEff nD τ sig (Elt F) (Λ₀ F) .tc) α} {Q : α → sProp 𝕄} :
    wp frame (wpE (defs₀ (F := F)) 𝒱₀ c (some n)) E (defs₀ .tc ℓ a) (fun x => wp frame (wpE (defs₀ (F := F)) 𝒱₀ c none) E (k x) Q)
      ⊢ wp frame (wpE (defs₀ (F := F)) 𝒱₀ c none) E (.op (.call ℓ a) k) Q :=
  wp_call 𝒱₀ (c : Thread nD τ) none E n (fun u hu => by cases hu)

/-- What it is to own a buffer's contents. -/
theorem owns_open {sp : Space} {s : Shape} {e : EltTy} (m : Memref sig .tc sp s e) (p : Vec F s e) :
    (owns (c : Thread nD τ) m fullShare p : sProp 𝕄)
      ⊢ iprop(∃ f, ⌜View.read (Elt F) m.view f = p⌝ ∗ View.loc (c : Thread nD τ) m.view ↦[m.view.set]{fullShare} f) := .rfl

/-- The vectors of words after a chunk are told by their rows. -/
theorem cnt_ext (k : ℕ) (N : Vec F S256x1 .i32) (h : ∀ r : Fin 256, N (ix2 r 0) = BitVec.ofNat 32 (Row.cnt (mem i x0 x1 r) (512 * k + 512))) :
    N = cntAt i x0 x1 (k + 1) := by
  funext j
  have e : j = ix2 (j 0) 0 := (eq_ix2 j).trans (congrArg (ix2 (j 0)) (Subsingleton.elim (α := Fin 1) _ _))
  rw [e]; exact h _

theorem idx_ext (k : ℕ) (I : Vec F S256x16 .i32) (h : ∀ (r : Fin 256) (l : Fin 16), I (ix2 r l) = BitVec.ofNat 32 (Row.slot (mem i x0 x1 r) (512 * k + 512) l.val)) :
    I = idxAt i x0 x1 (k + 1) := by
  funext j
  exact (congrArg I (eq_ix2 j)).trans (h _ _)

theorem chunk_step (v69 : BitVec 32) (hw : k0_chk1 v69) (k : Fin (k0_t1_loop v69).trips) (hk : k.val < 10) (c5120 : BitVec 32) (arg0 : BitVec 32) :
    chunkRes c i arg3 arg6 arg7 arg8 arg9 x0 x1 k.val
      ⊢ wp frame (wpE (defs₀ (F := F)) 𝒱₀ c none) E
          (k0_t1_body (F := F) i arg1 harg1 arg2 harg2 arg3 harg3 arg4 harg4 arg5 harg5 arg6 harg6 arg7 harg7 arg8 harg8 arg9 harg9 arg10 harg10 arg0 (k0_pay29 x0) (k0_pay30 x0) (k0_pay31 x0) (k0_pay32 x0) (k0_pay33 x0) (k0_pay34 x0) (k0_pay36 i)
            (iota .tc S256x16 32 [1] iota_S256x16_d1_w32) c5120 v69 hw k ())
          (fun _ => chunkRes c i arg3 arg6 arg7 arg8 arg9 x0 x1 (k.val + 1)) := by
  unfold chunkRes
  sl_unfold [k0_t1_body]
  simp only [k0_part1_eq_skeleton, k0_part2_eq_skeleton]
  unfold k0_part1_skel k0_part2_skel
  simp only [owns]
  iintro ⟨⟨%f3, %hf3, H3⟩, ⟨%g6, %f6, -, H6⟩, ⟨%f7, %hf7, H7⟩, ⟨%f8, %hf8, H8⟩, ⟨%f9, %hf9, H9⟩⟩
  have e3 : View.readAt (Elt F) arg3.view (Rect.unit (s := S8x5120) (k0_off1 v69 k) S8x512.size (k0_off1_inb v69 hw k)).toLoadRect f3 = colBlk x1 k.val := by
    rw [← hf3]; exact ld_chunk _ v69 k hk _
  have e7 := (readAt_whole c arg7 f7 off0s inb_S256x1_S256x1_0_0).trans hf7
  have e8 := (readAt_whole c arg8 f8 off0s inb_S256x1_S256x1_0_0).trans hf8
  sl_exec
  dsimp only
  simp only [iv_eq]
  iapply (wp_call_top c E 131072 (ℓ := 3))
  have hst := start i x0 x1 k.val hk
  iapply (while_spec c E (mem i x0 x1) (512 * k.val) (by omega) i v69 hw k arg6 harg6 arg8 harg8 arg9 harg9 131072 _ _ _ _ (marks_le _) hst)
  isplitl [H6]
  · iapply (owns_written c arg6 f6 off0s inb_S256x512_S256x512_0_0) $$ H6
  isplitl [H8]
  · unfold owns
    iexists f8; isplitr; ipureintro; exact hf8; iexact H8
  isplitl [H9]
  · unfold owns
    iexists f9; isplitr; ipureintro; exact hf9; iexact H9
  iintro %x %N' %I' %hNI ⟨H6, H8, H9⟩
  sl_step
  isplitl [H3]
  · iexists f3; isplitr; ipureintro; exact hf3; iexact H3
  isplitl [H6]
  · iexact H6
  isplitl [H7]
  · iapply (owns_open c arg7 _)
    iapply (owns_written c arg7 f7 off0s inb_S256x1_S256x1_0_0) $$ H7
  isplitl [H8]
  · rw [cnt_ext i x0 x1 k.val N' (fun r => (hNI r).1)]
    iapply (owns_open c arg8 _) $$ H8
  · rw [idx_ext i x0 x1 k.val I' (fun r l => (hNI r).2 l)]
    iapply (owns_open c arg9 _) $$ H9

end Body

end Cert.Proof.Sc

end
-- ==== Proof.NmsTrips.lean ====
/-
  How many chunks of columns the suppression kernel's body goes through.
-/
module

public import proofs.«01_k».proof.Proof.NmsBody

@[expose] public section

set_option maxRecDepth 16384

noncomputable section

namespace Cert.Proof.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] [SumTest F]

local notation "𝕄" => MT nD τ sig (HIx 1) (Elt F) ℕ UU ℕ

/-! ## The number of chunks -/

/-- The body's count of chunks, from the word that says how many boxes count. -/
def tripWord (i : grid0.Coords) (w : BitVec 32) : BitVec 32 :=
  Scalar.select (Scalar.cmpi .sge (Scalar.muli (BitVec.ofNat 32 (i 0).val) 256#32) w) 0#32
    (Scalar.select
      (Scalar.andi
        (Scalar.cmpi .ne (Scalar.subi (Scalar.extui (Scalar.cmpi .sgt (Scalar.addi w 511#32) 0#32)) (Scalar.extui (Scalar.cmpi .slt (Scalar.addi w 511#32) 0#32)))
          (Scalar.subi (Scalar.extui (Scalar.cmpi .sgt 512#32 0#32)) (Scalar.extui (Scalar.cmpi .slt 512#32 0#32)) : BitVec 32))
        (Scalar.cmpi .ne (Scalar.remsi (Scalar.addi w 511#32) 512#32) 0#32))
      (Scalar.subi (Scalar.divsi (Scalar.addi w 511#32) 512#32) 1#32) (Scalar.divsi (Scalar.addi w 511#32) 512#32))

theorem tripWord_eq (i : grid0.Coords) {n : ℕ} (hn : n ≤ 5000) : tripWord i (BitVec.ofNat 32 n) = BitVec.ofNat 32 (trips i n) := by
  have hg : (i 0).val < 20 := (i 0).isLt
  have h : ∀ n < 5001, (Scalar.select
      (Scalar.andi
        (Scalar.cmpi .ne (Scalar.subi (Scalar.extui (Scalar.cmpi .sgt (Scalar.addi (BitVec.ofNat 32 n) 511#32) 0#32)) (Scalar.extui (Scalar.cmpi .slt (Scalar.addi (BitVec.ofNat 32 n) 511#32) 0#32)))
          (Scalar.subi (Scalar.extui (Scalar.cmpi .sgt 512#32 0#32)) (Scalar.extui (Scalar.cmpi .slt 512#32 0#32)) : BitVec 32))
        (Scalar.cmpi .ne (Scalar.remsi (Scalar.addi (BitVec.ofNat 32 n) 511#32) 512#32) 0#32))
      (Scalar.subi (Scalar.divsi (Scalar.addi (BitVec.ofNat 32 n) 511#32) 512#32) 1#32) (Scalar.divsi (Scalar.addi (BitVec.ofNat 32 n) 511#32) 512#32))
      = BitVec.ofNat 32 ((n + 511) / 512) := by decide +kernel
  have hs : Scalar.cmpi .sge (Scalar.muli (BitVec.ofNat 32 (i 0).val) 256#32) (BitVec.ofNat 32 n) = 1#1 ↔ n ≤ 256 * (i 0).val := by
    have e : Scalar.muli (BitVec.ofNat 32 (i 0).val) 256#32 = BitVec.ofNat 32 (256 * (i 0).val) := by
      show BitVec.ofNat 32 (i 0).val * 256#32 = _
      rw [BitVec.ofNat_mul, BitVec.mul_comm]
    rw [e]
    show IntOp.cmpi .sge (BitVec.ofNat 32 (256 * (i 0).val)) (BitVec.ofNat 32 n) = 1#1 ↔ _
    rw [Row.cmpi_sge_one, Row.word_toInt _ (by omega), Row.word_toInt _ (by omega)]
    omega
  unfold tripWord trips
  rw [h n (by omega)]
  by_cases hc : n ≤ 256 * (i 0).val
  · rw [if_pos hc, hs.mpr hc]; rfl
  · rw [if_neg hc]
    rcases (by decide : ∀ b : BitVec 1, b = 1#1 ∨ b = 0#1) (Scalar.cmpi .sge (Scalar.muli (BitVec.ofNat 32 (i 0).val) 256#32) (BitVec.ofNat 32 n)) with e | e
    · exact absurd (hs.mp e) hc
    · rw [e]; rfl

theorem chk_ok {L : ℕ} (hL : L ≤ 10) : k0_chk1 (BitVec.ofNat 32 L) := by
  interval_cases L <;> decide +kernel

theorem trips1 {L : ℕ} (hL : L ≤ 10) : (k0_t1_loop (BitVec.ofNat 32 L)).trips = L := by
  interval_cases L <;> decide +kernel

theorem trip_lt {L : ℕ} (hL : L ≤ 10) (k : Fin (k0_t1_loop (BitVec.ofNat 32 L)).trips) : k.val < 10 :=
  lt_of_lt_of_le (lt_of_lt_of_eq k.isLt (trips1 hL)) hL

theorem trips2 {L : ℕ} (hL : L ≤ 10) : (k0_t2_loop (BitVec.ofNat 32 L)).trips = 0 := by
  interval_cases L <;> decide +kernel

end Cert.Proof.Sc

end
-- ==== Proof.NmsRun.lean ====
/-
  The run of the suppression kernel's body.
-/
module

public import proofs.«01_k».proof.Proof.NmsTrips

@[expose] public section

set_option maxRecDepth 16384

noncomputable section

namespace Cert.Proof.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] [SumTest F]

local notation "𝕄" => MT nD τ sig (HIx 1) (Elt F) ℕ UU ℕ

section Body

variable (c : Dev nD) (E : Set ℕ) (i : grid0.Coords)
  (arg1 : Memref sig .tc .smem S1 .i32) (harg1 : arg1.IsWhole) (arg2 : Memref sig .tc .vmem S256x8 .f32) (harg2 : arg2.IsWhole)
  (arg3 : Memref sig .tc .vmem S8x5120 .f32) (harg3 : arg3.IsWhole) (arg4 : Memref sig .tc .vmem S256x8 .f32) (harg4 : arg4.IsWhole)
  (arg5 : Memref sig .tc .vmem S256x16 .i32) (harg5 : arg5.IsWhole) (arg6 : Memref sig .tc .vmem S256x512 .i32) (harg6 : arg6.IsWhole)
  (arg7 : Memref sig .tc .vmem S256x1 .f32) (harg7 : arg7.IsWhole) (arg8 : Memref sig .tc .vmem S256x1 .i32) (harg8 : arg8.IsWhole)
  (arg9 : Memref sig .tc .vmem S256x16 .i32) (harg9 : arg9.IsWhole) (arg10 : Memref sig .tc .smem S1 .i32) (harg10 : arg10.IsWhole)
  (x0 : Vec F S256x8 .f32) (x1 : Vec F S8x5120 .f32)

theorem cnt_zero : (k0_pay38 : Vec F S256x1 .i32) = cntAt i x0 x1 0 := by
  funext j
  unfold k0_pay38 cntAt Row.cnt
  simp
  rfl

theorem idx_zero : (k0_pay39 5120#32 : Vec F S256x16 .i32) = idxAt i x0 x1 0 := rfl

/-- The body's run. -/
theorem sound_nms (n : ℕ) (hn : n ≤ 5000) (Kp : PUnit → sProp 𝕄) :
    iprop(owns (c : Thread nD τ) arg1 fullShare (fun _ => BitVec.ofNat 32 n) ∗ owns (c : Thread nD τ) arg2 fullShare x0 ∗ owns (c : Thread nD τ) arg3 fullShare x1
        ∗ (∃ g, owns (c : Thread nD τ) arg4 fullShare g) ∗ (∃ g, owns (c : Thread nD τ) arg5 fullShare g) ∗ (∃ g, owns (c : Thread nD τ) arg6 fullShare g)
        ∗ (∃ g, owns (c : Thread nD τ) arg7 fullShare g) ∗ (∃ g, owns (c : Thread nD τ) arg8 fullShare g) ∗ (∃ g, owns (c : Thread nD τ) arg9 fullShare g)
        ∗ (∃ g, owns (c : Thread nD τ) arg10 fullShare g)
        ∗ ((owns (c : Thread nD τ) arg1 fullShare (fun _ => BitVec.ofNat 32 n) ∗ owns (c : Thread nD τ) arg2 fullShare x0 ∗ owns (c : Thread nD τ) arg3 fullShare x1
            ∗ owns (c : Thread nD τ) arg4 fullShare (k0_pay1 (k0_pay35 x0) (supAt i x0 x1 (trips i n)) (cntAt i x0 x1 (trips i n)))
            ∗ owns (c : Thread nD τ) arg5 fullShare (idxAt i x0 x1 (trips i n)) ∗ (∃ g, owns (c : Thread nD τ) arg6 fullShare g)
            ∗ (∃ g, owns (c : Thread nD τ) arg7 fullShare g) ∗ (∃ g, owns (c : Thread nD τ) arg8 fullShare g) ∗ (∃ g, owns (c : Thread nD τ) arg9 fullShare g)
            ∗ (∃ g, owns (c : Thread nD τ) arg10 fullShare g)) -∗ Kp ()))
      ⊢ wp frame (wpE (defs₀ (F := F)) 𝒱₀ c none) E
          (cc0__nms_body (F := F) i arg1 harg1 arg2 harg2 arg3 harg3 arg4 harg4 arg5 harg5 arg6 harg6 arg7 harg7 arg8 harg8 arg9 harg9 arg10 harg10) Kp := by
  rw [cc0__nms_body_eq_skeleton]; unfold cc0__nms_body_skel
  simp only [k0_part5_eq_skeleton, k0_part6_eq_skeleton]
  unfold k0_part5_skel k0_part6_skel
  simp only [owns]
  iintro ⟨⟨%f1, %hf1, H1⟩, ⟨%f2, %hf2, H2⟩, ⟨%f3, %hf3, H3⟩, ⟨%g4, %f4, -, H4⟩, ⟨%g5, %f5, -, H5⟩, ⟨%g6, %f6, -, H6⟩, ⟨%g7, %f7, -, H7⟩, ⟨%g8, %f8, -, H8⟩, ⟨%g9, %f9, -, H9⟩, ⟨%g10, %f10, -, H10⟩, HK⟩
  have e2 := (readAt_whole c arg2 f2 off0s inb_S256x8_S256x8_0_0).trans hf2
  sl_exec
  have hv : sound_nms.sl.r arg1 f1 = BitVec.ofNat 32 n := congrFun hf1 _
  have hL : sound_nms.sl.r_2 i arg1 f1 = BitVec.ofNat 32 (trips i n) := by
    refine Eq.trans ?_ (tripWord_eq i hn)
    rw [← hv]
    rfl
  rw [hL]
  have hL10 := trips_le i hn
  generalize trips i n = L at hL10 ⊢
  have hchk := chk_ok hL10
  sl_exec
  dsimp only
  rw [wp_bind]
  sl_for (fun k _ => chunkRes c i arg3 arg6 arg7 arg8 arg9 x0 x1 k) $$ [H3 H6 H7 H8 H9]
  · intro k _
    exact chunk_step c E i arg1 harg1 arg2 harg2 arg3 harg3 arg4 harg4 arg5 harg5 arg6 harg6 arg7 harg7 arg8 harg8 arg9 harg9 arg10 harg10 x0 x1 _ _ k (trip_lt hL10 k) _ _
  · unfold chunkRes
    isplitl [H3]
    · unfold owns; iexists f3; isplitr; ipureintro; exact hf3; iexact H3
    isplitl [H6]
    · iexists _; unfold owns; iexists f6; isplitr; ipureintro; rfl; iexact H6
    isplitl [H7]
    · iapply (owns_written c arg7 f7 off0s inb_S256x1_S256x1_0_0) $$ H7
    isplitl [H8]
    · rw [← cnt_zero i x0 x1]
      iapply (owns_written c arg8 f8 off0s inb_S256x1_S256x1_0_0) $$ H8
    · rw [← idx_zero i x0 x1]
      iapply (owns_written c arg9 f9 off0s inb_S256x16_S256x16_0_0) $$ H9
  iintro %_ HI
  sl_for0 (trips2 hL10)
  have et : Scf.trips (k0_t1_loop (BitVec.ofNat 32 L)).lb (k0_t1_loop (BitVec.ofNat 32 L)).ub (k0_t1_loop (BitVec.ofNat 32 L)).st = L := trips1 hL10
  rw [et]
  unfold chunkRes owns
  icases HI with ⟨⟨%f3, %hf3, H3⟩, ⟨%g6, %f6, -, H6⟩, ⟨%f7, %hf7, H7⟩, ⟨%f8, %hf8, H8⟩, ⟨%f9, %hf9, H9⟩⟩
  have e7 := (readAt_whole c arg7 f7 off0s inb_S256x1_S256x1_0_0).trans hf7
  have e8 := (readAt_whole c arg8 f8 off0s inb_S256x1_S256x1_0_0).trans hf8
  have e9 := (readAt_whole c arg9 f9 off0s inb_S256x16_S256x16_0_0).trans hf9
  sl_exec
  dsimp only
  sl_step
  iapply HK
  isplitl [H1]; · iexists f1; isplitr; ipureintro; exact hf1; iexact H1
  isplitl [H2]; · iexists f2; isplitr; ipureintro; exact hf2; iexact H2
  isplitl [H3]; · iexists f3; isplitr; ipureintro; exact hf3; iexact H3
  isplitl [H4]
  · iapply (owns_open c arg4 _)
    iapply (owns_written c arg4 f4 off0s inb_S256x8_S256x8_0_0) $$ H4
  isplitl [H5]
  · iapply (owns_open c arg5 _)
    iapply (owns_written c arg5 f5 off0s inb_S256x16_S256x16_0_0) $$ H5
  isplitl [H6]; · iexists _; iexists f6; isplitr; ipureintro; rfl; iexact H6
  isplitl [H7]; · iexists _; iexists f7; isplitr; ipureintro; rfl; iexact H7
  isplitl [H8]; · iexists _; iexists f8; isplitr; ipureintro; rfl; iexact H8
  isplitl [H9]; · iexists _; iexists f9; isplitr; ipureintro; rfl; iexact H9
  iexists _; iexists _; isplitr
  swap; · iexact H10
  ipureintro; rfl

end Body

end Cert.Proof.Sc

end
-- ==== Proof.Merge.lean ====
/-
  The merge call: what its body leaves in the result's block at a grid point, and the data of a region of @main.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays
public import Idealize.ShloMosaic.Lib.Pipeline.Value
public import Idealize.ShloMosaic.Lib.Tactic

@[expose] public section

set_option maxRecDepth 16384

noncomputable section

namespace Cert.Proof.Sc

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation arrRef arrRefs scopedRest)

variable {F : FTy → Type} [FloatOps F] [Named F]

local notation "𝕄" => MT nD τ sig (HIx 1) (Elt F) ℕ UU ℕ

/-! ## The body -/

abbrev rM0 : Rect S512x128 := Rect.unit (s := S512x128) ![0, 0] S512x128.size inb_S512x128_S512x128_0_0
abbrev rM1 : Rect S128x128 := Rect.unit (s := S128x128) ![0, 0] S128x128.size inb_S128x128_S128x128_0_0
abbrev rM2 : Rect S1x128 := Rect.unit (s := S1x128) ![0, 0] S1x128.size inb_S1x128_S1x128_0_0
abbrev rM3 : Rect S512x8 := Rect.unit (s := S512x8) ![0, 0] S512x8.size inb_S512x8_S512x8_0_0

theorem off00 : (![0, 0] : Fin 2 → ℕ) = fun _ => 0 := by funext a; fin_cases a <;> rfl
theorem ldM0 (x : Vec F S512x128 .f32) : View.ld x rM0 = x := View.ld_unit_zero off00 _ x
theorem ldM1 (x : Vec F S128x128 .f32) : View.ld x rM1 = x := View.ld_unit_zero off00 _ x
theorem ldM2 (x : Vec F S1x128 .f32) : View.ld x rM2 = x := View.ld_unit_zero off00 _ x
theorem ldM3 (x : Vec F S512x8 .f32) : View.ld x rM3 = x := View.ld_unit_zero off00 _ x

/-- What the body stores, from the blocks it loads. -/
def mergePay (x0 : Vec F S512x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S512x8 .f32) (x8 : Vec F S512x8 .f32) : Vec F S512x8 .f32 :=
  k2_pay1 (k2_pay2 x0 x1 x2 x3 x4 x5 x6) (k2_pay3 (F := F)) x7 x8

/-- The result's buffer after the body: what was stored, where it was stored. -/
def mergeOut (x0 : Vec F S512x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S512x8 .f32) (x8 : Vec F S512x8 .f32) : Vec F S512x8 .f32 :=
  View.canon [⟨rM3, k2_pay1 (k2_pay2 (View.ld x0 rM0) (View.ld x1 rM1) (View.ld x2 rM2) (View.ld x3 rM1) (View.ld x4 rM2) (View.ld x5 rM1) (View.ld x6 rM2))
    (k2_pay3 (F := F)) (View.ld x7 rM3) (View.ld x8 rM3)⟩]

theorem coverM (p0 : Vec F S512x8 .f32) (y : S512x8.Idx) :
    ∃ pc ∈ ([⟨rM3, p0⟩] : List (View.Piece (Elt F) S512x8 .f32)), y ∈ pc.1.set :=
  View.cover_of_tiled [⟨rM3, p0⟩] S512x8.size (by rfl) y

theorem canonM (p0 : Vec F S512x8 .f32) : View.canon ([⟨rM3, p0⟩] : List (View.Piece (Elt F) S512x8 .f32)) = p0 :=
  View.canon_unit_zero off00 _ p0

theorem mergeOut_eq (x0 : Vec F S512x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S512x8 .f32) (x8 : Vec F S512x8 .f32) : mergeOut x0 x1 x2 x3 x4 x5 x6 x7 x8 = mergePay x0 x1 x2 x3 x4 x5 x6 x7 x8 := by
  unfold mergeOut mergePay
  rw [canonM, ldM0, ldM1, ldM2, ldM1, ldM2, ldM1, ldM2, ldM3, ldM3]

set_option maxHeartbeats 1000000 in
/-- The body on whole buffers, the inputs at `x0` to `x8`, leaves the inputs as they were and the result at `mergeOut`. -/
theorem sound_merge (c : Dev nD) (E : Set ℕ) (i : grid2.Coords) (arg1 : Memref sig .tc .vmem S512x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x8 .f32) (harg8 : arg8.IsWhole) (arg9 : Memref sig .tc .vmem S512x8 .f32) (harg9 : arg9.IsWhole) (arg10 : Memref sig .tc .vmem S512x8 .f32) (harg10 : arg10.IsWhole)
    (x0 : Vec F S512x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S512x8 .f32) (x8 : Vec F S512x8 .f32) (Kp : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (mergeOut x0 x1 x2 x3 x4 x5 x6 x7 x8)) -∗ Kp ⟨⟩))
      ⊢ wp frame (wpE (defs₀ (F := F)) 𝒱₀ c none) E (cc2__merge_body i arg1 harg1 arg2 harg2 arg3 harg3 arg4 harg4 arg5 harg5 arg6 harg6 arg7 harg7 arg8 harg8 arg9 harg9 arg10 harg10) Kp := by
  simp only [cc2__merge_body_eq_skeleton]; unfold cc2__merge_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverM _)

/-! ## The call's data: the arrays at entry and what each point leaves -/

variable (V : Dev nD → Valuation τ sig (Elt F)) (O : Dev nD → CellTallies nD τ sig (HIx 1)) (bnd : ℕ)

/-- Window `w`'s block at point `t`, of its array at entry. -/
def mblk (c : Dev nD) (w : Fin (cfg2 (F := F)).W) (t : Fin (cfg2 (F := F)).N) : (((cfg2 (F := F)).win w).xblock ((cfg2 (F := F)).grid.coords t)).Idx → Elt F ((cfg2 (F := F)).win w).elt :=
  (((cfg2 (F := F)).win w).blk t).view.read (Elt F) (V c (Proc.devRef .tc (arrRef spec2 w)))

/-- The pairs that a thread may have recorded below the bound. -/
def recBelow (c : Dev nD) : Set (SemLoc sig × HIx 1) := {p | (K (F := F)).lev (T c, p.1) p.2 ≤ bnd}

/-- The proof data: the arrays at entry, the inputs' buffers kept, the result's buffer at `mergeOut` of the blocks. -/
def datM (c : Dev nD) : Dat τ (Elt F) (HIx 1) ℕ UU ℕ (cfg2 (F := F)) c where
  A w := V c (Proc.devRef .tc (arrRef spec2 w))
  after w t := match w with
    | ⟨0, _⟩ => mblk V c 0 t
    | ⟨1, _⟩ => mblk V c 1 t
    | ⟨2, _⟩ => mblk V c 2 t
    | ⟨3, _⟩ => mblk V c 3 t
    | ⟨4, _⟩ => mblk V c 4 t
    | ⟨5, _⟩ => mblk V c 5 t
    | ⟨6, _⟩ => mblk V c 6 t
    | ⟨7, _⟩ => mblk V c 7 t
    | ⟨8, _⟩ => mblk V c 8 t
    | ⟨9, _⟩ => mergeOut (mblk V c 0 t) (mblk V c 1 t) (mblk V c 2 t) (mblk V c 3 t) (mblk V c 4 t) (mblk V c 5 t) (mblk V c 6 t) (mblk V c 7 t) (mblk V c 8 t)
  Φ _ := scopedRest spec2 c
  q _ := fullShare
  owed _ := O c
  recorded _ := recBelow (F := F) bnd c

theorem datM_A (c : Dev nD) (w : Fin (cfg2 (F := F)).W) : (datM V O bnd c).A w = V c (Proc.devRef .tc (arrRef spec2 w)) := by
  dsimp only [datM]
theorem datM_after0 (c : Dev nD) (t : Fin (cfg2 (F := F)).N) : (datM V O bnd c).after 0 t = mblk V c 0 t := rfl
theorem datM_after1 (c : Dev nD) (t : Fin (cfg2 (F := F)).N) : (datM V O bnd c).after 1 t = mblk V c 1 t := rfl
theorem datM_after2 (c : Dev nD) (t : Fin (cfg2 (F := F)).N) : (datM V O bnd c).after 2 t = mblk V c 2 t := rfl
theorem datM_after3 (c : Dev nD) (t : Fin (cfg2 (F := F)).N) : (datM V O bnd c).after 3 t = mblk V c 3 t := rfl
theorem datM_after4 (c : Dev nD) (t : Fin (cfg2 (F := F)).N) : (datM V O bnd c).after 4 t = mblk V c 4 t := rfl
theorem datM_after5 (c : Dev nD) (t : Fin (cfg2 (F := F)).N) : (datM V O bnd c).after 5 t = mblk V c 5 t := rfl
theorem datM_after6 (c : Dev nD) (t : Fin (cfg2 (F := F)).N) : (datM V O bnd c).after 6 t = mblk V c 6 t := rfl
theorem datM_after7 (c : Dev nD) (t : Fin (cfg2 (F := F)).N) : (datM V O bnd c).after 7 t = mblk V c 7 t := rfl
theorem datM_after8 (c : Dev nD) (t : Fin (cfg2 (F := F)).N) : (datM V O bnd c).after 8 t = mblk V c 8 t := rfl
theorem datM_after9 (c : Dev nD) (t : Fin (cfg2 (F := F)).N) : (datM V O bnd c).after 9 t = mergeOut (mblk V c 0 t) (mblk V c 1 t) (mblk V c 2 t) (mblk V c 3 t) (mblk V c 4 t) (mblk V c 5 t) (mblk V c 6 t) (mblk V c 7 t) (mblk V c 8 t) := rfl

theorem datM_before0 (c : Dev nD) (t : Fin (cfg2 (F := F)).N) (d) : (datM V O bnd c).before 0 t d = mblk V c 0 t :=
  ((datM V O bnd c).before_in_eq_fetched 0 rfl (fun _ => rfl) (fun _ _ _ => rfl) (fun t => by rw [datM_after0]; unfold Dat.blockOf mblk; rw [datM_A]; try rfl) t d).trans
    (by unfold Dat.fetched Dat.blockOf mblk; rw [datM_A]; try rfl)
theorem datM_before1 (c : Dev nD) (t : Fin (cfg2 (F := F)).N) (d) : (datM V O bnd c).before 1 t d = mblk V c 1 t :=
  ((datM V O bnd c).before_in_eq_fetched 1 rfl (fun _ => rfl) (fun _ _ _ => rfl) (fun t => by rw [datM_after1]; unfold Dat.blockOf mblk; rw [datM_A]; try rfl) t d).trans
    (by unfold Dat.fetched Dat.blockOf mblk; rw [datM_A]; try rfl)
theorem datM_before2 (c : Dev nD) (t : Fin (cfg2 (F := F)).N) (d) : (datM V O bnd c).before 2 t d = mblk V c 2 t :=
  ((datM V O bnd c).before_in_eq_fetched 2 rfl (fun _ => rfl) (fun _ _ _ => rfl) (fun t => by rw [datM_after2]; unfold Dat.blockOf mblk; rw [datM_A]; try rfl) t d).trans
    (by unfold Dat.fetched Dat.blockOf mblk; rw [datM_A]; try rfl)
theorem datM_before3 (c : Dev nD) (t : Fin (cfg2 (F := F)).N) (d) : (datM V O bnd c).before 3 t d = mblk V c 3 t :=
  ((datM V O bnd c).before_in_eq_fetched 3 rfl (fun _ => rfl) (fun _ _ _ => rfl) (fun t => by rw [datM_after3]; unfold Dat.blockOf mblk; rw [datM_A]; try rfl) t d).trans
    (by unfold Dat.fetched Dat.blockOf mblk; rw [datM_A]; try rfl)
theorem datM_before4 (c : Dev nD) (t : Fin (cfg2 (F := F)).N) (d) : (datM V O bnd c).before 4 t d = mblk V c 4 t :=
  ((datM V O bnd c).before_in_eq_fetched 4 rfl (fun _ => rfl) (fun _ _ _ => rfl) (fun t => by rw [datM_after4]; unfold Dat.blockOf mblk; rw [datM_A]; try rfl) t d).trans
    (by unfold Dat.fetched Dat.blockOf mblk; rw [datM_A]; try rfl)
theorem datM_before5 (c : Dev nD) (t : Fin (cfg2 (F := F)).N) (d) : (datM V O bnd c).before 5 t d = mblk V c 5 t :=
  ((datM V O bnd c).before_in_eq_fetched 5 rfl (fun _ => rfl) (fun _ _ _ => rfl) (fun t => by rw [datM_after5]; unfold Dat.blockOf mblk; rw [datM_A]; try rfl) t d).trans
    (by unfold Dat.fetched Dat.blockOf mblk; rw [datM_A]; try rfl)
theorem datM_before6 (c : Dev nD) (t : Fin (cfg2 (F := F)).N) (d) : (datM V O bnd c).before 6 t d = mblk V c 6 t :=
  ((datM V O bnd c).before_in_eq_fetched 6 rfl (fun _ => rfl) (fun _ _ _ => rfl) (fun t => by rw [datM_after6]; unfold Dat.blockOf mblk; rw [datM_A]; try rfl) t d).trans
    (by unfold Dat.fetched Dat.blockOf mblk; rw [datM_A]; try rfl)
theorem datM_before7 (c : Dev nD) (t : Fin (cfg2 (F := F)).N) (d) : (datM V O bnd c).before 7 t d = mblk V c 7 t :=
  ((datM V O bnd c).before_in_eq_fetched 7 rfl (fun _ => rfl) (fun _ _ _ => rfl) (fun t => by rw [datM_after7]; unfold Dat.blockOf mblk; rw [datM_A]; try rfl) t d).trans
    (by unfold Dat.fetched Dat.blockOf mblk; rw [datM_A]; try rfl)
theorem datM_before8 (c : Dev nD) (t : Fin (cfg2 (F := F)).N) (d) : (datM V O bnd c).before 8 t d = mblk V c 8 t :=
  ((datM V O bnd c).before_in_eq_fetched 8 rfl (fun _ => rfl) (fun _ _ _ => rfl) (fun t => by rw [datM_after8]; unfold Dat.blockOf mblk; rw [datM_A]; try rfl) t d).trans
    (by unfold Dat.fetched Dat.blockOf mblk; rw [datM_A]; try rfl)

/-! ## The body at a point -/

/-- What the body is called with at point `t`, -/
def preM (c : Dev nD) (t : Fin (cfg2 (F := F)).N) : sProp 𝕄 :=
  iprop((datM V O bnd c).Φ t.castSucc ∗ (datM V O bnd c).owesAt none t.castSucc
    ∗ (∃ d, owns (c : Thread nD τ) (st2_0 t) fullShare ((datM V O bnd c).before 0 t d)) ∗ (∃ d, owns (c : Thread nD τ) (st2_1 t) fullShare ((datM V O bnd c).before 1 t d)) ∗ (∃ d, owns (c : Thread nD τ) (st2_2 t) fullShare ((datM V O bnd c).before 2 t d)) ∗ (∃ d, owns (c : Thread nD τ) (st2_3 t) fullShare ((datM V O bnd c).before 3 t d)) ∗ (∃ d, owns (c : Thread nD τ) (st2_4 t) fullShare ((datM V O bnd c).before 4 t d)) ∗ (∃ d, owns (c : Thread nD τ) (st2_5 t) fullShare ((datM V O bnd c).before 5 t d)) ∗ (∃ d, owns (c : Thread nD τ) (st2_6 t) fullShare ((datM V O bnd c).before 6 t d)) ∗ (∃ d, owns (c : Thread nD τ) (st2_7 t) fullShare ((datM V O bnd c).before 7 t d)) ∗ (∃ d, owns (c : Thread nD τ) (st2_8 t) fullShare ((datM V O bnd c).before 8 t d)) ∗ (∃ d, owns (c : Thread nD τ) (st2_9 t) fullShare ((datM V O bnd c).before 9 t d)))

/-- and what it returns. -/
def postM (c : Dev nD) (t : Fin (cfg2 (F := F)).N) : sProp 𝕄 :=
  iprop((datM V O bnd c).Φ t.succ ∗ (datM V O bnd c).owesAt none t.succ
    ∗ owns (c : Thread nD τ) (st2_0 t) fullShare ((datM V O bnd c).after 0 t) ∗ owns (c : Thread nD τ) (st2_1 t) fullShare ((datM V O bnd c).after 1 t) ∗ owns (c : Thread nD τ) (st2_2 t) fullShare ((datM V O bnd c).after 2 t) ∗ owns (c : Thread nD τ) (st2_3 t) fullShare ((datM V O bnd c).after 3 t) ∗ owns (c : Thread nD τ) (st2_4 t) fullShare ((datM V O bnd c).after 4 t) ∗ owns (c : Thread nD τ) (st2_5 t) fullShare ((datM V O bnd c).after 5 t) ∗ owns (c : Thread nD τ) (st2_6 t) fullShare ((datM V O bnd c).after 6 t) ∗ owns (c : Thread nD τ) (st2_7 t) fullShare ((datM V O bnd c).after 7 t) ∗ owns (c : Thread nD τ) (st2_8 t) fullShare ((datM V O bnd c).after 8 t) ∗ owns (c : Thread nD τ) (st2_9 t) fullShare ((datM V O bnd c).after 9 t))

theorem bodyM (c : Dev nD) (t : Fin (cfg2 (F := F)).N) :
    preM V O bnd c t ⊢ wp frame (wpE (defs₀ (F := F)) 𝒱₀ c none) Set.univ (bodyAt2 t) (fun _ => postM V O bnd c t) := by
  unfold preM postM bodyAt2
  simp only [datM_before0, datM_before1, datM_before2, datM_before3, datM_before4, datM_before5, datM_before6, datM_before7, datM_before8]
  rw [show (datM V O bnd c).Φ t.succ = (datM V O bnd c).Φ t.castSucc from rfl,
    show (datM V O bnd c).owesAt none t.succ = (datM V O bnd c).owesAt none t.castSucc from rfl,
    datM_after0, datM_after1, datM_after2, datM_after3, datM_after4, datM_after5, datM_after6, datM_after7, datM_after8, datM_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_merge c Set.univ (grid2.coords t) _ _ _ _ _ _ _ _ _ _ _ _ _ _ _ _ _ _ _ _ (mblk V c 0 t) (mblk V c 1 t) (mblk V c 2 t) (mblk V c 3 t) (mblk V c 4 t) (mblk V c 5 t) (mblk V c 6 t) (mblk V c 7 t) (mblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row_body (t : Fin (cfg2 (F := F)).N) : defs₀ (F := F) .tc (cfg2 (F := F)).body ((cfg2 (F := F)).bodyArgs t ((cfg2 (F := F)).slots t)) = bodyAt2 t := by
  rfl

theorem obligation (c : Dev nD) : BodyObligation (datM V O bnd c) (defs₀ (F := F)) 𝒱₀ none Set.univ := fun t => by
  rw [bigSep_W2, bigSep_W2, row_body]
  exact triple_restated (bodyM V O bnd c t) rfl .rfl fun _ => .rfl

end Cert.Proof.Sc

end
-- ==== Proof.NmsCall.lean ====
/-
  The suppression call: what its body leaves in the results' blocks at a grid point, and the data of
  a region of @main, with the number of valid boxes in its table.
-/
module

public import proofs.«01_k».proof.Proof.NmsRun
public import proofs.«01_k».proof.Proof.Merge
public import Idealize.ShloMosaic.Lib.Pipeline.RegionArraysT

@[expose] public section

set_option maxRecDepth 16384

noncomputable section

namespace Cert.Proof.Sc

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation arrRef arrRefs scopedRest tblRefs prefHeld)

variable {F : FTy → Type} [FloatOps F] [Named F] [SumTest F]

local notation "𝕄" => MT nD τ sig (HIx 1) (Elt F) ℕ UU ℕ

/-! ## The call's data: the arrays at entry and what each point leaves -/

variable (G : (pcfg0 (F := F)).Adm) (V : Dev nD → Valuation τ sig (Elt F)) (O : Dev nD → CellTallies nD τ sig (HIx 1)) (bnd : ℕ) (n : ℕ)

/-- The pipeline with its table's contents known. -/
abbrev cfgN : Cfg sig (Λ₀ F) := cfg0 (F := F) G

/-- Window `w`'s block at point `t`, of its array at entry. -/
def nblk (c : Dev nD) (w : Fin (cfgN G).W) (t : Fin (cfgN G).N) : (((cfgN G).win w).xblock ((cfgN G).grid.coords t)).Idx → Elt F ((cfgN G).win w).elt :=
  (((cfgN G).win w).blk t).view.read (Elt F) (V c (Proc.devRef .tc (arrRef spec0 w)))

/-- The statistics of a block of rows, from the rows and all the columns. -/
def statOut (i : grid0.Coords) (x0 : Vec F S256x8 .f32) (x1 : Vec F S8x5120 .f32) : Vec F S256x8 .f32 :=
  k0_pay1 (k0_pay35 x0) (supAt i x0 x1 (trips i n)) (cntAt i x0 x1 (trips i n))

/-- The indices of the members, likewise. -/
def idxOut (i : grid0.Coords) (x0 : Vec F S256x8 .f32) (x1 : Vec F S8x5120 .f32) : Vec F S256x16 .i32 :=
  idxAt i x0 x1 (trips i n)

/-- The proof data: the inputs' buffers kept, the results' buffers at what the body's run stores there. -/
def datN (c : Dev nD) : Dat τ (Elt F) (HIx 1) ℕ UU ℕ (cfgN G) c where
  A w := V c (Proc.devRef .tc (arrRef spec0 w))
  after w t := match w with
    | ⟨0, _⟩ => nblk G V c 0 t
    | ⟨1, _⟩ => nblk G V c 1 t
    | ⟨2, _⟩ => statOut n (grid0.coords t) (nblk G V c 0 t) (nblk G V c 1 t)
    | ⟨3, _⟩ => idxOut n (grid0.coords t) (nblk G V c 0 t) (nblk G V c 1 t)
  Φ _ := iprop(scopedRest spec0 c ∗ prefHeld pre0 c (fun _ => fullShare) G.1)
  q _ := fullShare
  owed _ := O c
  recorded _ := recBelow (F := F) bnd c

theorem datN_A (c : Dev nD) (w : Fin (cfgN G).W) : (datN G V O bnd n c).A w = V c (Proc.devRef .tc (arrRef spec0 w)) := by
  dsimp only [datN]
theorem datN_after0 (c : Dev nD) (t : Fin (cfgN G).N) : (datN G V O bnd n c).after 0 t = nblk G V c 0 t := rfl
theorem datN_after1 (c : Dev nD) (t : Fin (cfgN G).N) : (datN G V O bnd n c).after 1 t = nblk G V c 1 t := rfl
theorem datN_after2 (c : Dev nD) (t : Fin (cfgN G).N) : (datN G V O bnd n c).after 2 t = statOut n (grid0.coords t) (nblk G V c 0 t) (nblk G V c 1 t) := rfl
theorem datN_after3 (c : Dev nD) (t : Fin (cfgN G).N) : (datN G V O bnd n c).after 3 t = idxOut n (grid0.coords t) (nblk G V c 0 t) (nblk G V c 1 t) := rfl

theorem datN_before0 (c : Dev nD) (t : Fin (cfgN G).N) (d) : (datN G V O bnd n c).before 0 t d = nblk G V c 0 t :=
  ((datN G V O bnd n c).before_in_eq_fetched 0 rfl (fun _ => rfl) (fun _ _ _ => rfl) (fun t => by rw [datN_after0]; unfold Dat.blockOf nblk; rw [datN_A]; try rfl) t d).trans
    (by unfold Dat.fetched Dat.blockOf nblk; rw [datN_A]; try rfl)
theorem datN_before1 (c : Dev nD) (t : Fin (cfgN G).N) (d) : (datN G V O bnd n c).before 1 t d = nblk G V c 1 t :=
  ((datN G V O bnd n c).before_in_eq_fetched 1 rfl (fun _ => rfl) (fun _ _ _ => rfl) (fun t => by rw [datN_after1]; unfold Dat.blockOf nblk; rw [datN_A]; try rfl) t d).trans
    (by unfold Dat.fetched Dat.blockOf nblk; rw [datN_A]; try rfl)

/-! ## The body at a point -/

abbrev stN_0 (t : Fin (cfgN G).N) := ((cfgN G).win 0).stage ((cfgN G).slots t 0)
abbrev stN_1 (t : Fin (cfgN G).N) := ((cfgN G).win 1).stage ((cfgN G).slots t 1)
abbrev stN_2 (t : Fin (cfgN G).N) := ((cfgN G).win 2).stage ((cfgN G).slots t 2)
abbrev stN_3 (t : Fin (cfgN G).N) := ((cfgN G).win 3).stage ((cfgN G).slots t 3)

/-- The body on what the pipeline calls it with at point `t`. -/
abbrev bodyAtN (t : Fin (cfgN G).N) : Prog (TpuEff nD τ sig (Elt F) (Λ₀ F) .tc) PUnit :=
  cc0__nms_body (grid0.coords t) (Memref.whole main_v51) (Memref.isWhole_whole _) (spec0_0.stage ((cfgN G).slots t 0)) (hstage0_0 (((cfgN G).slots t 0).cast nbuf0_0))
    (spec0_1.stage ((cfgN G).slots t 1)) (hstage0_1 (((cfgN G).slots t 1).cast nbuf0_1)) (spec0_2.stage ((cfgN G).slots t 2)) (hstage0_2 (((cfgN G).slots t 2).cast nbuf0_2))
    (spec0_3.stage ((cfgN G).slots t 3)) (hstage0_3 (((cfgN G).slots t 3).cast nbuf0_3)) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _)

/-- What the body is called with at point `t`, -/
def preN (c : Dev nD) (t : Fin (cfgN G).N) : sProp 𝕄 :=
  iprop((datN G V O bnd n c).Φ t.castSucc ∗ (datN G V O bnd n c).owesAt none t.castSucc
    ∗ (∃ d, owns (c : Thread nD τ) (stN_0 G t) fullShare ((datN G V O bnd n c).before 0 t d)) ∗ (∃ d, owns (c : Thread nD τ) (stN_1 G t) fullShare ((datN G V O bnd n c).before 1 t d))
    ∗ (∃ d, owns (c : Thread nD τ) (stN_2 G t) fullShare ((datN G V O bnd n c).before 2 t d)) ∗ (∃ d, owns (c : Thread nD τ) (stN_3 G t) fullShare ((datN G V O bnd n c).before 3 t d)))

/-- and what it returns. -/
def postN (c : Dev nD) (t : Fin (cfgN G).N) : sProp 𝕄 :=
  iprop((datN G V O bnd n c).Φ t.succ ∗ (datN G V O bnd n c).owesAt none t.succ
    ∗ owns (c : Thread nD τ) (stN_0 G t) fullShare ((datN G V O bnd n c).after 0 t) ∗ owns (c : Thread nD τ) (stN_1 G t) fullShare ((datN G V O bnd n c).after 1 t)
    ∗ owns (c : Thread nD τ) (stN_2 G t) fullShare ((datN G V O bnd n c).after 2 t) ∗ owns (c : Thread nD τ) (stN_3 G t) fullShare ((datN G V O bnd n c).after 3 t))

/-- The table held whole is its one buffer owned. -/
theorem table_owned (c : Dev nD) :
    (prefHeld pre0 c (fun _ => fullShare) G.1 : sProp 𝕄) = owns (c : Thread nD τ) (Memref.whole main_v51) fullShare (G.1 0) := by
  refine Eq.trans ?_ (owns_whole (c : Thread nD τ) main_v51 fullShare (G.1 0)).symm
  unfold prefHeld
  rw [Finset.univ_unique, bigSep_singleton]
  rfl

/-- A scratch buffer at some contents is one owned. -/
theorem scratch_owned (c : Dev nD) (b : Ref sig .tc) :
    (iprop(∃ f : Buf (Elt F) ((c : Thread nD τ).loc b), ((c : Thread nD τ).loc b) ↦{fullShare} f) : sProp 𝕄)
      = iprop(∃ g : b.ty.Contents (Elt F), owns (c : Thread nD τ) (Memref.whole b) fullShare g) := by
  simp only [owns_whole]

theorem bodyN (hn : n ≤ 5000) (hG : G.1 0 = fun _ => BitVec.ofNat 32 n) (c : Dev nD) (t : Fin (cfgN G).N) :
    preN G V O bnd n c t ⊢ wp frame (wpE (defs₀ (F := F)) 𝒱₀ c none) Set.univ (bodyAtN G t) (fun _ => postN G V O bnd n c t) := by
  unfold preN postN bodyAtN
  simp only [datN_before0, datN_before1]
  rw [show (datN G V O bnd n c).Φ t.succ = (datN G V O bnd n c).Φ t.castSucc from rfl,
    show (datN G V O bnd n c).owesAt none t.succ = (datN G V O bnd n c).owesAt none t.castSucc from rfl,
    datN_after0, datN_after1, datN_after2, datN_after3,
    show (datN G V O bnd n c).Φ t.castSucc = iprop(scopedRest spec0 c ∗ prefHeld pre0 c (fun _ => fullShare) G.1) from rfl,
    table_owned, hG, scopedRest0_eq, scratch_owned c cc0_scratch0, scratch_owned c cc0_scratch1, scratch_owned c cc0_scratch2,
    scratch_owned c cc0_scratch3, scratch_owned c cc0_scratch4]
  iintro ⟨⟨⟨Hs0, Hs1, Hs2, Hs3, R0, R1, R2, R3, R4, R5, R6, R7, R8, R9, R10, R11, R12, R13, Hs4⟩, Ht⟩, Ho, ⟨%d0, H0⟩, ⟨%d1, H1⟩, ⟨%d2, H2⟩, ⟨%d3, H3⟩⟩
  iapply (sound_nms c Set.univ (grid0.coords t) _ _ _ _ _ _ _ _ _ _ _ _ _ _ _ _ _ _ _ _ (nblk G V c 0 t) (nblk G V c 1 t) n hn _)
  isplitl [Ht]; · iexact Ht
  isplitl [H0]; · iexact H0
  isplitl [H1]; · iexact H1
  isplitl [H2]; · iexists _; iexact H2
  isplitl [H3]; · iexists _; iexact H3
  isplitl [Hs0]; · iexact Hs0
  isplitl [Hs1]; · iexact Hs1
  isplitl [Hs2]; · iexact Hs2
  isplitl [Hs3]; · iexact Hs3
  isplitl [Hs4]; · iexact Hs4
  iintro ⟨Ht, H0, H1, H2, H3, Hs0, Hs1, Hs2, Hs3, Hs4⟩
  isplitl [Ht Hs0 Hs1 Hs2 Hs3 Hs4 R0 R1 R2 R3 R4 R5 R6 R7 R8 R9 R10 R11 R12 R13]
  · isplitr [Ht]
    · isplitl [Hs0]; · iexact Hs0
      isplitl [Hs1]; · iexact Hs1
      isplitl [Hs2]; · iexact Hs2
      isplitl [Hs3]; · iexact Hs3
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact Hs4
    · iexact Ht
  isplitl [Ho]; · iexact Ho
  isplitl [H0]; · iexact H0
  isplitl [H1]; · iexact H1
  isplitl [H2]; · iexact H2
  iexact H3

theorem row_bodyN (t : Fin (cfgN G).N) : defs₀ (F := F) .tc (cfgN G).body ((cfgN G).bodyArgs t ((cfgN G).slots t)) = bodyAtN G t := by
  rfl

theorem obligationN (hn : n ≤ 5000) (hG : G.1 0 = fun _ => BitVec.ofNat 32 n) (c : Dev nD) :
    BodyObligation (datN G V O bnd n c) (defs₀ (F := F)) 𝒱₀ none Set.univ := fun t => by
  rw [bigSep_W0, bigSep_W0, row_bodyN]
  exact triple_restated (bodyN G V O bnd n hn hG c t) rfl .rfl fun _ => .rfl

end Cert.Proof.Sc

end
-- ==== Proof.Regions.lean ====
/-
  The two calls as regions of @main: each is entered from its arrays at any contents and left with its results written
  block by block.
-/
module

public import proofs.«01_k».proof.Proof.NmsCall
public import Idealize.ShloMosaic.Lib.Pipeline.RegionArraysT

@[expose] public section

set_option maxRecDepth 16384

noncomputable section

namespace Cert.Proof.Sc

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation arrRef arrRefs scopedRest tblRefs prefHeld)

variable {F : FTy → Type} [FloatOps F] [Named F] [SumTest F]

local notation "𝕄" => MT nD τ sig (HIx 1) (Elt F) ℕ UU ℕ

variable (G : (pcfg0 (F := F)).Adm) (V : Dev nD → Valuation τ sig (Elt F)) (O : Dev nD → CellTallies nD τ sig (HIx 1)) (bnd : ℕ) (n : ℕ)

/-- The first call's table at `G`, the second's none. -/
abbrev adm : (p : Fin 2) → ((pcfgs (F := F)) p).Adm
  | ⟨0, _⟩ => G
  | ⟨1, _⟩ => (cfg2 (F := F)).toPCfg_adm

/-- The two calls' data, each from the same contents and debts. -/
def dats : (p : Fin 2) → (c : Dev nD) → Dat τ (Elt F) (HIx 1) ℕ UU ℕ (Pipeline.pin pcfgs (adm G) p) c
  | ⟨0, _⟩ => fun c => datN G V O bnd n c
  | ⟨1, _⟩ => fun c => datM V O bnd c

/-- The core's debts and the bound of what it has recorded. -/
def owesBelow (c : Dev nD) : sProp 𝕄 :=
  iprop(∃ W, ⌜(K (F := F)).WBelow (T c) W bnd⌝ ∗ owes (T c) (O c) W)

/-! ## The suppression call -/

abbrev sta' : DevRef τ sig := Proc.devRef .tc (main_v52_0 : Ref sig .tc)
abbrev ind' : DevRef τ sig := Proc.devRef .tc (main_v52_1 : Ref sig .tc)

/-- The statistics and the indices that the call writes. -/
def staN (c : Dev nD) : sta'.ty.Contents (Elt F) := (datN G V O bnd n c).arrAt 2 (cfgN G).N
def indN (c : Dev nD) : ind'.ty.Contents (Elt F) := (datN G V O bnd n c).arrAt 3 (cfgN G).N

/-- The buffers after the call: the results written, all else as at entry. -/
def afterN (c : Dev nD) : Valuation τ sig (Elt F) :=
  Function.update (Function.update (V c) sta' (staN G V O bnd n c)) ind' (indN G V O bnd n c)

theorem afterN_ind (c : Dev nD) : afterN G V O bnd n c ind' = indN G V O bnd n c := by
  unfold afterN; rw [Function.update_self]
theorem afterN_sta (c : Dev nD) : afterN G V O bnd n c sta' = staN G V O bnd n c := by
  unfold afterN; rw [Function.update_of_ne (by decide), Function.update_self]
theorem afterN_of_ne (c : Dev nD) (b : DevRef τ sig) (h : b ≠ sta') (h' : b ≠ ind') : afterN G V O bnd n c b = V c b := by
  unfold afterN; rw [Function.update_of_ne h', Function.update_of_ne h]

theorem arrAtN_in (c : Dev nD) (w : Fin (cfgN G).W) (h : ((cfgN G).win w).isOut = false) (k : ℕ) :
    (datN G V O bnd n c).arrAt w k = V c (Proc.devRef .tc (arrRef spec0 w)) :=
  ((datN G V O bnd n c).arrAt_in w h k).trans (datN_A G V O bnd n c w)

theorem afterN_arr (c : Dev nD) (w : Fin (cfgN G).W) :
    (datN G V O bnd n c).arrAt w (cfgN G).N = afterN G V O bnd n c (Proc.devRef .tc (arrRef spec0 w)) := by
  rcases eq_or_ne w 3 with rfl | h3
  · exact (afterN_ind G V O bnd n c).symm
  rcases eq_or_ne w 2 with rfl | h2
  · exact (afterN_sta G V O bnd n c).symm
  refine (arrAtN_in G V O bnd n c w ((by decide : ∀ w : Fin 4, w ≠ 3 → w ≠ 2 → (spec0 w).isOut = false) w h3 h2) _).trans (afterN_of_ne G V O bnd n c _ ?_ ?_).symm
  · exact fun h => h2 (winFacts0.arr_inj (Proc.devRef_injective _ h))
  · exact fun h => h3 (winFacts0.arr_inj (Proc.devRef_injective _ h))

theorem owes_enterN (c : Dev nD) (t : Fin ((cfgN G).N + 1)) : owesBelow (F := F) O bnd c ⊢ (datN G V O bnd n c).owesAt none t := by
  unfold owesBelow Dat.owesAt Pipeline.owesWithin Dat.bound
  iintro ⟨%W, %hW, H⟩
  iexists W
  isplitr
  · ipureintro; exact fun p hp => Or.inl (hW p hp)
  iexact H

theorem owes_leaveN (c : Dev nD) (t : Fin ((cfgN G).N + 1)) : (datN G V O bnd n c).owesAt none t ⊢ owesBelow (F := F) O bnd c := by
  unfold owesBelow Dat.owesAt Pipeline.owesWithin Dat.bound
  iintro ⟨%W, %hW, H⟩
  iexists W
  isplitr
  · ipureintro
    intro p hp
    rcases hW hp with h | h
    · exact h
    · obtain ⟨w, s, rfl⟩ := h
      exact ((K (F := F)).lev_none _).trans_le (Nat.zero_le _)
  iexact H

theorem dats_N (c : Dev nD) : dats G V O bnd n 0 c = datN G V O bnd n c := rfl
theorem dats_M (c : Dev nD) : dats G V O bnd n 1 c = datM V O bnd c := rfl
theorem datN_Φ (c : Dev nD) (t) : (dats G V O bnd n 0 c).Φ t = iprop(scopedRest spec0 c ∗ prefHeld pre0 c (fun _ => fullShare) G.1) := rfl

/-- The call's arrays at entry and at its end, held. -/
theorem arraysN_enter (c : Dev nD) :
    (dats G V O bnd n 0 c).arrays ((dats G V O bnd n 0 c).arrAt · 0) = StableHlo.held (T c) (arrRefs spec0) (V c) :=
  Pipeline.arrays_held pcfgs (adm G) (dats G V O bnd n) 0 launch0 c ((datN G V O bnd n c).share_full fun _ => rfl)
    ((datN G V O bnd n c).arrAt · 0) (V c) (fun w => (datN_A G V O bnd n c w))
theorem arraysN_leave (c : Dev nD) :
    (dats G V O bnd n 0 c).arrays ((dats G V O bnd n 0 c).arrAt · (Pipeline.pin pcfgs (adm G) 0).N) = StableHlo.held (T c) (arrRefs spec0) (afterN G V O bnd n c) :=
  Pipeline.arrays_held pcfgs (adm G) (dats G V O bnd n) 0 launch0 c ((datN G V O bnd n c).share_full fun _ => rfl)
    ((datN G V O bnd n c).arrAt · (cfgN G).N) (afterN G V O bnd n c) (afterN_arr G V O bnd n c)

/-- The region of the suppression call. -/
def regionN (hn : n ≤ 5000) (hG : G.1 0 = fun _ => BitVec.ofNat 32 n) (hO : ∀ c g, O c g none = 0) :
    Pipeline.RegionSeg pcfgs (adm G) (dats G V O bnd n) none (defs₀ (F := F)) 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (obligationN G V O bnd n hn hG c).loose
  hwaits c := Pipeline.cellsWaits_intro _ _ none 0 c fun w s t => (K (F := F)).mayWait_none _ (hO c)
  pre c := iprop(StableHlo.held (T c) (arrRefs spec0) (V c) ∗ prefHeld pre0 c (fun _ => fullShare) G.1 ∗ owesBelow (F := F) O bnd c)
  post c := iprop(StableHlo.held (T c) (arrRefs spec0) (afterN G V O bnd n c) ∗ prefHeld pre0 c (fun _ => fullShare) G.1 ∗ owesBelow (F := F) O bnd c)
  X _ := iprop(emp)
  Y c := prefHeld pre0 c (fun _ => fullShare) G.1
  Z _ := iprop(emp)
  hentry c := by
    rw [Pipeline.ownSems0_none,
      ← arraysN_enter G V O bnd n c]
    iintro ⟨⟨Ha, Ht, Ho⟩, -, -⟩
    imodintro
    isplitl [Ha]; · iexact Ha
    isplitl [Ht]; · iexact Ht
    isplitl [Ho]; · iapply (owes_enterN G V O bnd n c 0); iexact Ho
    isplitr <;> iempintro
  hin c := by
    rw [datN_Φ]
    iintro ⟨-, Ht, H⟩
    isplitl [H]; · iexact H
    iexact Ht
  hout c := by
    rw [Pipeline.ownSems0_none, datN_Φ]
    iintro ⟨H, Ht⟩
    isplitl [Ht]; · iexact Ht
    isplitr; · iempintro
    iexact H
  hexit c := by
    rw [← arraysN_leave G V O bnd n c]
    iintro ⟨Ha, Ho, Ht, -⟩
    imodintro
    isplitl [Ha]; · iexact Ha
    isplitl [Ht]; · iexact Ht
    iapply (owes_leaveN G V O bnd n c (Fin.last _)); iexact Ho

theorem regionN_pre (hn : n ≤ 5000) (hG : G.1 0 = fun _ => BitVec.ofNat 32 n) (hO : ∀ c g, O c g none = 0) (c : Dev nD) :
    (regionN G V O bnd n hn hG hO).pre c
      = iprop(StableHlo.held (T c) (arrRefs spec0) (V c) ∗ prefHeld pre0 c (fun _ => fullShare) G.1 ∗ owesBelow (F := F) O bnd c) := rfl
theorem regionN_post (hn : n ≤ 5000) (hG : G.1 0 = fun _ => BitVec.ofNat 32 n) (hO : ∀ c g, O c g none = 0) (c : Dev nD) :
    (regionN G V O bnd n hn hG hO).post c
      = iprop(StableHlo.held (T c) (arrRefs spec0) (afterN G V O bnd n c) ∗ prefHeld pre0 c (fun _ => fullShare) G.1 ∗ owesBelow (F := F) O bnd c) := rfl

/-! ## The merge call -/

abbrev mrg' : DevRef τ sig := Proc.devRef .tc (main_v110 : Ref sig .tc)

/-- The merged rows that the call writes. -/
def mrgM (c : Dev nD) : mrg'.ty.Contents (Elt F) := (datM V O bnd c).arrAt 9 (cfg2 (F := F)).N

/-- The buffers after the call: the result written, all else as at entry. -/
def afterM (c : Dev nD) : Valuation τ sig (Elt F) := Function.update (V c) mrg' (mrgM V O bnd c)

theorem afterM_mrg (c : Dev nD) : afterM V O bnd c mrg' = mrgM V O bnd c := by
  unfold afterM; rw [Function.update_self]
theorem afterM_of_ne (c : Dev nD) (b : DevRef τ sig) (h : b ≠ mrg') : afterM V O bnd c b = V c b := by
  unfold afterM; rw [Function.update_of_ne h]

theorem datsM_Φ (c : Dev nD) (t) : (dats G V O bnd n 1 c).Φ t = scopedRest spec2 c := rfl

theorem arrAtM_in (c : Dev nD) (w : Fin (cfg2 (F := F)).W) (h : ((cfg2 (F := F)).win w).isOut = false) (k : ℕ) :
    (datM V O bnd c).arrAt w k = V c (Proc.devRef .tc (arrRef spec2 w)) :=
  ((datM V O bnd c).arrAt_in w h k).trans (datM_A V O bnd c w)

theorem afterM_arr (c : Dev nD) (w : Fin (cfg2 (F := F)).W) :
    (datM V O bnd c).arrAt w (cfg2 (F := F)).N = afterM V O bnd c (Proc.devRef .tc (arrRef spec2 w)) := by
  rcases eq_or_ne w 9 with rfl | hw
  · exact (afterM_mrg V O bnd c).symm
  refine (arrAtM_in V O bnd c w ((by decide : ∀ w : Fin 10, w ≠ 9 → (spec2 w).isOut = false) w hw) _).trans (afterM_of_ne V O bnd c _ ?_).symm
  exact fun h => hw (winFacts2.arr_inj (Proc.devRef_injective _ h))

theorem owes_enterM (c : Dev nD) (t : Fin ((cfg2 (F := F)).N + 1)) : owesBelow (F := F) O bnd c ⊢ (datM V O bnd c).owesAt none t := by
  unfold owesBelow Dat.owesAt Pipeline.owesWithin Dat.bound
  iintro ⟨%W, %hW, H⟩
  iexists W
  isplitr
  · ipureintro; exact fun p hp => Or.inl (hW p hp)
  iexact H

theorem owes_leaveM (c : Dev nD) (t : Fin ((cfg2 (F := F)).N + 1)) : (datM V O bnd c).owesAt none t ⊢ owesBelow (F := F) O bnd c := by
  unfold owesBelow Dat.owesAt Pipeline.owesWithin Dat.bound
  iintro ⟨%W, %hW, H⟩
  iexists W
  isplitr
  · ipureintro
    intro p hp
    rcases hW hp with h | h
    · exact h
    · obtain ⟨w, s, rfl⟩ := h
      exact ((K (F := F)).lev_none _).trans_le (Nat.zero_le _)
  iexact H

/-- The call's arrays at entry and at its end, held. -/
theorem arraysM_enter (c : Dev nD) :
    (dats G V O bnd n 1 c).arrays ((dats G V O bnd n 1 c).arrAt · 0) = StableHlo.held (T c) (arrRefs spec2) (V c) :=
  Pipeline.arrays_held pcfgs (adm G) (dats G V O bnd n) 1 launch2 c ((datM V O bnd c).share_full fun _ => rfl)
    ((datM V O bnd c).arrAt · 0) (V c) (fun w => (datM_A V O bnd c w))
theorem arraysM_leave (c : Dev nD) :
    (dats G V O bnd n 1 c).arrays ((dats G V O bnd n 1 c).arrAt · (Pipeline.pin pcfgs (adm G) 1).N) = StableHlo.held (T c) (arrRefs spec2) (afterM V O bnd c) :=
  Pipeline.arrays_held pcfgs (adm G) (dats G V O bnd n) 1 launch2 c ((datM V O bnd c).share_full fun _ => rfl)
    ((datM V O bnd c).arrAt · (cfg2 (F := F)).N) (afterM V O bnd c) (afterM_arr V O bnd c)

/-- The region of the merge call. -/
def regionM (hO : ∀ c g, O c g none = 0) :
    Pipeline.RegionSeg pcfgs (adm G) (dats G V O bnd n) none (defs₀ (F := F)) 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (obligation V O bnd c).loose
  hwaits c := Pipeline.cellsWaits_intro _ _ none 1 c fun w s t => (K (F := F)).mayWait_none _ (hO c)
  pre c := iprop(StableHlo.held (T c) (arrRefs spec2) (V c) ∗ owesBelow (F := F) O bnd c)
  post c := iprop(StableHlo.held (T c) (arrRefs spec2) (afterM V O bnd c) ∗ owesBelow (F := F) O bnd c)
  X _ := iprop(emp)
  Y _ := iprop(emp)
  Z _ := iprop(emp)
  hentry c := by
    rw [Pipeline.ownSems0_none, Pipeline.prefHeld_of_none _ rfl,
      ← arraysM_enter G V O bnd n c]
    iintro ⟨⟨Ha, Ho⟩, -, -⟩
    imodintro
    isplitl [Ha]; · iexact Ha
    isplitr; · iempintro
    isplitl [Ho]; · iapply (owes_enterM V O bnd c 0); iexact Ho
    isplitr <;> iempintro
  hin c := by
    rw [datsM_Φ]
    iintro ⟨-, -, H⟩
    iexact H
  hout c := by
    rw [Pipeline.ownSems0_none, datsM_Φ]
    iintro H
    isplitr; · iempintro
    isplitr; · iempintro
    iexact H
  hexit c := by
    rw [← arraysM_leave G V O bnd n c]
    iintro ⟨Ha, Ho, -, -⟩
    imodintro
    isplitl [Ha]; · iexact Ha
    iapply (owes_leaveM V O bnd c (Fin.last _)); iexact Ho

theorem regionM_pre (hO : ∀ c g, O c g none = 0) (c : Dev nD) :
    (regionM G V O bnd n hO).pre c = iprop(StableHlo.held (T c) (arrRefs spec2) (V c) ∗ owesBelow (F := F) O bnd c) := rfl
theorem regionM_post (hO : ∀ c g, O c g none = 0) (c : Dev nD) :
    (regionM G V O bnd n hO).post c = iprop(StableHlo.held (T c) (arrRefs spec2) (afterM V O bnd c) ∗ owesBelow (F := F) O bnd c) := rfl

end Cert.Proof.Sc

end
-- ==== Proof.Main.lean ====
/-
  @main of the kernel as one run: the boxes sorted on the host, the suppression call, the table and the addresses made on
  the host, the SparseCore call, the weights made on the host, the merge call, and the result's slice. Its end holds
  every array at what the run computes.
-/
module

public import proofs.«01_k».proof.Proof.Tile
public import proofs.«01_k».proof.Proof.Ops
public import proofs.«01_k».proof.Proof.Regions
public import Idealize.ShloMosaic.Lib.Pipeline.Frame

@[expose] public section

set_option maxRecDepth 16384

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split held_congr seq after tcRefs after_of_writes_sub forall_writes_sub_of_map)
open Idealize.ShloMosaic.Pipeline (ucRefs unscopedBufs_held sub_ucRefs arrRef arrRefs tblRefs prefHeld)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [SumTest F]

local notation "𝕄" => MT nD τ sig (HIx 1) (Elt F) ℕ UU ℕ

/-! ## The arrays' contents along the way -/

variable (m : (ℓ : Loc nD τ sig) → Buf (Elt F) ℓ) (ρ : Dev nD → PrngReg)

abbrev tab' : DevRef τ sig := Proc.devRef .tc (main_v58 : Ref sig .tc)
abbrev adr' : DevRef τ sig := Proc.devRef .tc (main_v68 : Ref sig .tc)
abbrev out' : DevRef τ sig := Proc.devRef .tc (main_v69 : Ref sig .tc)
abbrev res' : DevRef τ sig := Proc.devRef .tc (main_v111 : Ref sig .tc)
abbrev nva' : DevRef τ sig := Proc.devRef .tc (main_v51 : Ref sig .tc)

/-- The launch's contents, those when the suppression call starts. -/
def V0 (d : Dev nD) : Valuation τ sig (Elt F) := fun b => m (d, b)
def V1 (d : Dev nD) : Valuation τ sig (Elt F) := after opsFst (V0 m d)

/-- A table from a valuation, and its one word. -/
def tabW (W : Valuation τ sig (Elt F)) : (pcfg0 (F := F)).Adm := ⟨fun k => W (Proc.devRef .tc (pre0.ref k)), trivial⟩
theorem tabW_zero (W : Valuation τ sig (Elt F)) : (tabW W).1 0 = (W nva' : Vec F S1 .i32) := rfl
theorem word_const (v : Vec F S1 .i32) : v = fun _ => BitVec.ofNat 32 (v (ix1 0)).toNat := by
  funext i
  have e : i = ix1 0 := by
    funext a
    match a with | ⟨0, _⟩ => exact Subsingleton.elim (α := Fin 1) _ _
  rw [e]
  exact ((BitVec.ofNat_toNat 32 (v (ix1 0))).trans (BitVec.setWidth_eq _)).symm

/-- The table that the suppression call reads, and the number in it. -/
def tabN : (pcfg0 (F := F)).Adm := tabW (V1 m 0)
def nvVec : Vec F S1 .i32 := V1 m 0 nva'
def nv : ℕ := (nvVec m (ix1 0)).toNat

theorem tabN_eq : (tabN m).1 0 = fun _ => BitVec.ofNat 32 (nv m) :=
  (tabW_zero (V1 m 0)).trans (word_const (nvVec m))

abbrev ON (d : Dev nD) : CellTallies nD τ sig (HIx 1) := (K (F := F)).Otc d 0
abbrev bN : ℕ := 8 * (0 : ℕ)

/-- When the suppression call ends, when the SparseCore call starts, when it ends. -/
def V2 (d : Dev nD) : Valuation τ sig (Elt F) := afterN (tabN m) (V1 m) (ON (F := F)) bN (nv m) d
def V3 (d : Dev nD) : Valuation τ sig (Elt F) := after opsPre (V2 m d)
abbrev TB (d : Dev nD) : Buf (Elt F) (tabLoc d) := V3 m d tab'
abbrev AD (d : Dev nD) : Buf (Elt F) (adrLoc d) := V3 m d adr'
abbrev O0 (d : Dev nD) : Buf (Elt F) (outLoc d) := V3 m d out'
def V4 (d : Dev nD) : Valuation τ sig (Elt F) := Function.update (V3 m d) out' (OT (TB m) (AD m) d)
/-- When the merge call starts, when it ends, at the end. -/
def V5 (d : Dev nD) : Valuation τ sig (Elt F) := after opsMid (V4 m d)
abbrev OM (d : Dev nD) : CellTallies nD τ sig (HIx 1) := (K (F := F)).Otc d 1
abbrev bM : ℕ := 8 * (1 : ℕ)
def V6 (d : Dev nD) : Valuation τ sig (Elt F) := afterM (V5 m) (OM (F := F)) bM d
def V7 (d : Dev nD) : Valuation τ sig (Elt F) := after opsPost (V6 m d)

/-- The arrays the call works on. -/
abbrev S3 : Finset (DevRef τ sig) := {tab', adr', out'}

theorem S3_sub : S3 ⊆ ucRefs τ sig := by decide
theorem held_S3 (d : Dev nD) (W : Valuation τ sig (Elt F)) :
    (held (T d) S3 W : sProp 𝕄) = iprop((tabLoc d ↦{fullShare} W tab') ∗ (adrLoc d ↦{fullShare} W adr') ∗ outLoc d ↦{fullShare} W out') := by
  unfold held S3
  rw [SparseCore.bigSep_insert' (by decide), SparseCore.bigSep_insert' (by decide), bigSep_singleton]

/-- The suppression call's arrays and its table are among the buffers held. -/
theorem arrsN_sub : arrRefs (τ := τ) spec0 ⊆ ucRefs τ sig := Pipeline.arrRefs_sub_ucRefs spec0 winFacts0.arr_unscoped
theorem tblN_sub : tblRefs (τ := τ) pre0 ⊆ ucRefs τ sig \ arrRefs spec0 := Pipeline.tblRefs_sub_ucRefs_sdiff spec0 pre0 preFacts0.unscoped preFacts0.disj

theorem held_V1 (d : Dev nD) :
    (held (T d) (ucRefs τ sig) (V1 m d) : sProp 𝕄)
      = iprop(held (T d) (arrRefs spec0) (V1 m d) ∗ prefHeld pre0 d (fun _ => fullShare) (tabN m).1 ∗ held (T d) ((ucRefs τ sig \ arrRefs spec0) \ tblRefs pre0) (V1 m d)) := by
  rw [held_sub_split (T d) arrsN_sub, held_sub_split (T d) tblN_sub,
    Pipeline.prefHeld_held pre0 preFacts0.inj d (tabN m).1 (V1 m d) (fun k => by rw [Subsingleton.elim d 0]; rfl)]
theorem held_V2 (d : Dev nD) :
    (held (T d) (ucRefs τ sig) (V2 m d) : sProp 𝕄)
      = iprop(held (T d) (arrRefs spec0) (afterN (tabN m) (V1 m) (ON (F := F)) bN (nv m) d) ∗ prefHeld pre0 d (fun _ => fullShare) (tabN m).1
          ∗ held (T d) ((ucRefs τ sig \ arrRefs spec0) \ tblRefs pre0) (V1 m d)) := by
  rw [held_sub_split (T d) arrsN_sub]
  have hrest : (held (T d) (ucRefs τ sig \ arrRefs spec0) (V2 m d) : sProp 𝕄) = held (T d) (ucRefs τ sig \ arrRefs spec0) (V1 m d) :=
    held_congr (T d) fun b hb => afterN_of_ne _ _ _ _ _ d b (fun e => (Finset.mem_sdiff.mp hb).2 (by rw [e]; decide)) (fun e => (Finset.mem_sdiff.mp hb).2 (by rw [e]; decide))
  rw [hrest, held_sub_split (T d) tblN_sub,
    Pipeline.prefHeld_held pre0 preFacts0.inj d (tabN m).1 (V1 m d) (fun k => by rw [Subsingleton.elim d 0]; rfl)]
  rfl

theorem held_V3 (d : Dev nD) :
    (held (T d) (ucRefs τ sig) (V3 m d) : sProp 𝕄)
      = iprop(((tabLoc d ↦{fullShare} TB m d) ∗ (adrLoc d ↦{fullShare} AD m d) ∗ outLoc d ↦{fullShare} O0 m d)
          ∗ held (T d) (ucRefs τ sig \ S3) (V3 m d)) := by
  rw [held_sub_split (T d) S3_sub, held_S3]
theorem held_V4 (d : Dev nD) :
    (held (T d) (ucRefs τ sig) (V4 m d) : sProp 𝕄)
      = iprop(((tabLoc d ↦{fullShare} TB m d) ∗ (adrLoc d ↦{fullShare} AD m d) ∗ outLoc d ↦{fullShare} OT (TB m) (AD m) d)
          ∗ held (T d) (ucRefs τ sig \ S3) (V3 m d)) := by
  rw [held_sub_split (T d) S3_sub, held_S3]
  have hrest : (held (T d) (ucRefs τ sig \ S3) (V4 m d) : sProp 𝕄) = held (T d) (ucRefs τ sig \ S3) (V3 m d) :=
    held_congr (T d) fun b hb => Function.update_of_ne (fun e => (Finset.mem_sdiff.mp hb).2 (by rw [e]; decide)) _ _
  rw [hrest]
  unfold V4
  rw [Function.update_of_ne (show tab' ≠ out' by decide), Function.update_of_ne (show adr' ≠ out' by decide), Function.update_self]

/-- The merge call's arrays are among the buffers held. -/
theorem arrs_sub : arrRefs (τ := τ) spec2 ⊆ ucRefs τ sig := Pipeline.arrRefs_sub_ucRefs spec2 winFacts2.arr_unscoped

theorem held_V5 (d : Dev nD) :
    (held (T d) (ucRefs τ sig) (V5 m d) : sProp 𝕄)
      = iprop(held (T d) (arrRefs spec2) (V5 m d) ∗ held (T d) (ucRefs τ sig \ arrRefs spec2) (V5 m d)) :=
  held_sub_split (T d) arrs_sub _
theorem held_V6 (d : Dev nD) :
    (held (T d) (ucRefs τ sig) (V6 m d) : sProp 𝕄)
      = iprop(held (T d) (arrRefs spec2) (afterM (V5 m) (OM (F := F)) bM d) ∗ held (T d) (ucRefs τ sig \ arrRefs spec2) (V5 m d)) := by
  rw [held_sub_split (T d) arrs_sub]
  have hrest : (held (T d) (ucRefs τ sig \ arrRefs spec2) (V6 m d) : sProp 𝕄) = held (T d) (ucRefs τ sig \ arrRefs spec2) (V5 m d) :=
    held_congr (T d) fun b hb => afterM_of_ne _ _ _ d b (fun e => (Finset.mem_sdiff.mp hb).2 (by rw [e]; decide))
  rw [hrest]; rfl

/-! ## The launch's ghost state -/

/-- The cells of the two pipelines. -/
abbrev cfgsP : (p : Fin 2) → Pipeline.Cfg sig (Λ₀ F) := Pipeline.pin pcfgs (adm (tabN m))
theorem injP : Function.Injective (Pipeline.cellOf (nD := nD) (τ := τ) (cfgsP m)) := cellOf_inj (adm (tabN m))

def u₀ : UU := (initOf (K (F := F)).hsCells (K (F := F)).hsToks,
  (initOf (Pipeline.cells (cfgsP m) (injP m)) (Pipeline.launchToks (cfgsP m) (injP m)), 1))

/-- What the launch hands @main for one call on the TensorCore. -/
def GP1 (p : Fin 2) (d : Dev nD) : sProp 𝕄 :=
  iprop(Pipeline.cellsGhost (cfgsP m) EP p d ∗ Pipeline.toksInit (cfgsP m) EP p d)
/-- What it hands for both. -/
def GP (d : Dev nD) : sProp 𝕄 := iprop(GP1 m 0 d ∗ GP1 m 1 d)

theorem bigSep_two (Φ : Fin 2 → sProp 𝕄) : bigSep Finset.univ Φ = iprop(Φ 0 ∗ Φ 1) :=
  bigSep_univ_eq_bigSepL [(0 : Fin 2), (1 : Fin 2)] (by decide) (by decide) Φ

theorem bigSep_emp' {α : Type} [DecidableEq α] (s : Finset α) : (bigSep s fun _ => (iprop(emp) : sProp 𝕄)) = iprop(emp) := bigSep_emp_const s

theorem own_EP (a : UP) (b : Counters) :
    (BI.own (embR ((a, b) : UP × Counters) : 𝕄) : sProp 𝕄) ⊢ iprop(BI.own (EP a) ∗ BI.own (((Emb.inr : Emb Counters (UP × Counters)).trans (embR : Emb (UP × Counters) 𝕄)) b)) :=
  own_pair_emb (embR : Emb (UP × Counters) 𝕄) a b

theorem fundP :
    (BI.own (EP (initOf (Pipeline.cells (cfgsP m) (injP m)) (Pipeline.launchToks (cfgsP m) (injP m)))) : sProp 𝕄)
      ⊢ |==> bigSep Finset.univ fun d : Dev nD => GP m d := by
  refine (Pipeline.fund_ghost (cfgsP m) EP (injP m)).trans (BI.bupd_mono ?_)
  unfold GP GP1
  simp only [bigSep_two, bigSep_sep']
  exact (Laws.sep_sep_sep_comm (PROP := sProp 𝕄)).1

theorem hu₀ : (ownU (u₀ m) : sProp 𝕄)
    ⊢ |={Set.univ}=> iprop(BI.own (EH (initOf (K (F := F)).hsCells (K (F := F)).hsToks)) ∗ (bigSep Finset.univ fun d : Dev nD => GP m d)
        ∗ bigSep Finset.univ fun thr : Thread nD τ => bigSep Finset.univ fun q : Fin 1 => (P (TB m) (AD m) (O0 m)).x q thr) := by
  unfold u₀
  iintro Hu
  ihave H := (ownU_pair _ _) $$ Hu
  icases H with ⟨HH, HR⟩
  ihave H2 := (own_EP (F := F) _ _) $$ HR
  icases H2 with ⟨HP, -⟩
  imod (fundP m) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What @main leaves the claim: every array at its final contents. -/
def FIN (d : Dev nD) : sProp 𝕄 := held (T d) (ucRefs τ sig) (V7 m d)

theorem unscoped_held (d : Dev nD) :
    (unscopedBufs d (fun b => m ((SparseCore.T d).loc b)) : sProp 𝕄) = held (T d) (ucRefs τ sig) (V0 m d) :=
  unscopedBufs_held d (V0 m d)

/-- What the TensorCore's state holds besides its debts, before call `q`. -/
def tcRest (q : ℕ) (d : Dev nD) : sProp 𝕄 :=
  iprop(atPos EH ((K (F := F)).doneCell d) q ∅ 0 ∗ reached EH ((K (F := F)).doneCell d) q
    ∗ (bigSep Finset.univ fun c : Fin τ.nSC => reached EH ((K (F := F)).startCell d c) ((K (F := F)).sRank c q))
    ∗ bigSep (SparseCore.Cfg.callsFrom q) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) : ((K (F := F)).tcSt EH d 1 : sProp 𝕄) = iprop(owesBelow (OM (F := F)) bM d ∗ tcRest (F := F) 1 d) := rfl
theorem tcSt_split0 (d : Dev nD) : ((K (F := F)).tcSt EH d 0 : sProp 𝕄) = iprop(owesBelow (ON (F := F)) bN d ∗ tcRest (F := F) 0 d) := rfl

theorem Otc_none (q : ℕ) (c : Dev nD) (g : GSem nD τ sig) : (K (F := F)).Otc c q g none = 0 := by
  rcases Nat.eq_zero_or_pos ((K (F := F)).Otc c q g none) with h | h
  · exact h
  · exact absurd ((K (F := F)).lev_of_Otc_pos h) (by rw [(K (F := F)).lev_none]; exact Nat.not_succ_le_zero _)

set_option backward.isDefEq.respectTransparency.types false in
/-- The suppression call's statement is its region's, lifted. -/
theorem lift_nms : (Prog.lift (.customCall (SparseCore.inner (Pipeline.entry 0)) ())
      : Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

/-- The suppression call on the TensorCore, between two host lists. -/
theorem wp_nms [∀ e, Nonempty (Elt F e)] (hn : nv m ≤ 5000) (d : Dev nD) (Q : PUnit → sProp 𝕄)
    (k : PUnit → Prog (TpuEff nD τ sig (Elt F) (SparseCore.Sig (ΛP (F := F)) 1) .tc) PUnit) :
    iprop(levAts (K (F := F)).L (K (F := F)).lev ∗ boundary (T d) ∗ held (T d) (ucRefs τ sig) (V1 m d) ∗ owesBelow (ON (F := F)) bN d ∗ GP1 m 0 d
        ∗ (iprop(boundary (T d) ∗ held (T d) (ucRefs τ sig) (V2 m d) ∗ owesBelow (F := F) (ON (F := F)) bN d)
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 0)) ()) >>= k) Q := by
  rw [wp_bind, lift_nms]
  refine .trans ?_ ((K (F := F)).wp_liftProg (D (F := F)) 𝒱 (T d) Set.univ none _ _)
  refine .trans ?_ (Pipeline.RegionSeg.wp pcfgs (adm (tabN m)) (dats (tabN m) (V1 m) (ON (F := F)) bN (nv m)) none (injP m) EP (defs₀ (F := F)) 𝒱₀
    (K (F := F)).L (K (F := F)).lev (regionN (tabN m) (V1 m) (ON (F := F)) bN (nv m) hn (tabN_eq m) (Otc_none (F := F) 0)) d none (fun _ h => nomatch h) .ret _)
  unfold GP1
  iintro ⟨Hlev, Hb, Hheld, Ho, ⟨Hcg, Htk⟩, Hk⟩
  ihave Hh := (Entails.of_eq (held_V1 m d)) $$ Hheld
  icases Hh with ⟨Harr, Ht, Hrest⟩
  isplitl [Hk Hrest]
  · iintro ⟨Hb, Hpost⟩
    rw [wp_ret]; imodintro
    iapply Hk
    ihave Hpost := (Entails.of_eq (regionN_post (tabN m) (V1 m) (ON (F := F)) bN (nv m) hn (tabN_eq m) (Otc_none (F := F) 0) d)) $$ Hpost
    icases Hpost with ⟨Harr, Ht, Ho⟩
    isplitl [Hb]; · iexact Hb
    isplitl [Harr Ht Hrest]
    · iapply (Entails.of_eq (held_V2 m d).symm)
      isplitl [Harr]; · iexact Harr
      isplitl [Ht]; · iexact Ht
      iexact Hrest
    iexact Ho
  isplitl [Hb]; · iexact Hb
  isplitl [Harr Ht Ho]
  · iapply (Entails.of_eq (regionN_pre (tabN m) (V1 m) (ON (F := F)) bN (nv m) hn (tabN_eq m) (Otc_none (F := F) 0) d).symm)
    isplitl [Harr]; · iexact Harr
    isplitl [Ht]; · iexact Ht
    iexact Ho
  isplitl [Hlev]; · iexact Hlev
  isplitl [Hcg]; · iexact Hcg
  iexact Htk

set_option backward.isDefEq.respectTransparency.types false in
/-- The merge call's statement is its region's, lifted. -/
theorem lift_merge : (Prog.lift (.customCall (SparseCore.inner (Pipeline.entry 1)) ())
      : Prog (TpuEff nD τ sig (Elt F) (SparseCore.Sig (ΛP (F := F)) 1) .tc) PUnit)
    = SparseCore.liftProg (.op (.customCall (Pipeline.entry 1) ()) .ret : Prog (TpuEff nD τ sig (Elt F) (ΛP (F := F)) .tc) PUnit) := rfl

/-- The merge call on the TensorCore, between two host lists. -/
theorem wp_merge [∀ e, Nonempty (Elt F e)] (d : Dev nD) (Q : PUnit → sProp 𝕄)
    (k : PUnit → Prog (TpuEff nD τ sig (Elt F) (SparseCore.Sig (ΛP (F := F)) 1) .tc) PUnit) :
    iprop(levAts (K (F := F)).L (K (F := F)).lev ∗ boundary (T d) ∗ held (T d) (ucRefs τ sig) (V5 m d) ∗ owesBelow (OM (F := F)) bM d ∗ GP1 m 1 d
        ∗ (iprop(boundary (T d) ∗ held (T d) (ucRefs τ sig) (V6 m d) ∗ owesBelow (F := F) (OM (F := F)) bM d)
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 1)) ()) >>= k) Q := by
  rw [wp_bind, lift_merge]
  refine .trans ?_ ((K (F := F)).wp_liftProg (D (F := F)) 𝒱 (T d) Set.univ none _ _)
  refine .trans ?_ (Pipeline.RegionSeg.wp pcfgs (adm (tabN m)) (dats (tabN m) (V5 m) (OM (F := F)) bM (nv m)) none (injP m) EP (defs₀ (F := F)) 𝒱₀
    (K (F := F)).L (K (F := F)).lev (regionM (tabN m) (V5 m) (OM (F := F)) bM (nv m) (Otc_none (F := F) 1)) d none (fun _ h => nomatch h) .ret _)
  unfold GP1
  iintro ⟨Hlev, Hb, Hheld, Ho, ⟨Hcg, Htk⟩, Hk⟩
  ihave Hh := (Entails.of_eq (held_V5 m d)) $$ Hheld
  icases Hh with ⟨Harr, Hrest⟩
  isplitl [Hk Hrest]
  · iintro ⟨Hb, Hpost⟩
    rw [wp_ret]; imodintro
    iapply Hk
    ihave Hpost := (Entails.of_eq (regionM_post (tabN m) (V5 m) (OM (F := F)) bM (nv m) (Otc_none (F := F) 1) d)) $$ Hpost
    icases Hpost with ⟨Harr, Ho⟩
    isplitl [Hb]; · iexact Hb
    isplitl [Harr Hrest]
    · iapply (Entails.of_eq (held_V6 m d).symm)
      isplitl [Harr]; · iexact Harr
      iexact Hrest
    iexact Ho
  isplitl [Hb]; · iexact Hb
  isplitl [Harr Ho]
  · iapply (Entails.of_eq (regionM_pre (tabN m) (V5 m) (OM (F := F)) bM (nv m) (Otc_none (F := F) 1) d).symm)
    isplitl [Harr]; · iexact Harr
    iexact Ho
  isplitl [Hlev]; · iexact Hlev
  isplitl [Hcg]; · iexact Hcg
  iexact Htk

set_option backward.isDefEq.respectTransparency.types false in
theorem hmain [∀ e, Nonempty (Elt F e)] (hn : nv m ≤ 5000) (κ : GSem nD τ sig → ℕ) (d : Dev nD) :
    iprop((K (F := F)).ctx EH (P (TB m) (AD m) (O0 m)) κ ∗ (K (F := F)).tcSt EH d 0 ∗ (K (F := F)).tcRes m ρ d ∗ GP m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, HG⟩
  unfold GP
  icases HG with ⟨HG0, HG⟩
  iapply (StableHlo.wp_seq 𝒱 none Set.univ d (ucRefs τ sig) _ opsFst fst_bufs fst_fresh (V0 m d)) $$ [Hb Hheld]
  · isplitl [Hb] <;> iassumption
  iintro ⟨Hb, Hheld⟩
  ihave Hst := (Entails.of_eq (tcSt_split0 (F := F) d)) $$ Hst
  icases Hst with ⟨Ho, Hst⟩
  iapply (wp_nms m hn d _ _)
  isplitr; · iapply ((K (F := F)).ctx_levAts (EH := EH) (P := P (TB m) (AD m) (O0 m)) κ); iexact Hctx
  isplitl [Hb]; · iexact Hb
  isplitl [Hheld]; · iexact Hheld
  isplitl [Ho]; · iexact Ho
  isplitl [HG0]; · iexact HG0
  iintro ⟨Hb, Hheld, Ho⟩
  ihave Hst := (Entails.of_eq (tcSt_split0 (F := F) d).symm) $$ [Ho Hst]
  · isplitl [Ho] <;> iassumption
  iapply (StableHlo.wp_seq 𝒱 none Set.univ d (ucRefs τ sig) _ opsPre pre_bufs pre_fresh (V2 m d)) $$ [Hb Hheld]
  · isplitl [Hb] <;> iassumption
  iintro ⟨Hb, Hheld⟩
  ihave Hh := (show (held (T d) (ucRefs τ sig) (after opsPre (V2 m d)) : sProp 𝕄) ⊢ _ from Entails.of_eq (held_V3 (F := F) m d)) $$ Hheld
  icases Hh with ⟨H3, Hrest⟩
  ihave Hp := (Entails.of_eq (whole_pieces (TB m) (AD m) (O0 m) d)) $$ H3
  icases Hp with ⟨Hk, Hp⟩
  rw [wp_bind]
  iapply ((K (F := F)).wp_run (D (F := F)) 𝒱 (EH := EH) (P := P (TB m) (AD m) (O0 m)) κ d 0) $$ [Hst Hp Hk Hrest Hb Hts HG]
  isplitr; · iexact Hctx
  isplitl [Hst]; · iexact Hst
  isplitl [Hp]
  · rw [st_eq]; iexact Hp
  iintro ⟨Hst, Hdn⟩
  ihave Hp := (Entails.of_eq (dn_eq (TB m) (AD m) (O0 m) d)) $$ Hdn
  ihave H3 := (Entails.of_eq (whole_pieces (TB m) (AD m) (OT (TB m) (AD m)) d).symm) $$ [Hk Hp]
  · isplitl [Hk] <;> iassumption
  ihave Hheld := (Entails.of_eq (held_V4 (F := F) m d).symm) $$ [H3 Hrest]
  · isplitl [H3] <;> iassumption
  iapply (StableHlo.wp_seq 𝒱 none Set.univ d (ucRefs τ sig) _ opsMid mid_bufs mid_fresh (V4 m d)) $$ [Hb Hheld]
  · isplitl [Hb] <;> iassumption
  iintro ⟨Hb, Hheld⟩
  ihave Hst := (show ((K (F := F)).tcSt EH d ((0 : Fin 1).val + 1) : sProp 𝕄) ⊢ _ from Entails.of_eq (tcSt_split (F := F) d)) $$ Hst
  icases Hst with ⟨Ho, Hst⟩
  iapply (wp_merge m d _ _)
  isplitr; · iapply ((K (F := F)).ctx_levAts (EH := EH) (P := P (TB m) (AD m) (O0 m)) κ); iexact Hctx
  isplitl [Hb]; · iexact Hb
  isplitl [Hheld]; · iexact Hheld
  isplitl [Ho]; · iexact Ho
  isplitl [HG]; · iexact HG
  iintro ⟨Hb, Hheld, Ho⟩
  iapply (StableHlo.wp_seq 𝒱 none Set.univ d (ucRefs τ sig) _ opsPost post_bufs post_fresh (V6 m d)) $$ [Hb Hheld]
  · isplitl [Hb] <;> iassumption
  iintro ⟨Hb, Hheld⟩
  rw [wp_pure]; imodintro
  isplitl [Ho Hst]
  · iapply (Entails.of_eq (tcSt_split (F := F) d).symm)
    isplitl [Ho]; · iexact Ho
    iexact Hst
  isplitl [Hheld]
  · unfold FIN V7; iexact Hheld
  isplitl [Hb] <;> iassumption

/-- The final memory is the run's contents. -/
def fq (d : Dev nD) (s' : Phys nD τ sig (Elt F)) : Prop :=
  ∀ b ∈ ucRefs τ sig, s'.mem.mem (d, b) = V7 m d b

theorem held_agree (d : Dev nD) (s' : Phys nD τ sig (Elt F)) (W : Valuation τ sig (Elt F)) (b : DevRef τ sig) (hb : b ∈ ucRefs τ sig) :
    iprop(held (T d) (ucRefs τ sig) W ∗ SI s') ⊢ (⌜s'.mem.mem (d, b) = W b⌝ : sProp 𝕄) := by
  rw [held_sub_split (T d) (Finset.singleton_subset_iff.mpr hb)]
  unfold held
  rw [bigSep_singleton]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  ((Laws.forall_intro fun b => (Laws.forall_intro fun hb => held_agree d s' (V7 m d) b hb).trans Laws.pure_forall.2)).trans Laws.pure_forall.2

/-! ## The program's run -/

/-- Every array at what the run computes, every counter at zero. -/
def QC : PUnit × MemSt nD τ sig (Elt F) → Prop := fun r =>
  (∀ d : Dev nD, ∀ b ∈ ucRefs τ sig, r.2.mem (d, b) = V7 m d b) ∧ r.2.sem = fun _ => 0

/-- A buffer that no list writes and no call writes holds what it held at launch. -/
theorem V1_arg {r : Ref sig .tc} (d : Dev nD) (h : r ∉ wFst) : V1 m d (Proc.devRef .tc r) = m (d, Proc.devRef .tc r) :=
  after_of_writes_sub opsFst (V0 m d) fst_writes h
theorem V2_of_ne {r : Ref sig .tc} (d : Dev nD) (h : r ∉ [main_v52_0, main_v52_1]) : V2 m d (Proc.devRef .tc r) = V1 m d (Proc.devRef .tc r) :=
  afterN_of_ne _ _ _ _ _ d _ (fun e => h (by rw [Proc.devRef_injective _ e]; decide)) (fun e => h (by rw [Proc.devRef_injective _ e]; decide))
theorem V3_of_ne {r : Ref sig .tc} (d : Dev nD) (h : r ∉ wPre) : V3 m d (Proc.devRef .tc r) = V2 m d (Proc.devRef .tc r) :=
  after_of_writes_sub opsPre (V2 m d) pre_writes h
theorem V4_of_ne {r : Ref sig .tc} (d : Dev nD) (h : r ≠ main_v69) : V4 m d (Proc.devRef .tc r) = V3 m d (Proc.devRef .tc r) :=
  Function.update_of_ne (fun e => h (Proc.devRef_injective _ e)) _ _
theorem V5_of_ne {r : Ref sig .tc} (d : Dev nD) (h : r ∉ wMid) : V5 m d (Proc.devRef .tc r) = V4 m d (Proc.devRef .tc r) :=
  after_of_writes_sub opsMid (V4 m d) mid_writes h
theorem V7_arg {r : Ref sig .tc} (d : Dev nD) (h1 : r ∉ wFst) (h2 : r ∉ [main_v52_0, main_v52_1]) (h3 : r ∉ wPre) (h4 : r ≠ main_v69)
    (h5 : r ∉ wMid) (h6 : r ≠ main_v110) (h7 : r ∉ wPost) : V7 m d (Proc.devRef .tc r) = m (d, Proc.devRef .tc r) :=
  (after_of_writes_sub opsPost (V6 m d) post_writes h7).trans ((afterM_of_ne _ _ _ d _ (fun e => h6 (Proc.devRef_injective _ e))).trans
    ((V5_of_ne m d h5).trans ((V4_of_ne m d h4).trans ((V3_of_ne m d h3).trans ((V2_of_ne m d h2).trans (V1_arg m d h1))))))

/-- Where the count is in its range and every address is inside the table, the program runs to its end at the run's contents. -/
theorem run_main [∀ e, Nonempty (Elt F e)] (hn : nv m ≤ 5000) (hAD : ∀ d i, (AD m d i).toNat < 41024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (TB m) (AD m) (O0 m)) (A := ∅) facts v₀
    (fun q hq => match q with | 0 => nomatch hq)
    (fun q _ => match q with | 0 => tileObl (TB m) (AD m) (O0 m) facts hAD)
    (fun q _ => match q with | 0 => SparseCore.Cfg.VecSplit.of_plain (vecSplit (TB m) (AD m) (O0 m)))
    m ρ main (fun d => GP m d) (FIN m) (u₀ m) (sep_elim_left.trans (hu₀ m)) (hmain m ρ hn) (fq m) (hfin m) (QC m)
    (fun _ h hz => ⟨fun d => h d, hz⟩)

end Cert.Proof.Sc

end
-- ==== Proof.NmsValue.lean ====
/-
  The suppression call's results read at an index: what the body leaves for the block of rows that the index lies in, from
  those rows and all the columns.
-/
module

public import proofs.«01_k».proof.Proof.Main
public import Idealize.ShloMosaic.Lib.Pipeline.ValueKit
public import Idealize.ShloMosaic.Lib.Pipeline.Covers

@[expose] public section

set_option maxRecDepth 16384

noncomputable section

namespace Cert.Proof.Sc

open Cert.KernelIdeal Cert.KernelIdeal.Gen
open Idealize.ShloMosaic Idealize.ShloMosaic.TcCoe
open Idealize.ShloMosaic.SparseCore.Cfg (HIx)
open Idealize.ShloMosaic.Rounds

variable {F : FTy → Type} [FloatOps F] [Named F] [SumTest F]
variable (G : (pcfg0 (F := F)).Adm) (V : Dev nD → Valuation τ sig (Elt F)) (O : Dev nD → CellTallies nD τ sig (HIx 1)) (bnd : ℕ) (n : ℕ)

theorem coord0 (t : Fin grid0.N) : (BitVec.ofNat 32 (grid0.coords t 0).val).toNat = t.val := by
  revert t; decide +kernel
theorem ncoord (t : Fin grid0.N) : (grid0.coords t 0).val = t.val := by
  revert t; decide +kernel
theorem nidx0 (t : Fin grid0.N) : ((pcfg0 (F := F)).win G 0).index t = ![t.val, 0] := congrArg (fun k => ![k, 0]) (coord0 t)
theorem nidx1 (t : Fin grid0.N) : ((pcfg0 (F := F)).win G 1).index t = ![0, 0] := rfl
theorem nidx2 (t : Fin grid0.N) : ((pcfg0 (F := F)).win G 2).index t = ![t.val, 0] := congrArg (fun k => ![k, 0]) (coord0 t)
theorem nidx3 (t : Fin grid0.N) : ((pcfg0 (F := F)).win G 3).index t = ![t.val, 0] := congrArg (fun k => ![k, 0]) (coord0 t)

theorem nrows_lt (t : Fin grid0.N) (r : Fin 256) : t.val * 256 + r.val < 5120 := by
  have h : t.val < 20 := t.isLt
  omega

theorem nblk0 (c : Dev nD) (t : Fin grid0.N) (r : Fin 256) (k : Fin 8) :
    nblk G V c 0 t (ix2 r k) = V c (Proc.devRef .tc main_v45) (ix2 ⟨t.val * 256 + r.val, nrows_lt t r⟩ k) := by
  blk_ext [nblk, nidx0 G t]
theorem nblk1 (c : Dev nD) (t : Fin grid0.N) (r : Fin 8) (k : Fin 5120) :
    nblk G V c 1 t (ix2 r k) = V c (Proc.devRef .tc main_v46) (ix2 r k) := by
  blk_ext [nblk, nidx1 G t]

/-- What the body leaves at point `t`, -/
def statAt (c : Dev nD) (t : Fin grid0.N) (y : S256x8.Idx) : F .f32 := statOut n (grid0.coords t) (nblk G V c 0 t) (nblk G V c 1 t) y
def idxAt' (c : Dev nD) (t : Fin grid0.N) (y : S256x16.Idx) : BitVec 32 := idxOut n (grid0.coords t) (nblk G V c 0 t) (nblk G V c 1 t) y

/-- and the whole arrays: row `r` lies in block `r / 256`. -/
def statAll (c : Dev nD) (y : S5120x8.Idx) : F .f32 :=
  statAt G V n c ⟨(y 0).val / 256, by have h : (y 0).val < 5120 := (y 0).isLt; show _ < 20; omega⟩ (ix2 ⟨(y 0).val % 256, Nat.mod_lt _ (by decide)⟩ (y 1))
def idxAll (c : Dev nD) (y : S5120x16.Idx) : BitVec 32 :=
  idxAt' G V n c ⟨(y 0).val / 256, by have h : (y 0).val < 5120 := (y 0).isLt; show _ < 20; omega⟩ (ix2 ⟨(y 0).val % 256, Nat.mod_lt _ (by decide)⟩ (y 1))

theorem nemb2 (t : Fin grid0.N) (y : S256x8.Idx) : ((((pcfg0 (F := F)).win G 2).blk t).view.emb y (0 : Fin 2)).val = t.val * 256 + (y 0).val ∧ ((((pcfg0 (F := F)).win G 2).blk t).view.emb y (1 : Fin 2)).val = (y 1).val := by
  blk_simp [nidx2 G t]
  exact ⟨trivial, trivial⟩
theorem nemb3 (t : Fin grid0.N) (y : S256x16.Idx) : ((((pcfg0 (F := F)).win G 3).blk t).view.emb y (0 : Fin 2)).val = t.val * 256 + (y 0).val ∧ ((((pcfg0 (F := F)).win G 3).blk t).view.emb y (1 : Fin 2)).val = (y 1).val := by
  blk_simp [nidx3 G t]
  exact ⟨trivial, trivial⟩

theorem statAll_at (c : Dev nD) (t : Fin grid0.N) (y : S256x8.Idx) (z : S5120x8.Idx) (h0 : (z 0).val = t.val * 256 + (y 0).val) (h1 : (z 1).val = (y 1).val) :
    statAll G V n c z = statAt G V n c t y := by
  have hy : (y 0).val < 256 := (y 0).isLt
  refine congrArg₂ (statAt G V n c) (Fin.ext (by show (z 0).val / 256 = t.val; omega)) (Eq.trans ?_ (eq_ix2 y).symm)
  exact congrArg₂ ix2 (Fin.ext (by show (z 0).val % 256 = (y 0).val; omega)) (Fin.ext h1)
theorem idxAll_at (c : Dev nD) (t : Fin grid0.N) (y : S256x16.Idx) (z : S5120x16.Idx) (h0 : (z 0).val = t.val * 256 + (y 0).val) (h1 : (z 1).val = (y 1).val) :
    idxAll G V n c z = idxAt' G V n c t y := by
  have hy : (y 0).val < 256 := (y 0).isLt
  refine congrArg₂ (idxAt' G V n c) (Fin.ext (by show (z 0).val / 256 = t.val; omega)) (Eq.trans ?_ (eq_ix2 y).symm)
  exact congrArg₂ ix2 (Fin.ext (by show (z 0).val % 256 = (y 0).val; omega)) (Fin.ext h1)

/-- The blocks cover the arrays. -/
theorem ncovers2 : ((pcfg0 (F := F)).win G 2).Covers := by
  refine Pipeline.Window.covers_of_index_surj _ rfl (fun a => by match a with | ⟨0, _⟩ => exact (show 0 < 256 by decide) | ⟨1, _⟩ => exact (show 0 < 8 by decide)) fun β => ?_
  have h0 : (β (0 : Fin 2)).val < (5120 + 256 - 1) / 256 := (β (0 : Fin 2)).isLt
  have h1 : (β (1 : Fin 2)).val < (8 + 8 - 1) / 8 := (β (1 : Fin 2)).isLt
  refine ⟨⟨(β (0 : Fin 2)).val, h0⟩, fun a => ?_⟩
  rw [nidx2 G]
  match a with
  | ⟨0, _⟩ => rfl
  | ⟨1, _⟩ => exact (Nat.lt_one_iff.mp h1).symm
theorem ncovers3 : ((pcfg0 (F := F)).win G 3).Covers := by
  refine Pipeline.Window.covers_of_index_surj _ rfl (fun a => by match a with | ⟨0, _⟩ => exact (show 0 < 256 by decide) | ⟨1, _⟩ => exact (show 0 < 16 by decide)) fun β => ?_
  have h0 : (β (0 : Fin 2)).val < (5120 + 256 - 1) / 256 := (β (0 : Fin 2)).isLt
  have h1 : (β (1 : Fin 2)).val < (16 + 16 - 1) / 16 := (β (1 : Fin 2)).isLt
  refine ⟨⟨(β (0 : Fin 2)).val, h0⟩, fun a => ?_⟩
  rw [nidx3 G]
  match a with
  | ⟨0, _⟩ => rfl
  | ⟨1, _⟩ => exact (Nat.lt_one_iff.mp h1).symm

theorem staN_eq (c : Dev nD) : staN G V O bnd n c = statAll G V n c := by
  refine (datN G V O bnd n c).arrAt_eq_of_covers 2 _ (ncovers2 G) fun t hf y => ?_
  blk_simp
  rw [datN_after2]
  exact (statAll_at G V n c t y _ (nemb2 G t y).1 (nemb2 G t y).2).symm
theorem indN_eq (c : Dev nD) : indN G V O bnd n c = idxAll G V n c := by
  refine (datN G V O bnd n c).arrAt_eq_of_covers 3 _ (ncovers3 G) fun t hf y => ?_
  blk_simp
  rw [datN_after3]
  exact (idxAll_at G V n c t y _ (nemb3 G t y).1 (nemb3 G t y).2).symm

/-- A list's entry is a column's number or 5120. -/
theorem idxAll_le (hn : n ≤ 5000) (c : Dev nD) (y : S5120x16.Idx) : (idxAll G V n c y).toNat ≤ 5120 := by
  have h : ∀ i x0 x1 (j : S256x16.Idx), (idxOut (F := F) n i x0 x1 j).toNat ≤ 5120 := by
    intro i x0 x1 j
    have h1 := Row.slot_le (mem i x0 x1 (j 0)) (512 * trips i n) (j 1).val (by have := trips_le i hn; omega)
    show (BitVec.ofNat 32 (Row.slot (mem i x0 x1 (j 0)) (512 * trips i n) (j 1).val)).toNat ≤ 5120
    rw [BitVec.toNat_ofNat]
    omega
  exact h _ _ _ _

end Cert.Proof.Sc

end
-- ==== Proof.Addrs.lean ====
/-
  The table and the addresses that the SparseCore call takes, and the addresses' bound.
-/
module

public import proofs.«01_k».proof.Proof.Main
public import Idealize.ShloMosaic.Lib.Routing.OpsSet

@[expose] public section

noncomputable section

namespace Cert.Proof.Sc

open Cert.KernelIdeal Cert.KernelIdeal.Gen
open Idealize.ShloMosaic hiding ix1 ix2 ix3 ix4 eq_ix1 eq_ix2 eq_ix3
open Idealize.ShloMosaic.ValueIdx
open Idealize.ShloMosaic.StableHlo

variable {F : FTy → Type} [FloatOps F] [Named F] [SumTest F]
variable (m : (ℓ : Loc nD τ sig) → Buf (Elt F) ℓ)

/-- The sorted boxes and the suppression call's lists. -/
abbrev boxes (d : Dev nD) : S5000x7.Idx → F .f32 := V2 m d (Proc.devRef .tc main_v8)
abbrev slots (d : Dev nD) : S5120x16.Idx → BitVec 32 := V2 m d (Proc.devRef .tc main_v52_1)

/-- The start of the boxes inside the table: row 0, column 0. -/
def origin : S2.Idx → BitVec 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

/-- The table before it is laid out in one row: the boxes over zeros. -/
def table (b : S5000x7.Idx → F .f32) : S5128x8.Idx → F .f32 :=
  Host.scatter scatter_S5128x8_S2_S5000x7_01_n_01_0 (fun _ b => b)
    (broadcastInDim S5128x8 ![] bcast_S_S5128x8 (constant S_ .f32 0x00000000#32)) origin b

/-- The addresses before they are laid out in rows: eight for each slot. -/
def addrs8 (s : S5120x16.Idx → BitVec 32) : S81920x8.Idx → BitVec 32 :=
  addi (broadcastInDim S81920x8 ![0, 1] bcast_S81920x1_S81920x8_0_1
      (muli (shapeCast S81920x1 s shapeCasts_S5120x16_S81920x1) (broadcastInDim S81920x1 ![] bcast_S_S81920x1 (constantI S_ 32 8#32))))
    (broadcastInDim S81920x8 ![0, 1] bcast_S1x8_S81920x8_0_1 (broadcastInDim S1x8 ![1] bcast_S8_S1x8_1 (iotaInDim S8 32 0)))

set_option maxHeartbeats 2000000 in
theorem TB_eq (d : Dev nD) : TB m d = shapeCast S41024 (table (boxes m d)) shapeCasts_S5128x8_S41024 := by
  show V3 m d tab' = _
  unfold V3 opsPre
  after_results <;> rfl

set_option maxHeartbeats 2000000 in
theorem AD_eq (d : Dev nD) : AD m d
    = shapeCast S32x20480 (shapeCast S655360 (addrs8 (slots m d)) shapeCasts_S81920x8_S655360) shapeCasts_S655360_S32x20480 := by
  show V3 m d adr' = _
  unfold V3 opsPre
  after_results <;> rfl

theorem addrs8_apply (s : S5120x16.Idx → BitVec 32) (r : Fin 5120) (l : Fin 16) (j : Fin 8) :
    addrs8 s (ix2 ⟨r.val * 16 + l.val, by omega⟩ j) = s (ix2 r l) * 8#32 + BitVec.ofNat 32 j.val := by
  unfold addrs8
  show IntOp.addi _ _ = _
  rw [broadcastInDim_apply ![0, 1] bcast_S81920x1_S81920x8_0_1 _ (ix2 (⟨r.val * 16 + l.val, by omega⟩ : Fin 81920) j)
      (ix2 (⟨r.val * 16 + l.val, by omega⟩ : Fin 81920) (0 : Fin 1)) (by intro a; match a with | ⟨0, _⟩ => rfl | ⟨1, _⟩ => rfl),
    broadcastInDim_apply ![0, 1] bcast_S1x8_S81920x8_0_1 _ (ix2 (⟨r.val * 16 + l.val, by omega⟩ : Fin 81920) j)
      (ix2 (0 : Fin 1) j) (by intro a; match a with | ⟨0, _⟩ => rfl | ⟨1, _⟩ => rfl),
    broadcastInDim_apply ![1] bcast_S8_S1x8_1 _ (ix2 (0 : Fin 1) j) (ix1 j) (by intro a; match a with | ⟨0, _⟩ => rfl)]
  show IntOp.addi (IntOp.muli (shapeCast S81920x1 s shapeCasts_S5120x16_S81920x1 _) 8#32) _ = _
  rw [shapeCast_apply s shapeCasts_S5120x16_S81920x1 (ix2 (⟨r.val * 16 + l.val, by omega⟩ : Fin 81920) (0 : Fin 1)) (ix2 r l)
    (by rw [Shape.rowMajor_val_two, Shape.rowMajor_val_two]
        show r.val * 16 + l.val = (r.val * 16 + l.val) * 1 + 0
        omega)]
  rfl

/-- The address at row-major place `p` of the address array. -/
theorem AD_apply (d : Dev nD) (x : S32x20480.Idx) (r : Fin 5120) (l : Fin 16) (j : Fin 8)
    (h : (x 0).val * 20480 + (x 1).val = (r.val * 16 + l.val) * 8 + j.val) :
    AD m d x = slots m d (ix2 r l) * 8#32 + BitVec.ofNat 32 j.val := by
  rw [AD_eq, ← addrs8_apply,
    shapeCast_apply _ _ x (ix1 (⟨(r.val * 16 + l.val) * 8 + j.val, by omega⟩ : Fin 655360))
      (by rw [Shape.rowMajor_val_one, Shape.rowMajor_val_two]; exact h.symm),
    shapeCast_apply _ _ _ (ix2 (⟨r.val * 16 + l.val, by omega⟩ : Fin 81920) j)
      (by rw [Shape.rowMajor_val_one, Shape.rowMajor_val_two]; rfl)]

/-- Every place of the address array is a slot's word. -/
theorem place (x : S32x20480.Idx) : ∃ (r : Fin 5120) (l : Fin 16) (j : Fin 8),
    (x 0).val * 20480 + (x 1).val = (r.val * 16 + l.val) * 8 + j.val := by
  have h0 : (x 0).val < 32 := (x 0).isLt
  have h1 : (x 1).val < 20480 := (x 1).isLt
  refine ⟨⟨((x 0).val * 20480 + (x 1).val) / 128, by omega⟩, ⟨((x 0).val * 20480 + (x 1).val) % 128 / 8, by omega⟩,
    ⟨((x 0).val * 20480 + (x 1).val) % 8, by omega⟩, ?_⟩
  show _ = (((x 0).val * 20480 + (x 1).val) / 128 * 16 + ((x 0).val * 20480 + (x 1).val) % 128 / 8) * 8 + ((x 0).val * 20480 + (x 1).val) % 8
  omega

theorem addr_toNat (w : BitVec 32) (hw : w.toNat ≤ 5120) (j : Fin 8) : (w * 8#32 + BitVec.ofNat 32 j.val).toNat = w.toNat * 8 + j.val := by
  rw [BitVec.toNat_add, BitVec.toNat_mul, BitVec.toNat_ofNat]
  simp only [BitVec.toNat_ofNat]
  omega

/-- Slots inside their range address inside the table. -/
theorem AD_lt (hs : ∀ d i, (slots m d i).toNat ≤ 5120) : ∀ d x, (AD m d x).toNat < 41024 := by
  intro d x
  obtain ⟨r, l, j, h⟩ := place x
  have := hs d (ix2 r l)
  rw [AD_apply m d x r l j h, addr_toNat _ this]
  omega

end Cert.Proof.Sc

end
-- ==== Proof.First.lean ====
/-
  The host's part before the suppression call: the sort by descending score, the number of valid boxes, and the rows and
  columns that the call reads.
-/
module

public import proofs.«01_k».proof.Proof.NmsValue
public import proofs.«01_k».proof.Proof.Addrs
public import Idealize.ShloMosaic.Lib.StableHlo.ReadAt
public import Idealize.ShloMosaic.Lib.IndicatorCount

@[expose] public section

set_option maxRecDepth 16384

noncomputable section

namespace Cert.Proof.Sc

open Cert.KernelIdeal Cert.KernelIdeal.Gen
open Idealize.ShloMosaic hiding ix1 ix2 ix3 ix4 eq_ix1 eq_ix2 eq_ix3
open Idealize.ShloMosaic.ValueIdx
open Idealize.ShloMosaic.StableHlo

variable {F : FTy → Type} [FloatOps F] [Named F] [SumTest F]

/-- The places of the boxes by descending score. -/
def order (s : FVec F S5000 .f32) : IVec S5000 32 := (Host.sort2 S5000 0 comparator_f32_i32_d0 (Host.negf s) (iotaInDim S5000 32 0)).2

/-- The places as a gather's indices. -/
def places (s : FVec F S5000 .f32) : IVec S5000x1 32 :=
  broadcastInDim S5000x1 ![0] bcast_S5000_S5000x1_0
    (select (cmpi .slt (order s) (broadcastInDim S5000 ![] bcast_S_S5000 (constantI S_ 32 0#32)))
      (addi (order s) (broadcastInDim S5000 ![] bcast_S_S5000 (constantI S_ 32 5000#32))) (order s))

/-- The boxes, the scores and the labels in that order. -/
def sBox (b : FVec F S5000x7 .f32) (s : FVec F S5000 .f32) : FVec F S5000x7 .f32 := Host.gather gather_S5000x7_S5000x1_S5000x7_1_0_n_n_0_1_17 b (places s)
def sScr (s : FVec F S5000 .f32) : FVec F S5000 .f32 := Host.gather gather_S5000_S5000x1_S5000_n_0_n_n_0_1_1 s (places s)
def sLab (l : IVec S5000 32) (s : FVec F S5000 .f32) : IVec S5000 32 := Host.gather gather_S5000_S5000x1_S5000_n_0_n_n_0_1_1 l (places s)

/-- How many scores exceed the threshold, as the kernel counts them. -/
def count (s : FVec F S5000 .f32) : IVec S1 32 :=
  broadcastInDim S1 ![] bcast_S_S1 (Host.reduce IntOp.addi (extui 32 (cmpf .ogt s (broadcastInDim S5000 ![] bcast_S_S5000 (constant S_ .f32 0x3E4CCCCD#32))) natLt_1_32)
    (constantI S_ 32 0#32) reducesTo_S5000_S_d0 h_S_)

variable (W : Valuation τ sig (Elt F))

set_option maxHeartbeats 4000000 in
theorem fst_v8 : (after opsFst W (Proc.devRef .tc main_v8) : FVec F S5000x7 .f32) = sBox (W (Proc.devRef .tc main_arg0)) (W (Proc.devRef .tc main_arg1)) := by
  unfold opsFst
  after_results <;> rfl
set_option maxHeartbeats 4000000 in
theorem fst_v51 : (after opsFst W (Proc.devRef .tc main_v51) : IVec S1 32) = count (sScr (W (Proc.devRef .tc main_arg1))) := by
  unfold opsFst
  after_results <;> rfl

theorem count_apply (s : FVec F S5000 .f32) :
    count s (ix1 0) = BitVec.ofNat 32 ((Finset.univ.filter fun k : Fin 5000 => FloatOps.cmpf .ogt (s (ix1 k)) (Scalar.ofBits .f32 0x3E4CCCCD#32) = 1#1).card) := by
  unfold count
  refine (broadcastInDim_apply ![] bcast_S_S1 _ (ix1 0 : S1.Idx) (fun a => a.elim0 : S_.Idx) (by intro a; exact a.elim0)).trans ?_
  rw [Host.reduce_eq_fold IntOp.addi _ _ reducesTo_S5000_S_d0 h_S_]
  refine (IndicatorCount.fold_addi_setWidth_eq_card (w := 32) (fun i : S5000.Idx => FloatOps.cmpf .ogt (s i) (Scalar.ofBits .f32 0x3E4CCCCD#32)) _).trans ?_
  refine congrArg (BitVec.ofNat 32) (Finset.card_nbij' (fun i : S5000.Idx => (i 0 : Fin 5000)) (fun k => ix1 k) ?_ ?_ ?_ ?_)
  · intro i hi
    have h := (Finset.mem_filter.mp (Finset.mem_coe.mp hi)).2
    exact Finset.mem_coe.mpr (Finset.mem_filter.mpr ⟨Finset.mem_univ _, (congrArg (fun i => FloatOps.cmpf .ogt (s i) (Scalar.ofBits .f32 0x3E4CCCCD#32)) (eq_ix1 i)).symm.trans h⟩)
  · intro k hk
    have h := (Finset.mem_filter.mp (Finset.mem_coe.mp hk)).2
    exact Finset.mem_coe.mpr (Finset.mem_filter.mpr ⟨Finset.mem_filter.mpr ⟨Finset.mem_univ _, funext fun a => a.elim0⟩, h⟩)
  · intro i _; exact (eq_ix1 i).symm
  · intro k _; rfl

variable (m : (ℓ : Loc nD τ sig) → Buf (Elt F) ℓ)

theorem nv_eq : nv m = (Finset.univ.filter fun k : Fin 5000 => FloatOps.cmpf .ogt ((sScr (V0 m 0 (Proc.devRef .tc main_arg1) : FVec F S5000 .f32)) (ix1 k)) (Scalar.ofBits .f32 0x3E4CCCCD#32) = 1#1).card := by
  have h : nvVec m (ix1 0) = _ := (congrFun (fst_v51 (V0 m 0)) (ix1 0)).trans (count_apply _)
  unfold nv
  refine (congrArg BitVec.toNat h).trans ?_
  rw [BitVec.toNat_ofNat]
  refine Nat.mod_eq_of_lt (lt_of_le_of_lt (Finset.card_le_univ _) ?_)
  rw [Fintype.card_fin]; decide

theorem nv_le : nv m ≤ 5000 := by
  rw [nv_eq]
  exact (Finset.card_le_univ _).trans (by rw [Fintype.card_fin])

theorem slots_le (d : Dev nD) (i : S5120x16.Idx) : (slots m d i).toNat ≤ 5120 := by
  have h : (slots m d : S5120x16.Idx → BitVec 32) = idxAll (tabN m) (V1 m) (nv m) d :=
    (afterN_ind (tabN m) (V1 m) _ _ (nv m) d).trans (indN_eq (tabN m) (V1 m) _ _ (nv m) d)
  rw [h]
  exact idxAll_le (tabN m) (V1 m) (nv m) (nv_le m) d i

theorem addrs_lt (d : Dev nD) (i : S32x20480.Idx) : (AD m d i).toNat < 41024 := AD_lt m (slots_le m) d i

end Cert.Proof.Sc

end
-- ==== Proof.SumIdeal.lean ====
/-
  The kernel's test for a marked column, at the extended reals: the sum of the marks is positive exactly where one is set.
-/
module

public import proofs.«01_k».proof.Proof.NmsStep
public import Idealize.ShloMosaic.Lib.Pointwise
public import Idealize.ShloMosaic.Lib.Pipeline.Value

@[expose] public section

set_option maxRecDepth 16384

noncomputable section

namespace Cert.Proof.Sc

open Cert.KernelIdeal Cert.KernelIdeal.Gen
open Idealize.ShloMosaic

/-- A mark as a number. -/
theorem mark_real (b : BitVec 1) : (FloatOps.sitofp (F := Ideal) .f32 (BitVec.setWidth 32 b) : EReal) = if b = 1#1 then 1 else 0 := by
  have h : (FloatOps.sitofp (F := Ideal) .f32 (BitVec.setWidth 32 b) : EReal) = (((BitVec.setWidth 32 b).toInt : ℝ) : EReal) := rfl
  rw [h]
  rcases (by clear h; revert b; decide : b = 0#1 ∨ b = 1#1) with rfl | rfl
  · rw [if_neg (by decide), show (BitVec.setWidth 32 0#1).toInt = 0 by decide]; simp
  · rw [if_pos rfl, show (BitVec.setWidth 32 1#1).toInt = 1 by decide]; simp

theorem cmp_ogt (x y : EReal) : (FloatOps.cmpf (F := Ideal) (φ := .f32) .ogt x y : BitVec 1) = 1#1 ↔ y < x := by
  show BitVec.ofBool (decide (y < x)) = 1#1 ↔ _
  by_cases h : y < x <;> simp [h]

/-- The marks as numbers, as the kernel lays them out to sum them. -/
def markReal (v : IVec S256x512 1) : FVec Ideal S1x256x512 .f32 :=
  shapeCast S1x256x512 (sitofp (F := Ideal) .f32 (extui 32 v natLt_1_32)) shapeCasts_S256x512_S1x256x512

theorem markReal_some (v : IVec S256x512 1) (i : S1x256x512.Idx) : ∃ j, markReal v i = if v j = 1#1 then 1 else 0 := ⟨_, mark_real _⟩

theorem markReal_at (v : IVec S256x512 1) (b : Fin 256) (c : Fin 512) : markReal v (ix3 0 b c) = if v (ix2 b c) = 1#1 then 1 else 0 := by
  unfold markReal
  rw [shapeCast_apply _ _ (ix3 (0 : Fin 1) b c) (ix2 b c) (by
    rw [Shape.rowMajor_val_two, Shape.rowMajor_val_three]
    show b.val * 512 + c.val = (0 * 256 + b.val) * 512 + c.val
    omega)]
  exact mark_real _

/-- A sum of numbers not below 0 is positive where one of them is. -/
theorem pos_sum {s : Shape} (u : s.Idx → EReal) (h0 : ∀ i, 0 ≤ u i) : 0 < ∑ i, u i ↔ ∃ i, 0 < u i := by
  constructor
  · intro h
    by_contra hno
    push Not at hno
    rw [Finset.sum_eq_zero fun i _ => le_antisymm (hno i) (h0 i)] at h
    exact lt_irrefl _ h
  · rintro ⟨i, hi⟩
    exact lt_of_lt_of_le hi (Finset.single_le_sum (f := u) (s := Finset.univ) (fun i _ => h0 i) (Finset.mem_univ i))

theorem markReal_nonneg (v : IVec S256x512 1) (i : S1x256x512.Idx) : 0 ≤ markReal v i := by
  obtain ⟨j, hj⟩ := markReal_some v i
  rw [hj]; split <;> norm_num

theorem markReal_pos (v : IVec S256x512 1) : (∃ i, 0 < markReal v i) ↔ ∃ j, v j = 1#1 := by
  constructor
  · rintro ⟨i, hi⟩
    obtain ⟨j, hj⟩ := markReal_some v i
    rw [hj] at hi
    by_contra hno
    push Not at hno
    rw [if_neg (hno j)] at hi
    exact lt_irrefl _ hi
  · rintro ⟨j, hj⟩
    have hv : v (ix2 (j 0) (j 1)) = 1#1 := (congrArg v (eq_ix2 j)).symm.trans hj
    exact ⟨ix3 0 (j 0) (j 1), lt_of_lt_of_eq zero_lt_one ((markReal_at v (j 0) (j 1)).trans (if_pos hv)).symm⟩

/-- The sum that the kernel takes, at whatever index its one entry has. -/
theorem sum_pos {s t : Shape} {axes : List (Fin s.rank)} (src : FVec Ideal s .f32) (h0 : ∀ i, 0 ≤ src i) (h : s.Reduces axes t) (ht : ∀ b, t.size b = 1)
    (hφ : FKind.Formats .f32) (hacc : 0x00000000#32 = FKind.add.neutral .f32 hφ) (j : t.Idx) :
    Scalar.cmpf (F := Ideal) .ogt (multiReduction .add axes t src 0x00000000#32 h hφ hacc j) (Scalar.ofBits .f32 0x00000000#32) = 1#1 ↔ ∃ i, 0 < src i := by
  refine (cmp_ogt _ _).trans ?_
  rw [show (Scalar.ofBits (F := Ideal) .f32 0x00000000#32 : EReal) = 0 from Ideal.ofBits_zero_f32, Ideal.multiReduction_add_total src _ h ht]
  exact pos_sum src h0

instance : SumTest Ideal where
  test v := (sum_pos (markReal v) (markReal_nonneg v) reduces_S1x256x512_S1 (by decide) (.inl rfl) rfl _).trans (markReal_pos v)

end Cert.Proof.Sc

end
-- ==== Proof.Spec.lean ====
/-
  What the program computes, in plain terms: the words a slot names, the three layers over a row's gathered words, and
  the choice between the merged and the row's own words. And the one piece of mathematics of the kernel's layout: a sum
  over 128 places against a block-diagonal weight is the sum over the 16 places of one block.
-/
module

public import Idealize.ShloMosaic.Lib.ValueIdx
public import Idealize.ShloMosaic.Lib.Pointwise
public import Idealize.ShloMosaic.Lib.KernelVsHost
public import Idealize.ShloMosaic.Lib.Pipeline.Value

@[expose] public section

noncomputable section

namespace Cert.Proof.Sc

open Idealize.ShloMosaic

/-- Word `j` of the box a slot's word `w` names: a zero past the seven words and where `w` names no box. -/
def cell {α : Type} (b : (⟨2, ![5000, 7]⟩ : Shape).Idx → α) (z : α) (w : BitVec 32) (j : ℕ) : α :=
  if h : w.toNat < 5000 ∧ j < 7 then b (ValueIdx.ix2 ⟨w.toNat, h.1⟩ ⟨j, h.2⟩) else z

/-- One unit of a rectified layer: the row's words against one column of the weights, plus the bias, not below 0. -/
def unit {n : ℕ} (x : Fin n → EReal) (w : Fin n → EReal) (b : EReal) : EReal := max (∑ k, x k * w k + b) 0

/-- The lower bound of the merged word `j`: 1e-5 for the three sizes. -/
def floorAt (j : ℕ) : EReal := if 3 ≤ j ∧ j < 6 then Ideal.ofBits .f32 0x3727C5AC#32 else ⊥

/-- What a row becomes: nothing where the row is not kept, the merged word where at least two boxes merge, else its own word. -/
def choose (keep cnt merged own : EReal) : EReal :=
  if Ideal.ofBits .f32 0x3F000000#32 < keep then (if Ideal.ofBits .f32 0x3FC00000#32 < cnt then merged else own) else 0

/-- The three layers over the sixteen gathered words of one row and word. -/
def net (x : Fin 16 → EReal) (W1 : Fin 16 → Fin 16 → EReal) (b1 : Fin 16 → EReal) (W2 : Fin 16 → Fin 16 → EReal) (b2 : Fin 16 → EReal)
    (W3 : Fin 16 → EReal) (b3 : EReal) : EReal :=
  ∑ o, unit (fun i => unit x (W1 i) (b1 i)) (W2 o) (b2 o) * W3 o + b3

/-- Word `j` of row `r` of the result, from the boxes, the statistics, the slots and the weights. -/
def rowOut (b : (⟨2, ![5000, 7]⟩ : Shape).Idx → EReal) (s : (⟨2, ![5120, 8]⟩ : Shape).Idx → EReal) (idx : (⟨2, ![5120, 16]⟩ : Shape).Idx → BitVec 32)
    (W1 : (⟨2, ![16, 16]⟩ : Shape).Idx → EReal) (b1 : (⟨1, ![16]⟩ : Shape).Idx → EReal) (W2 : (⟨2, ![16, 16]⟩ : Shape).Idx → EReal)
    (b2 : (⟨1, ![16]⟩ : Shape).Idx → EReal) (W3 : (⟨2, ![1, 16]⟩ : Shape).Idx → EReal) (b3 : (⟨1, ![1]⟩ : Shape).Idx → EReal)
    (r : Fin 5000) (j : Fin 7) : EReal :=
  choose (s (ix2 ⟨r.val, by omega⟩ 0)) (s (ix2 ⟨r.val, by omega⟩ 1))
    (max (net (fun k => cell b 0 (idx (ix2 ⟨r.val, by omega⟩ k)) j.val) (fun i k => W1 (ix2 i k)) (fun i => b1 (ix1 i)) (fun o i => W2 (ix2 o i)) (fun o => b2 (ix1 o))
      (fun o => W3 (ix2 0 o)) (b3 (ix1 0))) (floorAt j.val))
    (b (ix2 r j))

/-- 1 on the diagonal, 0 off it. -/
def delta (a b : ℕ) : EReal := if a = b then 1 else 0

/-- A sum over the places `8 k + e` against a weight that is `w k` where `e = d` and 0 elsewhere. -/
theorem sum_low (x : Fin 128 → EReal) (w : Fin 16 → EReal) (d : ℕ) (hd : d < 8) :
    (∑ p : Fin 128, x p * (delta (p.val % 8) d * w ⟨p.val / 8, by omega⟩)) = ∑ k : Fin 16, x ⟨k.val * 8 + d, by omega⟩ * w k := by
  refine (Finset.sum_of_injOn (fun k : Fin 16 => (⟨k.val * 8 + d, by omega⟩ : Fin 128)) ?_ (fun _ _ => Finset.mem_univ _) ?_ ?_).symm
  · intro a _ b _ h
    have h' : a.val * 8 + d = b.val * 8 + d := congrArg Fin.val h
    exact Fin.ext (by omega)
  · intro p _ hp
    have h : p.val % 8 ≠ d := fun h => hp ⟨⟨p.val / 8, by omega⟩, Finset.mem_coe.mpr (Finset.mem_univ _), Fin.ext (by show p.val / 8 * 8 + d = p.val; omega)⟩
    rw [delta, if_neg h, zero_mul, mul_zero]
  · intro k _
    have h1 : (k.val * 8 + d) % 8 = d := by omega
    have h2 : (⟨(k.val * 8 + d) / 8, by omega⟩ : Fin 16) = k := Fin.ext (by show (k.val * 8 + d) / 8 = k.val; omega)
    show _ = _ * (delta ((k.val * 8 + d) % 8) d * w ⟨(k.val * 8 + d) / 8, _⟩)
    rw [h2, delta, if_pos h1, one_mul]

/-- A sum over the places `16 e + i` against a weight that is `w i` where `e = d` and 0 elsewhere. -/
theorem sum_high (x : Fin 128 → EReal) (w : Fin 16 → EReal) (d : ℕ) (hd : d < 8) :
    (∑ p : Fin 128, x p * (delta (p.val / 16) d * w ⟨p.val % 16, by omega⟩)) = ∑ i : Fin 16, x ⟨d * 16 + i.val, by omega⟩ * w i := by
  refine (Finset.sum_of_injOn (fun i : Fin 16 => (⟨d * 16 + i.val, by omega⟩ : Fin 128)) ?_ (fun _ _ => Finset.mem_univ _) ?_ ?_).symm
  · intro a _ b _ h
    have h' : d * 16 + a.val = d * 16 + b.val := congrArg Fin.val h
    exact Fin.ext (by omega)
  · intro p _ hp
    have h : p.val / 16 ≠ d := fun h => hp ⟨⟨p.val % 16, by omega⟩, Finset.mem_coe.mpr (Finset.mem_univ _), Fin.ext (by show d * 16 + p.val % 16 = p.val; omega)⟩
    rw [delta, if_neg h, zero_mul, mul_zero]
  · intro i _
    have h1 : (d * 16 + i.val) / 16 = d := by omega
    have h2 : (⟨(d * 16 + i.val) % 16, by omega⟩ : Fin 16) = i := Fin.ext (by show (d * 16 + i.val) % 16 = i.val; omega)
    show _ = _ * (delta ((d * 16 + i.val) / 16) d * w ⟨(d * 16 + i.val) % 16, _⟩)
    rw [h2, delta, if_pos h1, one_mul]

/-- The three layers laid out for eight words at once, at word `d`, are the three layers of that word. -/
theorem net_blocks (g : Fin 128 → EReal) (W1 : Fin 16 → Fin 16 → EReal) (b1 : Fin 16 → EReal) (W2 : Fin 16 → Fin 16 → EReal) (b2 : Fin 16 → EReal)
    (W3 : Fin 16 → EReal) (b3 : EReal) (d : ℕ) (hd : d < 8) :
    (∑ o : Fin 128, unit (fun i : Fin 128 => unit g (fun k => delta (k.val % 8) (i.val / 16) * W1 ⟨i.val % 16, by omega⟩ ⟨k.val / 8, by omega⟩) (b1 ⟨i.val % 16, by omega⟩))
        (fun i => delta (i.val / 16) (o.val / 16) * W2 ⟨o.val % 16, by omega⟩ ⟨i.val % 16, by omega⟩) (b2 ⟨o.val % 16, by omega⟩)
      * (delta (o.val / 16) d * W3 ⟨o.val % 16, by omega⟩) + b3)
      = net (fun k => g ⟨k.val * 8 + d, by omega⟩) W1 b1 W2 b2 W3 b3 := by
  have h1 : ∀ (i : Fin 128), unit g (fun k => delta (k.val % 8) (i.val / 16) * W1 ⟨i.val % 16, by omega⟩ ⟨k.val / 8, by omega⟩) (b1 ⟨i.val % 16, by omega⟩)
      = unit (fun k : Fin 16 => g ⟨k.val * 8 + i.val / 16, by omega⟩) (W1 ⟨i.val % 16, by omega⟩) (b1 ⟨i.val % 16, by omega⟩) := fun i => by
    unfold unit
    rw [sum_low g (W1 ⟨i.val % 16, by omega⟩) (i.val / 16) (by omega)]
  have h2 : ∀ (e : ℕ) (he : e < 8) (i : Fin 16), (⟨(e * 16 + i.val) % 16, by omega⟩ : Fin 16) = i := fun e he i => Fin.ext (by show (e * 16 + i.val) % 16 = i.val; omega)
  have h3 : ∀ (e : ℕ) (he : e < 8) (i : Fin 16), (e * 16 + i.val) / 16 = e := fun e he i => by omega
  simp only [h1]
  rw [sum_high _ W3 d hd]
  unfold net
  congr 1
  refine Finset.sum_congr rfl fun o _ => ?_
  congr 1
  unfold unit
  simp only [h3 d hd, h2 d hd]
  rw [sum_high _ (W2 o) d hd]
  simp only [h3 d hd, h2 d hd]

end Cert.Proof.Sc

end
-- ==== Proof.Picks.lean ====
/-
  What suppression computes, in plain terms: how far two boxes overlap, which boxes a row's box meets, whether the row is kept,
  and the list of its members.
-/
module

public import proofs.«01_k».proof.Proof.Spec
public import proofs.«01_k».proof.Proof.Rows

@[expose] public section

noncomputable section

namespace Cert.Proof.Sc

open Idealize.ShloMosaic

/-- The thresholds: of a score, of the overlap's share, and the least area it is a share of. -/
def minScore : EReal := Ideal.ofBits .f32 0x3E4CCCCD#32
def minShare : EReal := Ideal.ofBits .f32 0x3E99999A#32
def minArea : EReal := Ideal.ofBits .f32 0x358637BD#32
def half : EReal := Ideal.ofBits .f32 0x3F000000#32

theorem half_eq : half = ((1 / 2 : ℝ) : EReal) := by
  unfold half
  simp [Ideal.ofBits, Ideal.ieee, -EReal.coe_mul]; norm_num
theorem three_halves_eq : Ideal.ofBits .f32 0x3FC00000#32 = ((3 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem neg_one_eq : Ideal.ofBits .f32 0xBF800000#32 = ((-1 : ℝ) : EReal) := by
  simp [Ideal.ofBits, Ideal.ieee, -EReal.coe_mul, -EReal.coe_neg]; norm_num
theorem one_eq : Ideal.ofBits .f32 0x3F800000#32 = ((1 : ℝ) : EReal) := by
  simp [Ideal.ofBits, Ideal.ieee, -EReal.coe_mul]; norm_num
theorem step_eq : Ideal.ofBits .f32 0x33D6BF95#32 = ((14073749 / 140737488355328 : ℝ) : EReal) := by
  simp [Ideal.ofBits, Ideal.ieee, -EReal.coe_mul]; norm_num
theorem minShare_pos : 0 < minShare := by
  have h : minShare = ((10066330 / 33554432 : ℝ) : EReal) := by
    unfold minShare
    simp [Ideal.ofBits, Ideal.ieee, -EReal.coe_mul]; norm_num
  rw [h, show (0 : EReal) = ((0 : ℝ) : EReal) by norm_cast, EReal.coe_lt_coe_iff]; norm_num
theorem minScore_pos : 0 < minScore := by
  have h : minScore = ((13421773 / 67108864 : ℝ) : EReal) := by
    unfold minScore
    simp [Ideal.ofBits, Ideal.ieee, -EReal.coe_mul]; norm_num
  rw [h, show (0 : EReal) = ((0 : ℝ) : EReal) by norm_cast, EReal.coe_lt_coe_iff]; norm_num

/-- The length that two intervals of centres `x`, `x'` and lengths `d`, `d'` share. -/
def shared (x d x' d' : EReal) : EReal := max 0 (min (x + d * half) (x' + d' * half) - max (x - d * half) (x' - d' * half))

/-- The area that two boxes share, and its share of the area both cover. A box is its centre, its two lengths. -/
def overlap (p q : Fin 4 → EReal) : EReal := shared (p 0) (p 2) (q 0) (q 2) * shared (p 1) (p 3) (q 1) (q 3)
def share (p q : Fin 4 → EReal) : EReal := Ideal.div (overlap p q) (max minArea (((p 2 * p 3) + (q 2 * q 3)) - overlap p q))

section

variable (b : (⟨2, ![5000, 7]⟩ : Shape).Idx → EReal) (s : (⟨1, ![5000]⟩ : Shape).Idx → EReal) (lab : (⟨1, ![5000]⟩ : Shape).Idx → BitVec 32)

/-- A box seen from above. -/
def flat (i : Fin 5000) : Fin 4 → EReal := ![b (ix2 i 0), b (ix2 i 1), b (ix2 i 3), b (ix2 i 4)]

/-- Box `j` is valid, of box `i`'s class, and overlaps it enough. -/
def Hit (i j : Fin 5000) : Prop := lab (ix1 i) = lab (ix1 j) ∧ minShare < share (flat b i) (flat b j) ∧ minScore < s (ix1 j)

/-- The boxes that merge into row `i`: those it meets from itself on. -/
def Member (i : Fin 5000) (c : ℕ) : Prop := ∃ h : c < 5000, Hit b s lab i ⟨c, h⟩ ∧ i.val ≤ c

/-- Row `i` stays: it is valid and meets no earlier box. -/
def Kept (i : Fin 5000) : Prop := minScore < s (ix1 i) ∧ ¬ ∃ j : Fin 5000, j < i ∧ Hit b s lab i j

open scoped Classical in
/-- Word `j` of row `r` of the result. -/
def specOut (W1 : (⟨2, ![16, 16]⟩ : Shape).Idx → EReal) (b1 : (⟨1, ![16]⟩ : Shape).Idx → EReal) (W2 : (⟨2, ![16, 16]⟩ : Shape).Idx → EReal)
    (b2 : (⟨1, ![16]⟩ : Shape).Idx → EReal) (W3 : (⟨2, ![1, 16]⟩ : Shape).Idx → EReal) (b3 : (⟨1, ![1]⟩ : Shape).Idx → EReal)
    (r : Fin 5000) (j : Fin 7) : EReal :=
  if Kept b s lab r then
    (if 2 ≤ Nat.count (Member b s lab r) 5000 then
      max (net (fun k => cell b 0 (BitVec.ofNat 32 (Row.slot (Member b s lab r) 5000 k.val)) j.val) (fun i k => W1 (ix2 i k)) (fun i => b1 (ix1 i))
        (fun o i => W2 (ix2 o i)) (fun o => b2 (ix1 o)) (fun o => W3 (ix2 0 o)) (b3 (ix1 0))) (floorAt j.val)
    else b (ix2 r j))
  else 0

end

end Cert.Proof.Sc

end
-- ==== Proof.NmsHit.lean ====
/-
  The suppression kernel's tests read at an index, at the extended reals: whether a column's box is met by a row's, and whether
  an earlier one is.
-/
module

public import proofs.«01_k».proof.Proof.NmsCall
public import proofs.«01_k».proof.Proof.SumIdeal
public import proofs.«01_k».proof.Proof.Picks

@[expose] public section

set_option maxRecDepth 16384

noncomputable section

namespace Cert.Proof.Sc

open Cert.KernelIdeal Cert.KernelIdeal.Gen
open Idealize.ShloMosaic

variable (x0 : Vec Ideal S256x8 .f32) (x1 : Vec Ideal S8x5120 .f32)

/-- The first four words of a row or of a column. -/
def rowBox (r : Fin 256) : Fin 4 → EReal := ![x0 (ix2 r 0), x0 (ix2 r 1), x0 (ix2 r 2), x0 (ix2 r 3)]
def colBox (c : Fin 5120) : Fin 4 → EReal := ![x1 (ix2 0 c), x1 (ix2 1 c), x1 (ix2 2 c), x1 (ix2 3 c)]

/-- Row `r`'s box meets column `c`'s. -/
def Meets (r : Fin 256) (c : Fin 5120) : Prop :=
  (minShare < share (rowBox x0 r) (colBox x1 c) ∧ x0 (ix2 r 4) = x1 (ix2 4 c)) ∧ minScore < x1 (ix2 5 c)

theorem cmp_oeq (x y : EReal) : (FloatOps.cmpf (F := Ideal) (φ := .f32) .oeq x y : BitVec 1) = 1#1 ↔ x = y := by
  show BitVec.ofBool (decide (x = y)) = 1#1 ↔ _
  by_cases h : x = y <;> simp [h]
theorem cmp_olt (x y : EReal) : (FloatOps.cmpf (F := Ideal) (φ := .f32) .olt x y : BitVec 1) = 1#1 ↔ x < y := by
  show BitVec.ofBool (decide (x < y)) = 1#1 ↔ _
  by_cases h : x < y <;> simp [h]

theorem hit_words (k : ℕ) (r : Fin 256) (c : Fin 512) : ∃ col : Fin 5120, col.val = (512 * k + c.val) % 5120 ∧ hit x0 x1 k (ix2 r c)
      = IntOp.andi (IntOp.andi (FloatOps.cmpf (F := Ideal) (φ := .f32) .ogt (share (rowBox x0 r) (colBox x1 col)) minShare)
          (FloatOps.cmpf (F := Ideal) (φ := .f32) .oeq (x0 (ix2 r 4)) (x1 (ix2 4 col)))) (FloatOps.cmpf (F := Ideal) (φ := .f32) .ogt (x1 (ix2 5 col)) minScore) := by
  refine ⟨⟨(512 * k + c.val) % 5120, Nat.mod_lt _ (by decide)⟩, rfl, ?_⟩
  unfold hit k0_pay10 k0_pay33 k0_pay34 k0_pay5 k0_pay6 k0_pay7 k0_pay8 k0_pay9 k0_pay29 k0_pay30 k0_pay31 k0_pay32 k0_pay28 k0_pay4
  pointwise
  rfl

theorem hit_iff (k : ℕ) (r : Fin 256) (c : Fin 512) (h : 512 * k + c.val < 5120) :
    hit x0 x1 k (ix2 r c) = 1#1 ↔ Meets x0 x1 r ⟨512 * k + c.val, h⟩ := by
  obtain ⟨col, hc, e⟩ := hit_words x0 x1 k r c
  obtain rfl : col = ⟨512 * k + c.val, h⟩ := Fin.ext (by rw [hc]; exact Nat.mod_eq_of_lt h)
  rw [e, Row.andi_one, Row.andi_one, cmp_ogt, cmp_ogt, cmp_oeq]
  rfl

theorem mem_iff (i : grid0.Coords) (r : Fin 256) (j : ℕ) (h : j < 5120) :
    mem i x0 x1 r j ↔ Meets x0 x1 r ⟨j, h⟩ ∧ 256 * (i 0).val + r.val ≤ j := by
  unfold mem
  rw [hit_iff x0 x1 (j / 512) r ⟨j % 512, Nat.mod_lt _ (by decide)⟩ (by show 512 * (j / 512) + j % 512 < 5120; omega)]
  have e : (⟨512 * (j / 512) + j % 512, by omega⟩ : Fin 5120) = ⟨j, h⟩ := Fin.ext (by show 512 * (j / 512) + j % 512 = j; omega)
  exact Iff.of_eq (congrArg (fun c => Meets x0 x1 r c ∧ 256 * (i 0).val + r.val ≤ j) e)

/-! ## The flag of an earlier box -/

theorem maxsi_toInt (x y : BitVec 32) : (IntOp.maxsi x y).toInt = max x.toInt y.toInt := by
  unfold IntOp.maxsi
  by_cases h : y.slt x
  · rw [if_pos h]; have := BitVec.slt_iff_toInt_lt.mp h; omega
  · rw [if_neg h]; have : ¬ y.toInt < x.toInt := fun h' => h (BitVec.slt_iff_toInt_lt.mpr h'); omega

theorem fold_max_le {ι : Type} (s : Finset ι) (f : ι → BitVec 32) (b : BitVec 32) (k : ℤ) :
    (s.fold IntOp.maxsi b f).toInt ≤ k ↔ b.toInt ≤ k ∧ ∀ x ∈ s, (f x).toInt ≤ k := by
  classical
  induction s using Finset.induction_on with
  | empty => simp
  | insert a s ha ih =>
    rw [Finset.fold_insert ha, maxsi_toInt, max_le_iff, ih]
    simp only [Finset.mem_insert, forall_eq_or_imp]
    tauto

theorem cmpi_sgt_one (a b : BitVec 32) : IntOp.cmpi .sgt a b = 1#1 ↔ b.toInt < a.toInt := by
  show BitVec.ofBool (decide (b.toInt < a.toInt)) = 1#1 ↔ _
  by_cases h : b.toInt < a.toInt <;> simp [h]

/-- The greatest of a row of marks is set where one of them is. -/
theorem some_mark {ι : Type} [Fintype ι] (p : ι → BitVec 1) :
    IntOp.cmpi .sgt (Finset.univ.fold IntOp.maxsi (2147483648#32) fun x => BitVec.setWidth 32 (p x)) 0#32 = 1#1 ↔ ∃ x, p x = 1#1 := by
  rw [cmpi_sgt_one, ← not_le, fold_max_le, show (0#32 : BitVec 32).toInt = 0 from rfl]
  have hw : ∀ v : BitVec 1, (BitVec.setWidth 32 v).toInt ≤ 0 ↔ v ≠ 1#1 := by decide
  constructor
  · intro h
    by_contra hno
    push Not at hno
    exact h ⟨by decide, fun x _ => (hw _).mpr (hno x)⟩
  · rintro ⟨x, hx⟩ h
    exact (hw _).mp (h.2 x (Finset.mem_univ x)) hx

open scoped Classical in
theorem mark_if {b : BitVec 1} {P : Prop} (h : b = 1#1 ↔ P) : (FloatOps.sitofp (F := Ideal) .f32 (BitVec.setWidth 32 b) : EReal) = if P then 1 else 0 := by
  rw [mark_real]
  by_cases hP : P
  · rw [if_pos hP, if_pos (h.mpr hP)]
  · rw [if_neg hP, if_neg fun e => hP (h.mp e)]

/-- One of the first `x` columns before row `r` of block `t` holds a box that the row's meets. -/
def Earlier (t : ℕ) (r : Fin 256) (x : ℕ) : Prop := ∃ (j : ℕ) (h : j < 5120), j < x ∧ j < 256 * t + r.val ∧ Meets x0 x1 r ⟨j, h⟩

open scoped Classical in
theorem sup_at (i : grid0.Coords) (k : ℕ) (hk : k ≤ 10) (r : Fin 256) :
    (supAt i x0 x1 k (ix2 r 0) : EReal) = if Earlier x0 x1 (i 0).val r (512 * k) then 1 else 0 := by
  have hi : (i 0).val < 20 := (i 0).isLt
  induction k with
  | zero =>
    rw [if_neg (by rintro ⟨j, h, h1, -⟩; omega)]
    exact Ideal.ofBits_zero_f32
  | succ k ih =>
    have h1 : (supAt i x0 x1 (k + 1) (ix2 r 0) : EReal) = max (supAt i x0 x1 k (ix2 r 0))
        (FloatOps.sitofp (F := Ideal) .f32 (BitVec.setWidth 32 (IntOp.cmpi .sgt (Finset.fold IntOp.maxsi (2147483648#32)
          (fun c : Fin 512 => BitVec.setWidth 32 (IntOp.andi (hit x0 x1 k (ix2 r c)) (IntOp.cmpi .slt (IntOp.addi (BitVec.ofNat 32 (512 * k)) (BitVec.ofNat 32 c.val))
            (k0_pay36 i (ix2 r 0))))) Finset.univ) 0#32))) := by
      rw [supAt]
      unfold k0_pay12 k0_pay11
      pointwise
      rfl
    have h2 : (∃ c : Fin 512, IntOp.andi (hit x0 x1 k (ix2 r c)) (IntOp.cmpi .slt (IntOp.addi (BitVec.ofNat 32 (512 * k)) (BitVec.ofNat 32 c.val)) (k0_pay36 i (ix2 r 0))) = 1#1)
        ↔ ∃ (j : ℕ) (h : j < 5120), 512 * k ≤ j ∧ j < 512 * (k + 1) ∧ j < 256 * (i 0).val + r.val ∧ Meets x0 x1 r ⟨j, h⟩ := by
      constructor
      · rintro ⟨c, hc⟩
        have hlt : 512 * k + c.val < 5120 := by omega
        rw [Row.andi_one, hit_iff x0 x1 k r c hlt, pay36_at, Row.add_word, Row.cmpi_slt_one, Row.word_toInt _ (by omega), Row.word_toInt _ (by omega)] at hc
        exact ⟨512 * k + c.val, hlt, by omega, by omega, by omega, hc.1⟩
      · rintro ⟨j, h, ha, hb, hc, hm⟩
        refine ⟨⟨j - 512 * k, by omega⟩, ?_⟩
        have e : (⟨512 * k + (j - 512 * k), by omega⟩ : Fin 5120) = ⟨j, h⟩ := Fin.ext (by show 512 * k + (j - 512 * k) = j; omega)
        rw [Row.andi_one, hit_iff x0 x1 k r ⟨j - 512 * k, by omega⟩ (by show 512 * k + (j - 512 * k) < 5120; omega), pay36_at, Row.add_word, Row.cmpi_slt_one,
          Row.word_toInt _ (by show 512 * k + (j - 512 * k) < _; omega), Row.word_toInt _ (by omega)]
        exact ⟨(congrArg (Meets x0 x1 r) e).mpr hm, by show ((512 * k + (j - 512 * k) : ℕ) : ℤ) < _; omega⟩
    rw [h1, ih (by omega), mark_if ((some_mark _).trans h2)]
    by_cases he : Earlier x0 x1 (i 0).val r (512 * k)
    · have he' : Earlier x0 x1 (i 0).val r (512 * (k + 1)) := by
        obtain ⟨j, h, ha, hb, hm⟩ := he; exact ⟨j, h, by omega, hb, hm⟩
      rw [if_pos he, if_pos he']
      split <;> simp
    · rw [if_neg he]
      by_cases hn : ∃ (j : ℕ) (h : j < 5120), 512 * k ≤ j ∧ j < 512 * (k + 1) ∧ j < 256 * (i 0).val + r.val ∧ Meets x0 x1 r ⟨j, h⟩
      · have he' : Earlier x0 x1 (i 0).val r (512 * (k + 1)) := by
          obtain ⟨j, h, ha, hb, hc, hm⟩ := hn; exact ⟨j, h, hb, hc, hm⟩
        rw [if_pos hn, if_pos he']; simp
      · have he' : ¬ Earlier x0 x1 (i 0).val r (512 * (k + 1)) := by
          rintro ⟨j, h, ha, hb, hm⟩
          by_cases hj : j < 512 * k
          · exact he ⟨j, h, hj, hb, hm⟩
          · exact hn ⟨j, h, by omega, ha, hb, hm⟩
        rw [if_neg hn, if_neg he']; simp

/-! ## The statistics -/

/-- Row `r` of block `t` is kept, as far as `512 * k` columns tell. -/
theorem stat0_at (i : grid0.Coords) (n : ℕ) (hn : n ≤ 5000) (r : Fin 256) :
    Ideal.ofBits .f32 0x3F000000#32 < (statOut n i x0 x1 (ix2 r 0) : EReal)
      ↔ minScore < x0 (ix2 r 5) ∧ ¬ Earlier x0 x1 (i 0).val r (512 * trips i n) := by
  classical
  have h1 : (statOut n i x0 x1 (ix2 r 0) : EReal) = FloatOps.sitofp (F := Ideal) .f32 (BitVec.setWidth 32
      (IntOp.andi (FloatOps.cmpf (F := Ideal) (φ := .f32) .ogt (x0 (ix2 r 5)) minScore)
        (FloatOps.cmpf (F := Ideal) (φ := .f32) .olt (supAt i x0 x1 (trips i n) (ix2 r 0)) half))) := by
    unfold statOut k0_pay1 k0_pay35 k0_pay28
    pointwise
    rfl
  rw [h1, mark_if ((Row.andi_one _ _).trans (and_congr (cmp_ogt _ _) (cmp_olt _ _))), sup_at x0 x1 i _ (trips_le i hn)]
  show half < _ ↔ _
  have h2 : half < 1 := by
    rw [half_eq, show (1 : EReal) = ((1 : ℝ) : EReal) by norm_cast, EReal.coe_lt_coe_iff]; norm_num
  have h0 : 0 < half := by
    rw [half_eq, show (0 : EReal) = ((0 : ℝ) : EReal) by norm_cast, EReal.coe_lt_coe_iff]; norm_num
  by_cases he : Earlier x0 x1 (i 0).val r (512 * trips i n)
  · rw [if_pos he, if_neg fun h => lt_asymm h.2 h2]
    exact ⟨fun h => absurd h (lt_asymm h0), fun h => absurd he h.2⟩
  · rw [if_neg he]
    by_cases hv : minScore < x0 (ix2 r 5)
    · rw [if_pos ⟨hv, h0⟩]
      exact ⟨fun _ => ⟨hv, he⟩, fun _ => h2⟩
    · rw [if_neg fun h => hv h.1]
      exact ⟨fun h => absurd h (lt_asymm h0), fun h => absurd h.1 hv⟩

theorem stat1_at (i : grid0.Coords) (n : ℕ) (r : Fin 256) :
    Ideal.ofBits .f32 0x3FC00000#32 < (statOut n i x0 x1 (ix2 r 1) : EReal) ↔ 2 ≤ Row.cnt (mem i x0 x1 r) (512 * trips i n) := by
  have h1 : (statOut n i x0 x1 (ix2 r 1) : EReal) = FloatOps.sitofp (F := Ideal) .f32 (cntAt i x0 x1 (trips i n) (ix2 r 0)) := by
    unfold statOut k0_pay1
    pointwise
    try rfl
  have h2 : (FloatOps.sitofp (F := Ideal) .f32 (cntAt i x0 x1 (trips i n) (ix2 r 0)) : EReal)
      = (((BitVec.ofNat 32 (Row.cnt (mem i x0 x1 r) (512 * trips i n))).toInt : ℝ) : EReal) := rfl
  rw [h1, h2, Row.word_toInt _ (by have := Row.cnt_le (mem i x0 x1 r) (512 * trips i n); omega), three_halves_eq, EReal.coe_lt_coe_iff, Int.cast_natCast]
  constructor
  · intro h
    by_contra hlt
    have : Row.cnt (mem i x0 x1 r) (512 * trips i n) ≤ 1 := by omega
    have h3 : ((Row.cnt (mem i x0 x1 r) (512 * trips i n) : ℕ) : ℝ) ≤ 1 := by exact_mod_cast this
    linarith
  · intro h
    have h3 : (2 : ℝ) ≤ ((Row.cnt (mem i x0 x1 r) (512 * trips i n) : ℕ) : ℝ) := by exact_mod_cast h
    linarith

end Cert.Proof.Sc

end
-- ==== Proof.NmsHost.lean ====
/-
  The rows and columns that the suppression call reads: a box's four words, its class and its score, and past the boxes rows
  of a score below the threshold.
-/
module

public import proofs.«01_k».proof.Proof.First
public import proofs.«01_k».proof.Proof.NmsHit

@[expose] public section

set_option maxRecDepth 16384

noncomputable section

namespace Cert.Proof.Sc

open Cert.KernelIdeal Cert.KernelIdeal.Gen
open Idealize.ShloMosaic Idealize.ShloMosaic.StableHlo

section

variable {F : FTy → Type} [FloatOps F] [Named F]

variable (b : FVec F S5000x7 .f32) (lab : IVec S5000 32) (s : FVec F S5000 .f32)

/-- A box's word as a column. -/
def colOf (x : FVec F S5000x1 .f32) : FVec F S5000x1 .f32 := broadcastInDim S5000x1 ![0] bcast_S5000_S5000x1_0 (shapeCast S5000 x shapeCasts_S5000x1_S5000)

/-- A column of zeros. -/
def zeroCol : FVec F S5000x1 .f32 := broadcastInDim S5000x1 ![0] bcast_S5000_S5000x1_0 (broadcastInDim S5000 ![] bcast_S_S5000 (constant S_ .f32 0x00000000#32))

/-- The rows of the boxes. -/
def boxRows : FVec F S5000x8 .f32 :=
  concatenate S5000x8 1 [⟨S5000x1, colOf (extractStridedSlice S5000x1 ![0, 0] b slices_S5000x7_S5000x1_0_0)⟩,
    ⟨S5000x1, colOf (extractStridedSlice S5000x1 ![0, 1] b slices_S5000x7_S5000x1_0_1)⟩,
    ⟨S5000x1, colOf (extractStridedSlice S5000x1 ![0, 3] b slices_S5000x7_S5000x1_0_3)⟩,
    ⟨S5000x1, colOf (extractStridedSlice S5000x1 ![0, 4] b slices_S5000x7_S5000x1_0_4)⟩,
    ⟨S5000x1, broadcastInDim S5000x1 ![0] bcast_S5000_S5000x1_0 (sitofp .f32 lab)⟩,
    ⟨S5000x1, broadcastInDim S5000x1 ![0] bcast_S5000_S5000x1_0 s⟩,
    ⟨S5000x1, zeroCol⟩,
    ⟨S5000x1, zeroCol⟩]
    concatenates_S5000x1_S5000x1_S5000x1_S5000x1_S5000x1_S5000x1_S5000x1_S5000x1_S5000x8_d1

/-- The rows past the boxes. -/
def padRows : FVec F S120x8 .f32 :=
  shapeCast S120x8 (broadcastInDim S120x1x1x8 ![0, 1, 2, 3] bcast_S1x1x1x8_S120x1x1x8_0_1_2_3
    (shapeCast S1x1x1x8 (fun i : S1x8.Idx => FloatOps.ofBits .f32 (lit0 (S1x8.rowMajor i)) : FVec F S1x8 .f32) shapeCasts_S1x8_S1x1x1x8)) shapeCasts_S120x1x1x8_S120x8

def rowsOf : FVec F S5120x8 .f32 := concatenate S5120x8 0 [⟨S5000x8, boxRows b lab s⟩, ⟨S120x8, padRows⟩] concatenates_S5000x8_S120x8_S5120x8_d0

end

section

variable {F : FTy → Type} [FloatOps F] [Named F] (W : Valuation τ sig (Elt F))

/-- The host's operations up to the columns, and the rest. -/
abbrev opsCols : List (HloOp τ sig (Elt F)) := opsFst.take 51
abbrev opsRows : List (HloOp τ sig (Elt F)) := opsFst.drop 51

theorem fst_split : after opsFst W = after opsRows (after opsCols W) := by
  rw [← after_append, List.take_append_drop]

variable (U : Valuation τ sig (Elt F))

/-- The rows of eight columns, and those past the boxes. -/
def joined (x : Fin 8 → FVec F S5000x1 .f32) (p : FVec F S1x8 .f32) : FVec F S5120x8 .f32 :=
  concatenate S5120x8 0 [⟨S5000x8, concatenate S5000x8 1 [⟨S5000x1, x 0⟩, ⟨S5000x1, x 1⟩, ⟨S5000x1, x 2⟩, ⟨S5000x1, x 3⟩, ⟨S5000x1, x 4⟩, ⟨S5000x1, x 5⟩, ⟨S5000x1, x 6⟩, ⟨S5000x1, x 7⟩]
      concatenates_S5000x1_S5000x1_S5000x1_S5000x1_S5000x1_S5000x1_S5000x1_S5000x1_S5000x8_d1⟩,
    ⟨S120x8, shapeCast S120x8 (broadcastInDim S120x1x1x8 ![0, 1, 2, 3] bcast_S1x1x1x8_S120x1x1x8_0_1_2_3 (shapeCast S1x1x1x8 p shapeCasts_S1x8_S1x1x1x8)) shapeCasts_S120x1x1x8_S120x8⟩]
    concatenates_S5000x8_S120x8_S5120x8_d0

/-- The eight columns as the operations leave them. -/
def cols8 : Fin 8 → FVec F S5000x1 .f32 := ![U (Proc.devRef .tc main_v33), U (Proc.devRef .tc main_v34), U (Proc.devRef .tc main_v35), U (Proc.devRef .tc main_v36),
  U (Proc.devRef .tc main_v37), U (Proc.devRef .tc main_v38), U (Proc.devRef .tc main_v39), U (Proc.devRef .tc main_v40)]

theorem rows_v45 : (after opsRows U (Proc.devRef .tc main_v45) : FVec F S5120x8 .f32) = joined (cols8 U) (U (Proc.devRef .tc main_cst)) := by
  unfold opsRows opsFst
  simp only [List.drop_succ_cons, List.drop_zero]
  after_results <;> rfl
theorem rows_v46 : (after opsRows U (Proc.devRef .tc main_v46) : FVec F S8x5120 .f32)
    = transpose S8x5120 [1, 0] (joined (cols8 U) (U (Proc.devRef .tc main_cst))) transposes_S5120x8_S8x5120_1_0 := by
  unfold opsRows opsFst
  simp only [List.drop_succ_cons, List.drop_zero]
  after_results <;> rfl

/-- The host's boxes, classes and scores in order. -/
abbrev bOf : FVec F S5000x7 .f32 := sBox (W (Proc.devRef .tc main_arg0)) (W (Proc.devRef .tc main_arg1))
abbrev lOf : IVec S5000 32 := sLab (F := F) (W (Proc.devRef .tc main_arg2)) (W (Proc.devRef .tc main_arg1))
abbrev sOf : FVec F S5000 .f32 := sScr (W (Proc.devRef .tc main_arg1))

set_option maxHeartbeats 4000000 in
theorem cols_eq : cols8 (after opsCols W) = ![colOf (extractStridedSlice S5000x1 ![0, 0] (bOf W) slices_S5000x7_S5000x1_0_0),
    colOf (extractStridedSlice S5000x1 ![0, 1] (bOf W) slices_S5000x7_S5000x1_0_1), colOf (extractStridedSlice S5000x1 ![0, 3] (bOf W) slices_S5000x7_S5000x1_0_3),
    colOf (extractStridedSlice S5000x1 ![0, 4] (bOf W) slices_S5000x7_S5000x1_0_4), broadcastInDim S5000x1 ![0] bcast_S5000_S5000x1_0 (sitofp .f32 (lOf W)),
    broadcastInDim S5000x1 ![0] bcast_S5000_S5000x1_0 (sOf W), zeroCol, zeroCol] := by
  unfold cols8 opsCols opsFst
  simp only [List.take_succ_cons, List.take_zero]
  refine congrArg₂ Matrix.vecCons ?_ (congrArg₂ Matrix.vecCons ?_ (congrArg₂ Matrix.vecCons ?_ (congrArg₂ Matrix.vecCons ?_
    (congrArg₂ Matrix.vecCons ?_ (congrArg₂ Matrix.vecCons ?_ (congrArg₂ Matrix.vecCons ?_ (congrArg₂ Matrix.vecCons ?_ rfl)))))))
  all_goals (after_results <;> rfl)

theorem cols_cst : (after opsCols W (Proc.devRef .tc main_cst) : FVec F S1x8 .f32) = fun i => FloatOps.ofBits .f32 (lit0 (S1x8.rowMajor i)) := by
  unfold opsCols opsFst
  simp only [List.take_succ_cons, List.take_zero]
  after_results <;> rfl

theorem joined_cols : joined (cols8 (after opsCols W)) (after opsCols W (Proc.devRef .tc main_cst)) = rowsOf (bOf W) (lOf W) (sOf W) :=
  congrArg₂ joined (cols_eq W) (cols_cst W)

theorem fst_v45 : (after opsFst W (Proc.devRef .tc main_v45) : FVec F S5120x8 .f32) = rowsOf (bOf W) (lOf W) (sOf W) :=
  (congrFun (fst_split W) _).trans ((rows_v45 _).trans (joined_cols W))
theorem fst_v46 : (after opsFst W (Proc.devRef .tc main_v46) : FVec F S8x5120 .f32)
    = transpose S8x5120 [1, 0] (rowsOf (bOf W) (lOf W) (sOf W)) transposes_S5120x8_S8x5120_1_0 :=
  (congrFun (fst_split W) _).trans ((rows_v46 _).trans (congrArg (fun x => transpose S8x5120 [1, 0] x transposes_S5120x8_S8x5120_1_0) (joined_cols W)))

end

section

variable (b : FVec Ideal S5000x7 .f32) (lab : IVec S5000 32) (s : FVec Ideal S5000 .f32)

theorem cols_apply (k : Fin 8) (r : Fin 5120) : (transpose S8x5120 [1, 0] (rowsOf b lab s) transposes_S5120x8_S8x5120_1_0) (ix2 k r) = rowsOf b lab s (ix2 r k) := by
  pointwise

theorem rows_box (r : Fin 5000) (hr : r.val < 5120) :
    rowsOf b lab s (ix2 ⟨r.val, hr⟩ 0) = b (ix2 r 0) ∧ rowsOf b lab s (ix2 ⟨r.val, hr⟩ 1) = b (ix2 r 1) ∧ rowsOf b lab s (ix2 ⟨r.val, hr⟩ 2) = b (ix2 r 3) ∧ rowsOf b lab s (ix2 ⟨r.val, hr⟩ 3) = b (ix2 r 4)
      ∧ rowsOf b lab s (ix2 ⟨r.val, hr⟩ 4) = (((lab (ix1 r)).toInt : ℝ) : EReal) ∧ rowsOf b lab s (ix2 ⟨r.val, hr⟩ 5) = s (ix1 r) := by
  have h := r.isLt
  unfold rowsOf boxRows colOf
  refine ⟨?_, ?_, ?_, ?_, ?_, ?_⟩ <;> (pointwise; try rfl)

theorem rows_pad (R : Fin 5120) (hR : 5000 ≤ R.val) : rowsOf b lab s (ix2 R 5) = Ideal.ofBits .f32 0xBF800000#32 := by
  unfold rowsOf padRows
  pointwise
  rw [dif_neg (by omega)]
  rfl

end

end Cert.Proof.Sc

end
-- ==== Proof.Sorted.lean ====
/-
  The scores in the host's order descend, so the boxes above the threshold come first, and how many the kernel counts bounds
  their places.
-/
module

public import proofs.«01_k».proof.Proof.First
public import proofs.«01_k».proof.Proof.NmsHit
public import Idealize.ShloMosaic.Lib.Routing.OpsSet
public import Idealize.ShloMosaic.Lib.SortFacts

@[expose] public section

set_option maxRecDepth 16384

noncomputable section

namespace Cert.Proof.Sc

open Cert.KernelIdeal Cert.KernelIdeal.Gen
open Idealize.ShloMosaic

variable (s : FVec Ideal S5000 .f32)

/-- The host's comparator at the extended reals: the lesser first. -/
theorem comparator_lt (l r : EReal × BitVec 32) : comparator_f32_i32_d0 (F := Ideal) l r = BitVec.ofBool (decide (l.1 < r.1)) := by
  have hz : Ideal.ofBits .f32 0x00000000#32 = 0 := Ideal.ofBits_zero_f32
  have hn : ∀ x : EReal, Scalar.select (BitVec.ofBool (decide (x ≠ x))) (Ideal.ofBits .f32 0x7FC00000#32)
      (Scalar.select (BitVec.ofBool (decide (x = Ideal.ofBits .f32 0x00000000#32))) (Ideal.ofBits .f32 0x00000000#32) x) = x := by
    intro x
    rw [decide_eq_false (fun h : x ≠ x => h rfl), hz]
    by_cases h : x = 0
    · rw [decide_eq_true h, h]; rfl
    · rw [decide_eq_false h]; rfl
  exact congrArg₂ (fun x y : EReal => BitVec.ofBool (decide (x < y))) (hn l.1) (hn r.1)

/-- The place that the host's sort puts at `j`. -/
def perm (j : Fin 5000) : Fin 5000 := sortedFrom (fun k k' : Fin 5000 => decide (- s (ix1 k) < - s (ix1 k'))) j

theorem order_apply (j : Fin 5000) : order s (ix1 j) = BitVec.ofNat 32 (perm s j).val := by
  unfold order Host.sort2
  rw [dif_pos (by decide)]
  have ha : ∀ k : Fin 5000, (ix1 j : S5000.Idx).along 0 k = ix1 k := fun k => funext fun a => by
    obtain rfl : a = 0 := Subsingleton.elim _ _
    exact Function.update_self ..
  have hb : (fun k k' : Fin 5000 => (comparator_f32_i32_d0 (F := Ideal) (Host.negf s ((ix1 j : S5000.Idx).along 0 k), iotaInDim S5000 32 0 ((ix1 j : S5000.Idx).along 0 k))
        (Host.negf s ((ix1 j : S5000.Idx).along 0 k'), iotaInDim S5000 32 0 ((ix1 j : S5000.Idx).along 0 k')) == 1#1))
      = fun k k' : Fin 5000 => decide (- s (ix1 k) < - s (ix1 k')) := by
    funext k k'
    rw [comparator_lt, ha, ha]
    show (BitVec.ofBool (decide (- s (ix1 k) < - s (ix1 k'))) == 1#1) = _
    cases decide (- s (ix1 k) < - s (ix1 k')) <;> rfl
  refine (congrArg (iotaInDim S5000 32 0) (ha _)).trans ?_
  exact congrArg (fun f : Fin 5000 → Fin 5000 → Bool => BitVec.ofNat 32 (sortedFrom f j).val) hb

theorem places_apply (j : Fin 5000) : places s (ix2 j 0) = BitVec.ofNat 32 (perm s j).val := by
  have h1 : places s (ix2 j 0) = Scalar.select (IntOp.cmpi .slt (order s (ix1 j)) 0#32) (IntOp.addi (order s (ix1 j)) 5000#32) (order s (ix1 j)) := by
    unfold places
    pointwise
    try rfl
  have h2 : ¬ IntOp.cmpi .slt (BitVec.ofNat 32 (perm s j).val) 0#32 = 1#1 := by
    rw [Row.cmpi_slt_one, Row.word_toInt _ (by have := (perm s j).isLt; omega), show (0#32 : BitVec 32).toInt = 0 from rfl]
    omega
  rw [h1, order_apply, Row.select_mark, if_neg h2]

theorem sScr_apply (j : Fin 5000) : sScr s (ix1 j) = s (ix1 (perm s j)) := by
  unfold sScr
  have h := Routing.gather_take1 gather_S5000_S5000x1_S5000_n_0_n_n_0_1_1 rfl rfl rfl rfl s (places s) j (perm s j)
    ((congrArg (places s) (ix2_eq_valueIdx j 0).symm).trans (places_apply s j)) (by decide)
  exact h

theorem sScr_le (i j : Fin 5000) (h : i ≤ j) : sScr s (ix1 j) ≤ sScr s (ix1 i) := by
  rcases h.lt_or_eq with h | rfl
  · have h1 := sortedFrom_noInversion (fun k k' : Fin 5000 => decide (- s (ix1 k) < - s (ix1 k'))) (fun k k' : Fin 5000 => decide (- s (ix1 k) < - s (ix1 k')))
      (fun a b hab => decide_eq_false (lt_asymm (of_decide_eq_true hab))) (fun a b hab => hab)
      (fun a b c hab hbc => decide_eq_false (not_lt.mpr ((not_lt.mp (of_decide_eq_false hbc)).trans (not_lt.mp (of_decide_eq_false hab))))) i j h
    have h2 := not_lt.mp (of_decide_eq_false h1)
    rw [sScr_apply, sScr_apply]
    exact EReal.neg_le_neg_iff.mp h2
  · exact le_refl _

/-- A box above the threshold lies among as many first places as there are such boxes. -/
theorem lt_card (j : Fin 5000) (hj : minScore < sScr s (ix1 j)) :
    j.val < (Finset.univ.filter fun k : Fin 5000 => (FloatOps.cmpf (F := Ideal) (φ := .f32) .ogt (sScr s (ix1 k)) (Scalar.ofBits .f32 0x3E4CCCCD#32) : BitVec 1) = 1#1).card := by
  have h : Finset.Iic j ⊆ Finset.univ.filter fun k : Fin 5000 => (FloatOps.cmpf (F := Ideal) (φ := .f32) .ogt (sScr s (ix1 k)) (Scalar.ofBits .f32 0x3E4CCCCD#32) : BitVec 1) = 1#1 :=
    fun k hk => Finset.mem_filter.mpr ⟨Finset.mem_univ _, (cmp_ogt _ _).mpr (lt_of_lt_of_le hj (sScr_le s k j (Finset.mem_Iic.mp hk)))⟩
  have h2 := Finset.card_le_card h
  rw [Fin.card_Iic] at h2
  omega

end Cert.Proof.Sc

end
-- ==== Proof.MergeValue.lean ====
/-
  The merge call's result read at an index: three layers of sums over the 128 gathered words of a row, and the two
  choices by the row's statistics.
-/
module

public import proofs.«01_k».proof.Proof.Regions
public import proofs.«01_k».proof.Proof.SumIdeal
public import proofs.«01_k».proof.Proof.Spec
public import Idealize.ShloMosaic.Lib.Pointwise
public import Idealize.ShloMosaic.Lib.Pipeline.ValueKit

@[expose] public section

noncomputable section

namespace Cert.Proof.Sc

open Cert.KernelIdeal Cert.KernelIdeal.Gen
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation arrRef arrRefs scopedRest)

/-- The named lower bound of a word that has none: −∞. -/
theorem least_eq : (Named.named (F := Ideal) Cert.KernelIdeal.κ "least" (φ := .f32) 0xFF7FC99E#32 : Ideal .f32) = (⊥ : EReal) :=
  IdealRules.named_const.ideal_named_scalar _ _ _ _ rfl

theorem mergePay_apply (x0 : Vec Ideal S512x128 .f32) (x1 : Vec Ideal S128x128 .f32) (x2 : Vec Ideal S1x128 .f32) (x3 : Vec Ideal S128x128 .f32)
    (x4 : Vec Ideal S1x128 .f32) (x5 : Vec Ideal S128x128 .f32) (x6 : Vec Ideal S1x128 .f32) (x7 : Vec Ideal S512x8 .f32) (x8 : Vec Ideal S512x8 .f32)
    (r : Fin 512) (j : Fin 8) :
    mergePay x0 x1 x2 x3 x4 x5 x6 x7 x8 (ix2 r j)
      = choose (x7 (ix2 r 0)) (x7 (ix2 r 1))
          (max (∑ o : Fin 128, unit (fun i : Fin 128 => unit (fun k : Fin 128 => x0 (ix2 r k)) (fun k => x1 (ix2 k i)) (x2 (ix2 0 i))) (fun i => x3 (ix2 i o)) (x4 (ix2 0 o))
              * x5 (ix2 o ⟨j.val, by omega⟩) + x6 (ix2 0 ⟨j.val, by omega⟩)) (floorAt j.val))
          (x8 (ix2 r j)) := by
  unfold mergePay k2_pay1 k2_pay2 k2_pay3
  pointwise
  rw [least_eq]
  have hf : (Scalar.select (IntOp.andi (IntOp.cmpi CmpIPredicate.sge (BitVec.ofNat 32 j.val) 3#32)
      (IntOp.cmpi CmpIPredicate.slt (BitVec.ofNat 32 j.val) 6#32)) (Ideal.ofBits FTy.f32 925353388#32) (⊥ : EReal) : EReal) = floorAt j.val := by
    unfold floorAt
    fin_cases j <;> rfl
  rw [hf]
  unfold choose
  by_cases hk : Ideal.ofBits .f32 0x3F000000#32 < (x7 (ix2 r 0) : EReal)
  · rw [if_pos hk, if_pos hk]
    by_cases hc : Ideal.ofBits .f32 0x3FC00000#32 < (x7 (ix2 r 1) : EReal)
    · rw [if_pos hc, decide_eq_true hk, decide_eq_true hc]
      rfl
    · rw [if_neg hc, decide_eq_false hc, decide_eq_true hk]
      rfl
  · rw [if_neg hk, if_neg hk]

/-- The merged row `r` of the call's result, word `j`, from the call's nine arrays. -/
def mergeAt (g : S5120x128.Idx → EReal) (w1 : S128x128.Idx → EReal) (b1 : S1x128.Idx → EReal) (w2 : S128x128.Idx → EReal) (b2 : S1x128.Idx → EReal)
    (w3 : S128x128.Idx → EReal) (b3 : S1x128.Idx → EReal) (s b : S5120x8.Idx → EReal) (r : Fin 5120) (j : Fin 8) : EReal :=
  choose (s (ix2 r 0)) (s (ix2 r 1))
    (max (∑ o : Fin 128, unit (fun i : Fin 128 => unit (fun k : Fin 128 => g (ix2 r k)) (fun k => w1 (ix2 k i)) (b1 (ix2 0 i))) (fun i => w2 (ix2 i o)) (b2 (ix2 0 o))
      * w3 (ix2 o ⟨j.val, by omega⟩) + b3 (ix2 0 ⟨j.val, by omega⟩)) (floorAt j.val))
    (b (ix2 r j))

/-- With the weights laid out block-diagonally and the words of slot `k` at the places `8 k + j`, the merged row is `net` of the slots' words. -/
theorem mergeAt_blocks (g : S5120x128.Idx → EReal) (w1 : S128x128.Idx → EReal) (c1 : S1x128.Idx → EReal) (w2 : S128x128.Idx → EReal) (c2 : S1x128.Idx → EReal)
    (w3 : S128x128.Idx → EReal) (c3 : S1x128.Idx → EReal) (s b : S5120x8.Idx → EReal)
    (W1 : S16x16.Idx → EReal) (b1 : S16.Idx → EReal) (W2 : S16x16.Idx → EReal) (b2 : S16.Idx → EReal) (W3 : S1x16.Idx → EReal) (b3 : S1.Idx → EReal)
    (h1 : ∀ p q : Fin 128, w1 (ix2 p q) = delta (p.val % 8) (q.val / 16) * W1 (ix2 ⟨q.val % 16, by omega⟩ ⟨p.val / 8, by omega⟩))
    (k1 : ∀ q : Fin 128, c1 (ix2 0 q) = b1 (ix1 ⟨q.val % 16, by omega⟩))
    (h2 : ∀ p q : Fin 128, w2 (ix2 p q) = delta (p.val / 16) (q.val / 16) * W2 (ix2 ⟨q.val % 16, by omega⟩ ⟨p.val % 16, by omega⟩))
    (k2 : ∀ q : Fin 128, c2 (ix2 0 q) = b2 (ix1 ⟨q.val % 16, by omega⟩))
    (h3 : ∀ (p : Fin 128) (q : Fin 8), w3 (ix2 p ⟨q.val, by omega⟩) = delta (p.val / 16) q.val * W3 (ix2 0 ⟨p.val % 16, by omega⟩))
    (k3 : ∀ q : Fin 128, c3 (ix2 0 q) = b3 (ix1 0))
    (r : Fin 5120) (j : Fin 8) :
    mergeAt g w1 c1 w2 c2 w3 c3 s b r j = choose (s (ix2 r 0)) (s (ix2 r 1))
      (max (net (fun k => g (ix2 r ⟨k.val * 8 + j.val, by omega⟩)) (fun i k => W1 (ix2 i k)) (fun i => b1 (ix1 i)) (fun o i => W2 (ix2 o i)) (fun o => b2 (ix1 o))
        (fun o => W3 (ix2 0 o)) (b3 (ix1 0))) (floorAt j.val)) (b (ix2 r j)) := by
  unfold mergeAt
  simp only [h1, h2, h3, k1, k2, k3]
  rw [net_blocks (fun k => g (ix2 r k)) (fun i k => W1 (ix2 i k)) (fun i => b1 (ix1 i)) (fun o i => W2 (ix2 o i)) (fun o => b2 (ix1 o))
    (fun o => W3 (ix2 0 o)) (b3 (ix1 0)) j.val j.isLt]

variable (V : (c : Dev nD) → Valuation τ sig (Elt Ideal)) (O : Dev nD → CellTallies nD τ sig (HIx 1)) (bnd : ℕ)

/-- Each window's block at a point: the rows' windows take 512 rows, the weights' all. -/
theorem idx_rows (t : Fin grid2.N) : win2_0.index t = ![t.val, 0] ∧ win2_7.index t = ![t.val, 0] ∧ win2_8.index t = ![t.val, 0] ∧ win2_9.index t = ![t.val, 0] := by
  revert t; decide +kernel
theorem idx_all (t : Fin grid2.N) : win2_1.index t = ![0, 0] ∧ win2_2.index t = ![0, 0] ∧ win2_3.index t = ![0, 0] ∧ win2_4.index t = ![0, 0]
    ∧ win2_5.index t = ![0, 0] ∧ win2_6.index t = ![0, 0] := by
  revert t; decide +kernel

theorem rows_lt (t : Fin grid2.N) (r : Fin 512) : t.val * 512 + r.val < 5120 := by
  have h : t.val < 10 := t.isLt
  omega

theorem mblk0 (c : Dev nD) (t : Fin grid2.N) (r : Fin 512) (k : Fin 128) : mblk V c 0 t (ix2 r k) = V c (Proc.devRef .tc main_v70) (ix2 ⟨t.val * 512 + r.val, rows_lt t r⟩ k) := by
  blk_ext [mblk, idx_rows t]
theorem mblk7 (c : Dev nD) (t : Fin grid2.N) (r : Fin 512) (k : Fin 8) : mblk V c 7 t (ix2 r k) = V c (Proc.devRef .tc main_v52_0) (ix2 ⟨t.val * 512 + r.val, rows_lt t r⟩ k) := by
  blk_ext [mblk, idx_rows t]
theorem mblk8 (c : Dev nD) (t : Fin grid2.N) (r : Fin 512) (k : Fin 8) : mblk V c 8 t (ix2 r k) = V c (Proc.devRef .tc main_v109) (ix2 ⟨t.val * 512 + r.val, rows_lt t r⟩ k) := by
  blk_ext [mblk, idx_rows t]
theorem mblk1 (c : Dev nD) (t : Fin grid2.N) (r : Fin 128) (k : Fin 128) : mblk V c 1 t (ix2 r k) = V c (Proc.devRef .tc main_v83) (ix2 r k) := by
  blk_ext [mblk, idx_all t]
theorem mblk3 (c : Dev nD) (t : Fin grid2.N) (r : Fin 128) (k : Fin 128) : mblk V c 3 t (ix2 r k) = V c (Proc.devRef .tc main_v94) (ix2 r k) := by
  blk_ext [mblk, idx_all t]
theorem mblk5 (c : Dev nD) (t : Fin grid2.N) (r : Fin 128) (k : Fin 128) : mblk V c 5 t (ix2 r k) = V c (Proc.devRef .tc main_v106) (ix2 r k) := by
  blk_ext [mblk, idx_all t]
theorem mblk2 (c : Dev nD) (t : Fin grid2.N) (k : Fin 128) : mblk V c 2 t (ix2 0 k) = V c (Proc.devRef .tc main_v87) (ix2 0 k) := by
  blk_ext [mblk, idx_all t]
theorem mblk4 (c : Dev nD) (t : Fin grid2.N) (k : Fin 128) : mblk V c 4 t (ix2 0 k) = V c (Proc.devRef .tc main_v98) (ix2 0 k) := by
  blk_ext [mblk, idx_all t]
theorem mblk6 (c : Dev nD) (t : Fin grid2.N) (k : Fin 128) : mblk V c 6 t (ix2 0 k) = V c (Proc.devRef .tc main_v108) (ix2 0 k) := by
  blk_ext [mblk, idx_all t]

/-- The call's result as one function of its row and word. -/
def merged (c : Dev nD) (r : Fin 5120) (j : Fin 8) : EReal :=
  mergeAt (V c (Proc.devRef .tc main_v70)) (V c (Proc.devRef .tc main_v83)) (V c (Proc.devRef .tc main_v87)) (V c (Proc.devRef .tc main_v94))
    (V c (Proc.devRef .tc main_v98)) (V c (Proc.devRef .tc main_v106)) (V c (Proc.devRef .tc main_v108)) (V c (Proc.devRef .tc main_v52_0))
    (V c (Proc.devRef .tc main_v109)) r j

/-- One block of it. -/
theorem pay_block (c : Dev nD) (t : Fin grid2.N) (p : Fin 512) (q : Fin 8) :
    mergePay (mblk V c 0 t) (mblk V c 1 t) (mblk V c 2 t) (mblk V c 3 t) (mblk V c 4 t) (mblk V c 5 t) (mblk V c 6 t) (mblk V c 7 t) (mblk V c 8 t) (ix2 p q)
      = merged V c ⟨t.val * 512 + p.val, rows_lt t p⟩ q := by
  rw [mergePay_apply]
  unfold merged mergeAt
  simp only [mblk0, mblk1, mblk2, mblk3, mblk4, mblk5, mblk6, mblk7, mblk8]

theorem emb9 (t : Fin grid2.N) (y : S512x8.Idx) : ((win2_9.blk t).view.emb y 0).val = t.val * 512 + (y 0).val ∧ ((win2_9.blk t).view.emb y 1).val = (y 1).val := by
  blk_simp [idx_rows t]
  exact ⟨trivial, trivial⟩

theorem arr9_eq (c : Dev nD) : (datM V O bnd c).arrAt 9 grid2.N = (fun y : S5120x8.Idx => merged V c (y 0) (y 1)) := by
  refine (datM V O bnd c).arrAt_eq_of_covers 9 _ (by decide +kernel) fun t hf y => ?_
  blk_simp
  rw [datM_after9, mergeOut_eq]
  exact (congrArg (mergePay _ _ _ _ _ _ _ _ _) (eq_ix2 (show S512x8.Idx from y))).trans
    ((pay_block V c t _ _).trans (congrArg₂ (merged V c) (Fin.ext (emb9 t y).1.symm) (Fin.ext (emb9 t y).2.symm)))

theorem afterM_apply (c : Dev nD) (r : Fin 5120) (j : Fin 8) :
    (afterM V O bnd c (Proc.devRef .tc main_v110) : S5120x8.Idx → EReal) (ix2 r j) = merged V c r j := by
  have h := (afterM_mrg V O bnd c).trans (arr9_eq V O bnd c)
  exact congrFun h (ix2 r j)

end Cert.Proof.Sc

end
-- ==== Proof.Weights.lean ====
/-
  The host's operations between the two calls, read at an index: the weights laid out for eight words at once.
-/
module

public import proofs.«01_k».proof.Proof.Ops
public import proofs.«01_k».proof.Proof.Spec
public import Idealize.ShloMosaic.Lib.Pointwise
public import Idealize.ShloMosaic.Lib.StableHlo.ReadAt

@[expose] public section

noncomputable section

namespace Cert.Proof.Sc

open Cert.KernelIdeal Cert.KernelIdeal.Gen
open Idealize.ShloMosaic Idealize.ShloMosaic.TcCoe Idealize.ShloMosaic.StableHlo

variable (V : Valuation τ sig (Elt Ideal))

theorem eye_apply (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal) = delta a b := by
  unfold delta
  by_cases h : a = b
  · subst h
    rw [if_pos rfl, show IntOp.cmpi CmpIPredicate.eq (IntOp.addi (BitVec.ofNat 32 a) 0#32) (BitVec.ofNat 32 a) = 1#1 from by
      interval_cases a <;> rfl]
    show (((1#1 : BitVec 1).toNat : ℝ) : EReal) = 1
    simp
  · rw [if_neg h, show IntOp.cmpi CmpIPredicate.eq (IntOp.addi (BitVec.ofNat 32 a) 0#32) (BitVec.ofNat 32 b) = 0#1 from by
      interval_cases a <;> interval_cases b <;> first | rfl | exact absurd rfl h]
    show (((0#1 : BitVec 1).toNat : ℝ) : EReal) = 0
    simp

set_option maxHeartbeats 2000000 in
theorem w1_apply (p q : Fin 128) : (after opsMid V (Proc.devRef .tc main_v83) : S128x128.Idx → EReal) (ix2 p q)
    = delta (p.val % 8) (q.val / 16) * (V (Proc.devRef .tc main_arg3) : S16x16.Idx → EReal) (ix2 ⟨q.val % 16, by omega⟩ ⟨p.val / 8, by omega⟩) := by
  unfold opsMid
  after_reads_at
  rw [eye_apply _ _ (by omega) (by omega)]
set_option maxHeartbeats 2000000 in
theorem w2_apply (p q : Fin 128) : (after opsMid V (Proc.devRef .tc main_v94) : S128x128.Idx → EReal) (ix2 p q)
    = delta (p.val / 16) (q.val / 16) * (V (Proc.devRef .tc main_arg5) : S16x16.Idx → EReal) (ix2 ⟨q.val % 16, by omega⟩ ⟨p.val % 16, by omega⟩) := by
  unfold opsMid
  after_reads_at
  rw [eye_apply _ _ (by omega) (by omega)]
set_option maxHeartbeats 2000000 in
theorem w3_apply (p : Fin 128) (q : Fin 8) : (after opsMid V (Proc.devRef .tc main_v106) : S128x128.Idx → EReal) (ix2 p ⟨q.val, by omega⟩)
    = delta (p.val / 16) q.val * (V (Proc.devRef .tc main_arg7) : S1x16.Idx → EReal) (ix2 0 ⟨p.val % 16, by omega⟩) := by
  unfold opsMid
  after_reads_at
  rw [eye_apply _ _ (by omega) (by omega)]
set_option maxHeartbeats 2000000 in
theorem b1_apply (q : Fin 128) : (after opsMid V (Proc.devRef .tc main_v87) : S1x128.Idx → EReal) (ix2 0 q)
    = (V (Proc.devRef .tc main_arg4) : S16.Idx → EReal) (ix1 ⟨q.val % 16, by omega⟩) := by
  unfold opsMid
  after_reads_at
set_option maxHeartbeats 2000000 in
theorem b2_apply (q : Fin 128) : (after opsMid V (Proc.devRef .tc main_v98) : S1x128.Idx → EReal) (ix2 0 q)
    = (V (Proc.devRef .tc main_arg6) : S16.Idx → EReal) (ix1 ⟨q.val % 16, by omega⟩) := by
  unfold opsMid
  after_reads_at
set_option maxHeartbeats 2000000 in
theorem b3_apply (q : Fin 128) : (after opsMid V (Proc.devRef .tc main_v108) : S1x128.Idx → EReal) (ix2 0 q)
    = (V (Proc.devRef .tc main_arg8) : S1.Idx → EReal) (ix1 0) := by
  unfold opsMid
  after_reads_at
set_option maxHeartbeats 2000000 in
theorem own_apply (r : Fin 5120) (j : Fin 8) (hr : r.val < 5000) (hj : j.val < 7) : (after opsMid V (Proc.devRef .tc main_v109) : S5120x8.Idx → EReal) (ix2 r j)
    = (V (Proc.devRef .tc main_v8) : S5000x7.Idx → EReal) (ix2 ⟨r.val, hr⟩ ⟨j.val, hj⟩) := by
  unfold opsMid
  after_reads_at
  rw [dif_pos ⟨hr, hj⟩]
set_option maxHeartbeats 2000000 in
theorem gath_apply (r : Fin 5120) (q : Fin 128) : (after opsMid V (Proc.devRef .tc main_v70) : S5120x128.Idx → EReal) (ix2 r q)
    = (V (Proc.devRef .tc main_v69) : S32x20480.Idx → EReal) (ix2 ⟨r.val / 160, by omega⟩ ⟨r.val % 160 * 128 + q.val, by omega⟩) := by
  unfold opsMid
  after_reads_at
set_option maxHeartbeats 2000000 in
theorem stats_apply (r : Fin 5120) (j : Fin 8) : (after opsMid V (Proc.devRef .tc main_v52_0) : S5120x8.Idx → EReal) (ix2 r j)
    = (V (Proc.devRef .tc main_v52_0) : S5120x8.Idx → EReal) (ix2 r j) := by
  unfold opsMid
  after_results

end Cert.Proof.Sc

end
-- ==== Proof.GatherValue.lean ====
/-
  The SparseCore call's result read at an index: the table row a slot names, a word at a time.
-/
module

public import proofs.«01_k».proof.Proof.Addrs
public import proofs.«01_k».proof.Proof.Spec
public import Idealize.ShloMosaic.Lib.Routing.OpsSet

@[expose] public section

noncomputable section

namespace Cert.Proof.Sc

open Cert.KernelIdeal Cert.KernelIdeal.Gen
open Idealize.ShloMosaic hiding ix1 ix2 ix3 ix4 eq_ix1 eq_ix2 eq_ix3
open Idealize.ShloMosaic.ValueIdx
open Idealize.ShloMosaic.StableHlo

variable {F : FTy → Type} [FloatOps F] [Named F] [SumTest F]
variable (m : (ℓ : Loc nD τ sig) → Buf (Elt F) ℓ)

/-! ## The table at an index -/

theorem origin_toInt (i : S2.Idx) : (origin i).toInt = 0 := by
  have h : ∀ k : Fin 2, (origin (ix1 k)).toInt = 0 := by
    intro k
    match k with
    | ⟨0, _⟩ => rfl
    | ⟨1, _⟩ => rfl
  exact (congrArg (fun j => (origin j).toInt) (funext fun a => by match a with | ⟨0, _⟩ => rfl)).trans (h (i 0))

theorem table_apply (b : S5000x7.Idx → F .f32) (p : Fin 5128) (j : Fin 8) :
    table b (ix2 p j) = if h : p.val < 5000 ∧ j.val < 7 then b (ix2 ⟨p.val, h.1⟩ ⟨j.val, h.2⟩) else Scalar.ofBits .f32 0x00000000#32 := by
  have hstart : ∀ k a, (scatter_S5128x8_S2_S5000x7_01_n_01_0).start k origin a = 0 := by
    intro k a
    unfold ScatterDims.start
    split
    · exact origin_toInt _
    · rfl
  have hwin : ∀ (k : S5000x7.Idx) (a : Fin 2), (scatter_S5128x8_S2_S5000x7_01_n_01_0).window k a = (k a).val := by
    intro k a
    match a with
    | ⟨0, _⟩ => rfl
    | ⟨1, _⟩ => rfl
  have hres : ∀ k : S5000x7.Idx, (scatter_S5128x8_S2_S5000x7_01_n_01_0).resultIdx? k origin
      = some (ix2 ⟨(k 0).val, lt_trans (k 0).isLt (by decide)⟩ ⟨(k 1).val, lt_trans (k 1).isLt (by decide)⟩) := by
    intro k
    have k0 : (k 0).val < 5000 := (k 0).isLt
    have k1 : (k 1).val < 7 := (k 1).isLt
    unfold ScatterDims.resultIdx?
    rw [dif_pos (by
      intro a
      rw [hstart, hwin]
      match a with
      | ⟨0, _⟩ => exact ⟨by omega, by show (0 : ℤ) + ((k 0).val : ℤ) < 5128; omega⟩
      | ⟨1, _⟩ => exact ⟨by omega, by show (0 : ℤ) + ((k 1).val : ℤ) < 8; omega⟩)]
    refine congrArg some (funext fun a => Fin.ext ?_)
    show ((scatter_S5128x8_S2_S5000x7_01_n_01_0).start k origin a + (scatter_S5128x8_S2_S5000x7_01_n_01_0).window k a).toNat = _
    rw [hstart, hwin]
    match a with
    | ⟨0, _⟩ => show ((0 : ℤ) + ((k 0).val : ℤ)).toNat = (k 0).val; omega
    | ⟨1, _⟩ => show ((0 : ℤ) + ((k 1).val : ℤ)).toNat = (k 1).val; omega
  unfold table
  by_cases h : p.val < 5000 ∧ j.val < 7
  · rw [dif_pos h]
    refine Routing.scatter_set_hit _ _ _ _ _ _ (fun k hk => ?_) (ix2 ⟨p.val, h.1⟩ ⟨j.val, h.2⟩) (hres _)
    rw [hres] at hk
    have e := Option.some.inj hk
    have e0 : (k 0).val = p.val := congrArg (fun i : S5128x8.Idx => (i 0).val) e
    have e1 : (k 1).val = j.val := congrArg (fun i : S5128x8.Idx => (i 1).val) e
    refine congrArg b ((eq_ix2 k).trans ?_)
    exact congrArg₂ ix2 (Fin.ext e0) (Fin.ext e1)
  · rw [dif_neg h]
    refine (Routing.scatter_set_miss _ _ _ _ _ fun k hk => h ?_).trans rfl
    rw [hres] at hk
    have e := Option.some.inj hk
    have e0 : (k 0).val = p.val := congrArg (fun i : S5128x8.Idx => (i 0).val) e
    have e1 : (k 1).val = j.val := congrArg (fun i : S5128x8.Idx => (i 1).val) e
    have k0 : (k 0).val < 5000 := (k 0).isLt
    have k1 : (k 1).val < 7 := (k 1).isLt
    exact ⟨by omega, by omega⟩

/-- The gathered words at row `r`, column `q`: word `q % 8` of the box that slot `q / 8` of the row names. -/
theorem OT_apply (hs : ∀ d i, (slots m d i).toNat ≤ 5120) (d : Dev nD) (r : Fin 5120) (q : Fin 128) :
    (OT (TB m) (AD m) d : S32x20480.Idx → F .f32) (ix2 ⟨r.val / 160, by omega⟩ ⟨r.val % 160 * 128 + q.val, by omega⟩)
      = cell (boxes m d) (Scalar.ofBits .f32 0x00000000#32) (slots m d (ix2 r ⟨q.val / 8, by omega⟩)) (q.val % 8) := by
  have hq := q.isLt
  have hr := r.isLt
  show TB m d (tabIx (AD m d (ix2 _ _))) = _
  rw [AD_apply m d (ix2 _ _) r ⟨q.val / 8, by omega⟩ ⟨q.val % 8, by omega⟩
    (by show r.val / 160 * 20480 + (r.val % 160 * 128 + q.val) = (r.val * 16 + q.val / 8) * 8 + q.val % 8; omega)]
  have hb := hs d (ix2 r ⟨q.val / 8, by omega⟩)
  generalize slots m d (ix2 r ⟨q.val / 8, by omega⟩) = v at hb ⊢
  have ha := addr_toNat v hb ⟨q.val % 8, by omega⟩
  rw [TB_eq, shapeCast_apply _ _ _ (ix2 (⟨v.toNat, by omega⟩ : Fin 5128) (⟨q.val % 8, by omega⟩ : Fin 8))
    (by rw [Shape.rowMajor_val_two, Shape.rowMajor_val_one]
        show v.toNat * 8 + q.val % 8 = (v * 8#32 + BitVec.ofNat 32 (q.val % 8)).toNat % 41024
        rw [ha]
        show v.toNat * 8 + q.val % 8 = (v.toNat * 8 + q.val % 8) % 41024
        omega), table_apply]
  rfl

end Cert.Proof.Sc

end
-- ==== Proof.KerValue.lean ====
/-
  The kernel's result read at an index.
-/
module

public import proofs.«01_k».proof.Proof.Main
public import proofs.«01_k».proof.Proof.MergeValue
public import proofs.«01_k».proof.Proof.Weights
public import proofs.«01_k».proof.Proof.GatherValue

@[expose] public section

noncomputable section

namespace Cert.Proof.Sc

open Cert.KernelIdeal Cert.KernelIdeal.Gen
open Idealize.ShloMosaic Idealize.ShloMosaic.TcCoe Idealize.ShloMosaic.StableHlo

variable (m : (ℓ : Loc nD τ sig) → Buf (Elt Ideal) ℓ)

/-- The result is the first rows and words of the merge call's. -/
theorem post_apply (V : Valuation τ sig (Elt Ideal)) (r : Fin 5000) (j : Fin 7) :
    (after opsPost V (Proc.devRef .tc main_v111) : S5000x7.Idx → EReal) (ix2 r j)
      = (V (Proc.devRef .tc main_v110) : S5120x8.Idx → EReal) (ix2 ⟨r.val, by omega⟩ ⟨j.val, by omega⟩) := by
  unfold opsPost
  after_reads_at

theorem V4_V2 {r : Ref sig .tc} (d : Dev nD) (h3 : r ∉ wPre) (h4 : r ≠ main_v69) : V4 m d (Proc.devRef .tc r) = V2 m d (Proc.devRef .tc r) :=
  (V4_of_ne m d h4).trans (V3_of_ne m d h3)
theorem V4_m {r : Ref sig .tc} (d : Dev nD) (h1 : r ∉ wFst) (h2 : r ∉ [main_v52_0, main_v52_1]) (h3 : r ∉ wPre) (h4 : r ≠ main_v69) :
    V4 m d (Proc.devRef .tc r) = m (d, Proc.devRef .tc r) :=
  (V4_V2 m d h3 h4).trans ((V2_of_ne m d h2).trans (V1_arg m d h1))

theorem V4_out (d : Dev nD) : V4 m d (Proc.devRef .tc main_v69) = OT (TB m) (AD m) d := by
  unfold V4
  rw [Function.update_self]

theorem V7_apply (hs : ∀ d i, (slots m d i).toNat ≤ 5120) (d : Dev nD) (r : Fin 5000) (j : Fin 7) :
    (V7 m d res' : S5000x7.Idx → EReal) (ix2 r j)
      = rowOut (boxes m d) (V2 m d (Proc.devRef .tc main_v52_0)) (slots m d) (m (d, Proc.devRef .tc main_arg3)) (m (d, Proc.devRef .tc main_arg4))
          (m (d, Proc.devRef .tc main_arg5)) (m (d, Proc.devRef .tc main_arg6)) (m (d, Proc.devRef .tc main_arg7)) (m (d, Proc.devRef .tc main_arg8)) r j := by
  have hr := r.isLt
  have hj := j.isLt
  refine (post_apply (V6 m d) r j).trans ((afterM_apply (V5 m) _ _ d _ _).trans ?_)
  have hc : ∀ q : Fin 128, (OT (TB m) (AD m) d : S32x20480.Idx → EReal) (ix2 ⟨r.val / 160, by omega⟩ ⟨r.val % 160 * 128 + q.val, by omega⟩)
      = cell (boxes m d) (0 : EReal) (slots m d (ix2 ⟨r.val, by omega⟩ ⟨q.val / 8, by omega⟩)) (q.val % 8) := by
    intro q
    have h := OT_apply m hs d ⟨r.val, by omega⟩ q
    simp only [← ix2_eq_valueIdx] at h
    exact h.trans (congrArg (fun z => cell (boxes m d) z _ _) Ideal.ofBits_zero_f32)
  refine (mergeAt_blocks _ _ _ _ _ _ _ _ _ _ _ _ _ _ _ (w1_apply (V4 m d)) (b1_apply (V4 m d)) (w2_apply (V4 m d)) (b2_apply (V4 m d))
    (w3_apply (V4 m d)) (b3_apply (V4 m d)) _ _).trans ?_
  have hg : ∀ k : Fin 16, (V5 m d (Proc.devRef .tc main_v70) : S5120x128.Idx → EReal) (ix2 ⟨r.val, by omega⟩ ⟨k.val * 8 + j.val, by omega⟩)
      = cell (boxes m d) 0 (slots m d (ix2 ⟨r.val, by omega⟩ k)) j.val := fun k =>
    (gath_apply (V4 m d) _ _).trans ((congrFun (V4_out m d) _).trans ((hc ⟨k.val * 8 + j.val, by omega⟩).trans (by
      have e1 : (⟨(k.val * 8 + j.val) / 8, by omega⟩ : Fin 16) = k := Fin.ext (by show (k.val * 8 + j.val) / 8 = k.val; omega)
      have e2 : (k.val * 8 + j.val) % 8 = j.val := by omega
      show cell _ _ (slots m d (ix2 _ ⟨(k.val * 8 + j.val) / 8, _⟩)) ((k.val * 8 + j.val) % 8) = _
      rw [e1, e2])))
  have hst : ∀ k : Fin 8, (V5 m d (Proc.devRef .tc main_v52_0) : S5120x8.Idx → EReal) (ix2 ⟨r.val, by omega⟩ k) = (V2 m d (Proc.devRef .tc main_v52_0) : S5120x8.Idx → EReal) (ix2 ⟨r.val, by omega⟩ k) :=
    fun k => congrFun ((V5_of_ne m d (r := main_v52_0) (by decide)).trans (V4_V2 m d (r := main_v52_0) (by decide) (by decide))) _
  have hown : (V5 m d (Proc.devRef .tc main_v109) : S5120x8.Idx → EReal) (ix2 ⟨r.val, by omega⟩ ⟨j.val, by omega⟩) = boxes m d (ix2 r j) :=
    (own_apply (V4 m d) _ _ hr hj).trans (congrFun (V4_V2 m d (r := main_v8) (by decide) (by decide)) _)
  simp only [hg, hst, hown]
  rw [V4_m m d (r := main_arg3) (by decide) (by decide) (by decide) (by decide), V4_m m d (r := main_arg4) (by decide) (by decide) (by decide) (by decide), V4_m m d (r := main_arg5) (by decide) (by decide) (by decide) (by decide),
    V4_m m d (r := main_arg6) (by decide) (by decide) (by decide) (by decide), V4_m m d (r := main_arg7) (by decide) (by decide) (by decide) (by decide), V4_m m d (r := main_arg8) (by decide) (by decide) (by decide) (by decide)]
  rfl

end Cert.Proof.Sc

end
-- ==== Proof.NmsPicks.lean ====
/-
  The kernel's result in plain terms: which boxes a row meets, from the rows and columns that the suppression call reads; past
  the columns it goes through no box is valid, so its statistics and lists are those over all the boxes.
-/
module

public import proofs.«01_k».proof.Proof.NmsHost
public import proofs.«01_k».proof.Proof.Sorted
public import proofs.«01_k».proof.Proof.KerValue

@[expose] public section

set_option maxRecDepth 16384

noncomputable section

namespace Cert.Proof.Row

open scoped Classical in
theorem count_eq {q q' : ℕ → Prop} {x : ℕ} (h : ∀ j, j < x → (q j ↔ q' j)) : Nat.count q x = Nat.count q' x := by
  induction x with
  | zero => rw [Nat.count_zero, Nat.count_zero]
  | succ x ih =>
    rw [Nat.count_succ, Nat.count_succ, ih fun j hj => h j (Nat.lt_succ_of_lt hj), if_congr (h x (Nat.lt_succ_self x)) rfl rfl]

open scoped Classical in
theorem slot_eq {q q' : ℕ → Prop} {x : ℕ} (l : ℕ) (h : ∀ j, j < x → (q j ↔ q' j)) : slot q x l = slot q' x l := by
  induction x with
  | zero => rfl
  | succ x ih =>
    rw [slot, slot, ih fun j hj => h j (Nat.lt_succ_of_lt hj), count_eq fun j hj => h j (Nat.lt_succ_of_lt hj)]
    exact if_congr (and_congr_left fun _ => h x (Nat.lt_succ_self x)) rfl rfl

end Cert.Proof.Row

namespace Cert.Proof.Sc

open Cert.KernelIdeal Cert.KernelIdeal.Gen
open Idealize.ShloMosaic Idealize.ShloMosaic.StableHlo

section

variable (b : FVec Ideal S5000x7 .f32) (lab : IVec S5000 32) (s : FVec Ideal S5000 .f32)
variable (x0 : Vec Ideal S256x8 .f32) (x1 : Vec Ideal S8x5120 .f32) (i : grid0.Coords) (r : Fin 256) (R : Fin 5000) (hR : R.val = 256 * (i 0).val + r.val)
variable (hR' : R.val < 5120) (h0 : ∀ k, x0 (ix2 r k) = rowsOf b lab s (ix2 ⟨R.val, hR'⟩ k)) (h1 : ∀ k c, x1 (ix2 k c) = rowsOf b lab s (ix2 c k))

theorem label_inj (u v : BitVec 32) : (((u.toInt : ℝ) : EReal) = ((v.toInt : ℝ) : EReal)) ↔ u = v := by
  rw [EReal.coe_eq_coe_iff, Int.cast_inj]
  exact BitVec.toInt_inj

include h0 h1 in
theorem meets_box (c : Fin 5000) (hc : c.val < 5120) : Meets x0 x1 r ⟨c.val, hc⟩ ↔ Hit b s lab R c := by
  obtain ⟨a0, a1, a2, a3, a4, a5⟩ := rows_box b lab s R hR'
  obtain ⟨c0, c1, c2, c3, c4, c5⟩ := rows_box b lab s c hc
  have e1 : rowBox x0 r = flat b R := by
    unfold rowBox flat
    rw [h0, h0, h0, h0, a0, a1, a2, a3]
  have e2 : colBox x1 ⟨c.val, hc⟩ = flat b c := by
    unfold colBox flat
    rw [h1, h1, h1, h1, c0, c1, c2, c3]
  unfold Meets Hit
  rw [e1, e2, h0, h1, h1, a4, c4, c5, label_inj]
  tauto

include h1 in
theorem meets_pad (c : Fin 5120) (hc : 5000 ≤ c.val) : ¬ Meets x0 x1 r c := by
  rintro ⟨-, h⟩
  rw [h1, rows_pad b lab s c hc, neg_one_eq] at h
  have h2 : ((-1 : ℝ) : EReal) < 0 := by
    rw [show (0 : EReal) = ((0 : ℝ) : EReal) by norm_cast, EReal.coe_lt_coe_iff]; norm_num
  exact absurd (minScore_pos.trans (h.trans h2)) (lt_irrefl _)

include hR h0 h1 in
theorem mem_member (j : ℕ) (hj : j < 5120) : mem i x0 x1 r j ↔ Member b s lab R j := by
  rw [mem_iff x0 x1 i r j hj, ← hR]
  unfold Member
  by_cases hc : j < 5000
  · rw [meets_box b lab s x0 x1 r R hR' h0 h1 ⟨j, hc⟩ hj]
    exact ⟨fun h => ⟨hc, h⟩, fun ⟨_, h⟩ => h⟩
  · exact ⟨fun h => absurd h.1 (meets_pad b lab s x0 x1 r h1 ⟨j, hj⟩ (by show 5000 ≤ j; omega)), fun ⟨h, _⟩ => absurd h hc⟩

variable (n : ℕ) (hn : n ≤ 5000) (hs : ∀ j : Fin 5000, minScore < s (ix1 j) → j.val < n)

include hR hs in
/-- Past the columns that the body goes through there are no members. -/
theorem no_member (z : ℕ) (hz : 512 * trips i n ≤ z) : ¬ Member b s lab R z := by
  rintro ⟨h, ⟨-, -, hv⟩, hle⟩
  have hlt := hs ⟨z, h⟩ hv
  have hlt' : z < n := hlt
  unfold trips at hz
  split at hz <;> omega

include hR h0 h1 hn hs in
theorem slot_picks (l : ℕ) : Row.slot (mem i x0 x1 r) (512 * trips i n) l = Row.slot (Member b s lab R) 5000 l := by
  have ht := trips_le i hn
  have hno := no_member b lab s i r R hR n hs
  rw [Row.slot_eq l fun j hj => mem_member b lab s x0 x1 i r R hR hR' h0 h1 j (by omega),
    ← Row.slot_stop (x := 512 * trips i n) (y := 5120) (by omega) fun z h1 _ h => hno z h1 h.1,
    Row.slot_stop (x := 5000) (y := 5120) (by omega) fun z h1 _ h => by obtain ⟨h', _⟩ := h.1; omega]

open scoped Classical in
include hR h0 h1 hn hs in
theorem count_picks : Nat.count (mem i x0 x1 r) (512 * trips i n) = Nat.count (Member b s lab R) 5000 := by
  have ht := trips_le i hn
  have hno := no_member b lab s i r R hR n hs
  rw [Row.count_eq fun j hj => mem_member b lab s x0 x1 i r R hR hR' h0 h1 j (by omega),
    ← Row.count_stop (x := 512 * trips i n) (y := 5120) (by omega) fun z h1 _ => hno z h1,
    Row.count_stop (x := 5000) (y := 5120) (by omega) fun z h1 _ h => by obtain ⟨h', _⟩ := h; omega]

include hR h0 h1 hn hs in
theorem kept_iff : (minScore < x0 (ix2 r 5) ∧ ¬ Earlier x0 x1 (i 0).val r (512 * trips i n)) ↔ Kept b s lab R := by
  obtain ⟨-, -, -, -, -, a5⟩ := rows_box b lab s R hR'
  rw [h0, a5]
  unfold Kept
  refine and_congr_right fun hv => not_congr ?_
  have hlt := hs R hv
  have hX : n ≤ 512 * trips i n := by
    unfold trips
    split <;> omega
  constructor
  · rintro ⟨j, h, ha, hb, hm⟩
    have hj : j < 5000 := by have := R.isLt; omega
    exact ⟨⟨j, hj⟩, by show j < R.val; omega, (meets_box b lab s x0 x1 r R hR' h0 h1 ⟨j, hj⟩ h).mp hm⟩
  · rintro ⟨j, hj, hm⟩
    have hj' : j.val < R.val := hj
    exact ⟨j.val, by have := j.isLt; omega, by omega, by omega, (meets_box b lab s x0 x1 r R hR' h0 h1 j _).mpr hm⟩

end

open scoped Classical in
/-- A row whose statistics and slots say what suppression does. -/
theorem row_spec (b' : S5000x7.Idx → EReal) (st : S5120x8.Idx → EReal) (idx : S5120x16.Idx → BitVec 32) (b : S5000x7.Idx → EReal) (lab : IVec S5000 32) (s : S5000.Idx → EReal)
    (W1 : (⟨2, ![16, 16]⟩ : Shape).Idx → EReal) (b1 : (⟨1, ![16]⟩ : Shape).Idx → EReal) (W2 : (⟨2, ![16, 16]⟩ : Shape).Idx → EReal)
    (b2 : (⟨1, ![16]⟩ : Shape).Idx → EReal) (W3 : (⟨2, ![1, 16]⟩ : Shape).Idx → EReal) (b3 : (⟨1, ![1]⟩ : Shape).Idx → EReal)
    (R : Fin 5000) (j : Fin 7) (hb : b' = b) (hR : R.val < 5120)
    (h0 : Ideal.ofBits .f32 0x3F000000#32 < st (ix2 ⟨R.val, hR⟩ 0) ↔ Kept b s lab R)
    (h1 : Ideal.ofBits .f32 0x3FC00000#32 < st (ix2 ⟨R.val, hR⟩ 1) ↔ 2 ≤ Nat.count (Member b s lab R) 5000)
    (h2 : ∀ k, idx (ix2 ⟨R.val, hR⟩ k) = BitVec.ofNat 32 (Row.slot (Member b s lab R) 5000 k.val)) :
    rowOut b' st idx W1 b1 W2 b2 W3 b3 R j = specOut b s lab W1 b1 W2 b2 W3 b3 R j := by
  subst hb
  unfold rowOut choose specOut
  simp only [h2]
  exact if_congr h0 (if_congr h1 rfl rfl) rfl

variable (m : (ℓ : Loc nD τ sig) → Buf (Elt Ideal) ℓ)

/-- The boxes, classes and scores in the order of the scores. -/
abbrev boxS (d : Dev nD) : FVec Ideal S5000x7 .f32 := bOf (V0 m d)
abbrev labS (d : Dev nD) : IVec S5000 32 := lOf (V0 m d)
abbrev scrS (d : Dev nD) : FVec Ideal S5000 .f32 := sOf (V0 m d)

theorem valid_lt (d : Dev nD) (j : Fin 5000) (hj : minScore < scrS m d (ix1 j)) : j.val < nv m := by
  obtain rfl : d = 0 := Subsingleton.elim _ _
  rw [nv_eq]
  exact lt_card _ j hj

theorem boxes_eq (d : Dev nD) : boxes m d = boxS m d :=
  (V2_of_ne m d (r := main_v8) (by decide)).trans (fst_v8 (V0 m d))

section

variable (d : Dev nD) (R : Fin 5000)

/-- The row's block, and its place there. -/
def blkR : Fin grid0.N := ⟨R.val / 256, by have := R.isLt; show _ < 20; omega⟩
def rowR : Fin 256 := ⟨R.val % 256, Nat.mod_lt _ (by decide)⟩

theorem R_eq : R.val = 256 * ((grid0.coords (blkR R)) 0).val + (rowR R).val := by
  rw [ncoord (blkR R)]
  show R.val = 256 * (R.val / 256) + R.val % 256
  omega

abbrev X0 : Vec Ideal S256x8 .f32 := nblk (tabN m) (V1 m) d 0 (blkR R)
abbrev X1 : Vec Ideal S8x5120 .f32 := nblk (tabN m) (V1 m) d 1 (blkR R)

theorem X0_apply (hR : R.val < 5120) (k : Fin 8) : X0 m d R (ix2 (rowR R) k) = rowsOf (boxS m d) (labS m d) (scrS m d) (ix2 ⟨R.val, hR⟩ k) := by
  refine (nblk0 (tabN m) (V1 m) d (blkR R) (rowR R) k).trans ((congrFun (fst_v45 (V0 m d)) _).trans ?_)
  exact congrArg (fun q => rowsOf (boxS m d) (labS m d) (scrS m d) (ix2 q k)) (Fin.ext (by show R.val / 256 * 256 + R.val % 256 = R.val; omega))
theorem X1_apply (k : Fin 8) (c : Fin 5120) : X1 m d R (ix2 k c) = rowsOf (boxS m d) (labS m d) (scrS m d) (ix2 c k) :=
  (nblk1 (tabN m) (V1 m) d (blkR R) k c).trans ((congrFun (fst_v46 (V0 m d)) _).trans (cols_apply _ _ _ k c))

theorem stat_apply (k : Fin 8) (hR : R.val < 5120) :
    (V2 m d (Proc.devRef .tc main_v52_0) : S5120x8.Idx → EReal) (ix2 ⟨R.val, hR⟩ k) = statOut (nv m) (grid0.coords (blkR R)) (X0 m d R) (X1 m d R) (ix2 (rowR R) k) := by
  have h : (V2 m d (Proc.devRef .tc main_v52_0) : S5120x8.Idx → EReal) = statAll (tabN m) (V1 m) (nv m) d :=
    (afterN_sta (tabN m) (V1 m) _ _ (nv m) d).trans (staN_eq (tabN m) (V1 m) _ _ (nv m) d)
  exact congrFun h _
theorem slots_apply (l : Fin 16) (hR : R.val < 5120) :
    slots m d (ix2 ⟨R.val, hR⟩ l) = BitVec.ofNat 32 (Row.slot (mem (grid0.coords (blkR R)) (X0 m d R) (X1 m d R) (rowR R)) (512 * trips (grid0.coords (blkR R)) (nv m)) l.val) := by
  have h : (slots m d : S5120x16.Idx → BitVec 32) = idxAll (tabN m) (V1 m) (nv m) d :=
    (afterN_ind (tabN m) (V1 m) _ _ (nv m) d).trans (indN_eq (tabN m) (V1 m) _ _ (nv m) d)
  exact congrFun h _

/-- Word `j` of row `R` of the kernel's result. -/
theorem V7_spec (j : Fin 7) : (V7 m d res' : S5000x7.Idx → EReal) (ix2 R j)
    = specOut (boxS m d) (scrS m d) (labS m d) (m (d, Proc.devRef .tc main_arg3)) (m (d, Proc.devRef .tc main_arg4))
        (m (d, Proc.devRef .tc main_arg5)) (m (d, Proc.devRef .tc main_arg6)) (m (d, Proc.devRef .tc main_arg7)) (m (d, Proc.devRef .tc main_arg8)) R j := by
  have hR : R.val < 5120 := by have := R.isLt; omega
  have hx := X0_apply m d R hR
  have hy := X1_apply m d R
  have hv := valid_lt m d
  have hn := nv_le m
  refine (V7_apply m (slots_le m) d R j).trans (row_spec (boxes m d) _ _ (boxS m d) (labS m d) (scrS m d) _ _ _ _ _ _ R j (boxes_eq m d) hR ?_ ?_ ?_)
  · rw [stat_apply m d R 0 hR]
    exact (stat0_at _ _ _ _ hn _).trans (kept_iff _ _ _ _ _ _ _ R (R_eq R) hR hx hy _ hn hv)
  · rw [stat_apply m d R 1 hR]
    refine (stat1_at _ _ _ _ _).trans ?_
    unfold Row.cnt
    rw [count_picks (boxS m d) (labS m d) (scrS m d) _ _ _ _ R (R_eq R) hR hx hy _ hn hv]
    omega
  · intro k
    rw [slots_apply m d R k hR, slot_picks (boxS m d) (labS m d) (scrS m d) _ _ _ _ R (R_eq R) hR hx hy _ hn hv]

end

end Cert.Proof.Sc

end
-- ==== Proof.RefNms.lean ====
/-
  The reference's suppression read at an index: which boxes a row meets, whether it is kept, and its members.
-/
module

public import proofs.«01_k».proof.Defs
public import proofs.«01_k».proof.Proof.Gen.ReferenceIdeal
public import proofs.«01_k».proof.Proof.Gen.ReferenceIdeal.Run
public import proofs.«01_k».proof.Proof.Picks
public import Idealize.ShloMosaic.Lib.Pointwise
public import Idealize.ShloMosaic.Lib.Tactic.CleanTypes

@[expose] public section

set_option maxRecDepth 16384

noncomputable section

namespace Cert.Proof.Ref

open Idealize.ShloMosaic
open Cert.ReferenceIdeal Cert.ReferenceIdeal.Gen Cert.Proof.Sc

variable (V : Valuation τ sig (Elt Ideal))

/-- The boxes, the classes and the scores in the order of the scores. -/
abbrev box : S5000x7.Idx → EReal := Value.res_main_v8 V
abbrev lab : S5000.Idx → BitVec 32 := Value.res_main_v22 V

theorem v26_at (i : Fin 5000) : (Value.res_main_v26 V : S5000.Idx → EReal) (ix1 i) = box V (ix2 i 0) := by
  unfold Value.res_main_v26; clean_types; pointwise
theorem v28_at (i : Fin 5000) : (Value.res_main_v28 V : S5000.Idx → EReal) (ix1 i) = box V (ix2 i 1) := by
  unfold Value.res_main_v28; clean_types; pointwise
theorem v30_at (i : Fin 5000) : (Value.res_main_v30 V : S5000.Idx → EReal) (ix1 i) = box V (ix2 i 3) := by
  unfold Value.res_main_v30; clean_types; pointwise
theorem v32_at (i : Fin 5000) : (Value.res_main_v32 V : S5000.Idx → EReal) (ix1 i) = box V (ix2 i 4) := by
  unfold Value.res_main_v32; clean_types; pointwise
theorem halved (x : EReal) : Ideal.div x (Ideal.ofBits .f32 0x40000000#32) = x * half := by
  have h : (2 : ℝ)⁻¹ = 1 / 2 := by norm_num
  have h0 : ((2 : ℝ) : EReal) ≠ 0 := by
    rw [show (0 : EReal) = ((0 : ℝ) : EReal) by norm_cast]
    intro e
    rw [EReal.coe_eq_coe_iff] at e
    norm_num at e
  unfold Ideal.div
  rw [two_eq, if_neg h0, half_eq, ← h, EReal.coe_inv]

theorem v35_at (i : Fin 5000) : (Value.res_main_v35 V : S5000.Idx → EReal) (ix1 i) = box V (ix2 i 0) - box V (ix2 i 3) * half := by
  unfold Value.res_main_v35; clean_types; pointwise; rw [halved]; exact congrArg₂ (fun x y => x - y * half) (v26_at V i) (v30_at V i)
theorem v38_at (i : Fin 5000) : (Value.res_main_v38 V : S5000.Idx → EReal) (ix1 i) = box V (ix2 i 0) + box V (ix2 i 3) * half := by
  unfold Value.res_main_v38; clean_types; pointwise; rw [halved]; exact congrArg₂ (fun x y => x + y * half) (v26_at V i) (v30_at V i)
theorem v41_at (i : Fin 5000) : (Value.res_main_v41 V : S5000.Idx → EReal) (ix1 i) = box V (ix2 i 1) - box V (ix2 i 4) * half := by
  unfold Value.res_main_v41; clean_types; pointwise; rw [halved]; exact congrArg₂ (fun x y => x - y * half) (v28_at V i) (v32_at V i)
theorem v44_at (i : Fin 5000) : (Value.res_main_v44 V : S5000.Idx → EReal) (ix1 i) = box V (ix2 i 1) + box V (ix2 i 4) * half := by
  unfold Value.res_main_v44; clean_types; pointwise; rw [halved]; exact congrArg₂ (fun x y => x + y * half) (v28_at V i) (v32_at V i)
theorem v70_at (i : Fin 5000) : (Value.res_main_v70 V : S5000.Idx → EReal) (ix1 i) = box V (ix2 i 3) * box V (ix2 i 4) := by
  unfold Value.res_main_v70; clean_types; pointwise; exact congrArg₂ (fun x y => x * y) (v30_at V i) (v32_at V i)

theorem v69_at (i j : Fin 5000) : (Value.res_main_v69 V : S5000x5000.Idx → EReal) (ix2 i j) = overlap (flat (box V) i) (flat (box V) j) := by
  unfold Value.res_main_v69; clean_types; simp only [id_eq]; pointwise
  have e1 := v35_at V; have e2 := v38_at V; have e3 := v41_at V; have e4 := v44_at V
  simp only [e1, e2, e3, e4]
  rfl

/-- The boxes' overlaps above the threshold, of one class. -/
theorem v84_lt (i j : Fin 5000) : minShare < (Value.res_main_v84 V : S5000x5000.Idx → EReal) (ix2 i j)
    ↔ lab V (ix1 i) = lab V (ix1 j) ∧ minShare < share (flat (box V) i) (flat (box V) j) := by
  have h : (Value.res_main_v84 V : S5000x5000.Idx → EReal) (ix2 i j)
      = if lab V (ix1 i) = lab V (ix1 j) then share (flat (box V) i) (flat (box V) j) else 0 := by
    unfold Value.res_main_v84; clean_types; simp only [id_eq]; pointwise
    have e1 := v69_at V; have e2 := v70_at V
    simp only [e1, e2]
    by_cases hl : lab V (ix1 i) = lab V (ix1 j)
    · rw [if_pos hl, (Row.cmpi_eq_one _ _).mpr hl, ValueIdx.select_one]
      rfl
    · rw [if_neg hl, (ValueIdx.eq_zero_of_ne_one (mt (Row.cmpi_eq_one _ _).mp hl)), ValueIdx.select_zero]
  rw [h]
  by_cases hl : lab V (ix1 i) = lab V (ix1 j)
  · rw [if_pos hl]; exact ⟨fun h => ⟨hl, h⟩, fun h => h.2⟩
  · rw [if_neg hl]; exact ⟨fun h => absurd h (lt_asymm minShare_pos), fun h => absurd h.1 hl⟩

/-- The scores in order. -/
def scr : S5000.Idx → EReal := Host.gather gather_S5000_S5000x1_S5000_n_0_n_n_0_1_1 (V (Proc.devRef .tc main_arg1) : S5000.Idx → EReal)
  (broadcastInDim S5000x1 ![0] bcast_S5000_S5000x1_0
    (select (cmpi .slt (Value.res_main_v1 V) (broadcastInDim S5000 ![] bcast_S_S5000 (constantI S_ 32 0#32)))
      (addi (Value.res_main_v1 V) (broadcastInDim S5000 ![] bcast_S_S5000 (constantI S_ 32 5000#32))) (Value.res_main_v1 V)))

theorem bool_one (p : Prop) [Decidable p] : BitVec.ofBool (decide p) = 1#1 ↔ p := by
  by_cases h : p <;> simp [h]

theorem v24_one (i : Fin 5000) : (Value.res_main_v24 V : S5000.Idx → BitVec 1) (ix1 i) = 1#1 ↔ minScore < scr V (ix1 i) := by
  unfold Value.res_main_v24; clean_types; pointwise
  exact bool_one _

theorem v85_at (i : Fin 5000) : (Value.res_main_v85 V : S5000.Idx → BitVec 32) (ix1 i) = BitVec.ofNat 32 i.val := by
  unfold Value.res_main_v85; clean_types; pointwise

theorem le_iff (i j : Fin 5000) : ((Value.res_main_v85 V : S5000.Idx → BitVec 32) (ix1 i)).toInt ≤ ((Value.res_main_v85 V : S5000.Idx → BitVec 32) (ix1 j)).toInt ↔ i.val ≤ j.val := by
  have hi := i.isLt
  have hj := j.isLt
  rw [v85_at V i, v85_at V j, Row.word_toInt _ (by omega), Row.word_toInt _ (by omega), Nat.cast_le]
theorem lt_iff (i j : Fin 5000) : ((Value.res_main_v85 V : S5000.Idx → BitVec 32) (ix1 i)).toInt < ((Value.res_main_v85 V : S5000.Idx → BitVec 32) (ix1 j)).toInt ↔ i < j := by
  have hi := i.isLt
  have hj := j.isLt
  rw [v85_at V i, v85_at V j, Row.word_toInt _ (by omega), Row.word_toInt _ (by omega), Nat.cast_lt]
  exact Iff.rfl

theorem v110_one (i j : Fin 5000) : (Value.res_main_v110 V : S5000x5000.Idx → BitVec 1) (ix2 i j) = 1#1 ↔ Member (box V) (scr V) (lab V) i j.val := by
  unfold Value.res_main_v110; clean_types; pointwise
  refine (Row.andi_one _ _).trans ((and_congr ((Row.andi_one _ _).trans (and_congr ((bool_one _).trans (v84_lt V i j)) ((Row.cmpi_sge_one _ _).trans (le_iff V i j)))) (v24_one V j)).trans ?_)
  unfold Member Hit
  constructor
  · rintro ⟨⟨⟨h1, h2⟩, h3⟩, h4⟩
    exact ⟨j.isLt, ⟨h1, h2, h4⟩, h3⟩
  · rintro ⟨_, ⟨h1, h2, h4⟩, h3⟩
    exact ⟨⟨⟨h1, h2⟩, h3⟩, h4⟩

theorem fold_ori {ι : Type} (s : Finset ι) (f : ι → BitVec 1) : s.fold IntOp.ori 0#1 f = 1#1 ↔ ∃ x ∈ s, f x = 1#1 := by
  classical
  have h : ∀ a b : BitVec 1, IntOp.ori a b = 1#1 ↔ a = 1#1 ∨ b = 1#1 := by decide
  induction s using Finset.induction_on with
  | empty => simp
  | insert a s ha ih => rw [Finset.fold_insert ha, h]; simp [ih]

theorem v99_one (i : Fin 5000) : (Value.res_main_v99 V : S5000.Idx → BitVec 1) (ix1 i) = 1#1 ↔ Kept (box V) (scr V) (lab V) i := by
  unfold Value.res_main_v99; clean_types; pointwise
  have hnot : ∀ a : BitVec 1, ~~~a = 1#1 ↔ ¬ a = 1#1 := by decide
  rw [Row.andi_one, hnot, fold_ori]
  unfold Kept
  refine and_congr (v24_one V i) (not_congr (exists_congr fun j => ?_))
  refine (and_congr_right fun _ => (Row.andi_one _ _).trans (and_congr ((Row.andi_one _ _).trans (and_congr ((bool_one _).trans (v84_lt V i j)) ((Row.cmpi_slt_one _ _).trans (lt_iff V j i)))) (v24_one V j))).trans ?_
  unfold Hit
  constructor
  · rintro ⟨-, ⟨⟨h1, h2⟩, h3⟩, h4⟩
    exact ⟨h3, h1, h2, h4⟩
  · rintro ⟨h3, h1, h2, h4⟩
    exact ⟨Finset.mem_univ _, ⟨⟨h1, h2⟩, h3⟩, h4⟩

/-- The key of column `j` in row `i`'s choice of its members: members above the others, earlier ones first. -/
theorem v120_at (i j : Fin 5000) : (Value.res_main_v120 V : S5000x5000.Idx → EReal) (ix2 i j)
    = Scalar.select ((Value.res_main_v110 V : S5000x5000.Idx → BitVec 1) (ix2 i j)) (Ideal.ofBits .f32 0x3F800000#32) (Ideal.ofBits .f32 0xBF800000#32)
      - (((j.val : ℕ) : ℝ) : EReal) * Ideal.ofBits .f32 0x33D6BF95#32 := by
  unfold Value.res_main_v120; clean_types; simp only [id_eq]; pointwise
  have e : (FloatOps.sitofp (F := Ideal) .f32 ((Value.res_main_v85 V : S5000.Idx → BitVec 32) (ix1 j)) : EReal) = (((j.val : ℕ) : ℝ) : EReal) := by
    rw [v85_at V j]
    show (((BitVec.ofNat 32 j.val).toInt : ℝ) : EReal) = _
    rw [Row.word_toInt _ (by have := j.isLt; omega), Int.cast_natCast]
  exact congrArg (fun x => _ - x * _) e

end Cert.Proof.Ref

end
-- ==== Proof.RefTop.lean ====
/-
  The sixteen greatest keys of a row: a member's key is above any other's and falls with its place, so they are the members in
  order, then others.
-/
module

public import proofs.«01_k».proof.Proof.Picks
public import Idealize.ShloMosaic.Lib.SortPrefix

@[expose] public section

noncomputable section

namespace Cert.Proof.Row

open scoped Classical

theorem slot_none {q : ℕ → Prop} {x l : ℕ} (h : Nat.count q x ≤ l) : slot q x l = 5120 := by
  induction x with
  | zero => rfl
  | succ x ih =>
    rw [Nat.count_succ] at h
    rw [slot, if_neg, ih (by omega)]
    rintro ⟨h1, h2⟩
    rw [if_pos h1] at h
    omega

theorem slot_some {q : ℕ → Prop} {x l : ℕ} (h : l < Nat.count q x) : slot q x l < x ∧ q (slot q x l) ∧ Nat.count q (slot q x l) = l := by
  induction x with
  | zero => rw [Nat.count_zero] at h; omega
  | succ x ih =>
    rw [slot]
    by_cases hx : q x ∧ Nat.count q x = l
    · rw [if_pos hx]; exact ⟨Nat.lt_succ_self x, hx⟩
    · rw [if_neg hx]
      rw [Nat.count_succ] at h
      have hlt : l < Nat.count q x := by
        by_cases hq : q x
        · rw [if_pos hq] at h
          have : Nat.count q x ≠ l := fun e => hx ⟨hq, e⟩
          omega
        · rw [if_neg hq] at h; omega
      obtain ⟨h1, h2⟩ := ih hlt
      exact ⟨Nat.lt_succ_of_lt h1, h2⟩

theorem count_lt {q : ℕ → Prop} {a b : ℕ} (h : Nat.count q a < Nat.count q b) : a < b := by
  by_contra hle
  exact absurd (Nat.count_monotone q (not_lt.mp hle)) (not_le.mpr h)

theorem count_inj {q : ℕ → Prop} {a b : ℕ} (ha : q a) (hb : q b) (h : Nat.count q a = Nat.count q b) : a = b := by
  rcases lt_trichotomy a b with hab | hab | hab
  · have := Nat.count_monotone q (Nat.succ_le_of_lt hab)
    rw [Nat.count_succ, if_pos ha] at this; omega
  · exact hab
  · have := Nat.count_monotone q (Nat.succ_le_of_lt hab)
    rw [Nat.count_succ, if_pos hb] at this; omega

theorem count_mem {q : ℕ → Prop} {a x : ℕ} (ha : q a) (hx : a < x) : Nat.count q a < Nat.count q x := by
  have := Nat.count_monotone q (Nat.succ_le_of_lt hx)
  rw [Nat.count_succ, if_pos ha] at this; omega

end Cert.Proof.Row

namespace Cert.Proof.Ref

open Idealize.ShloMosaic
open scoped Classical

variable (q : ℕ → Prop)

/-- The key of column `k`. -/
def keyR (k : Fin 5000) : ℝ := (if q k.val then 1 else -1) - (k.val : ℝ) * (14073749 / 140737488355328)

def before (a b : Fin 5000) : Bool := decide (keyR q b < keyR q a)

theorem le_last (k : Fin 5000) : 0 ≤ ((k.val : ℕ) : ℝ) ∧ ((k.val : ℕ) : ℝ) ≤ 4999 :=
  ⟨Nat.cast_nonneg _, by exact_mod_cast Nat.le_of_lt_succ k.isLt⟩

theorem keyR_other {a b : Fin 5000} (ha : q a.val) (hb : ¬ q b.val) : keyR q b < keyR q a := by
  unfold keyR
  rw [if_pos ha, if_neg hb]
  have h1 := le_last a
  have h2 := le_last b
  linarith

theorem keyR_same {a b : Fin 5000} (h : q a.val ↔ q b.val) (hab : a < b) : keyR q b < keyR q a := by
  unfold keyR
  have h1 : ((a.val : ℕ) : ℝ) < ((b.val : ℕ) : ℝ) := by exact_mod_cast hab
  rw [if_congr h rfl rfl]
  linarith

theorem before_strict : StrictTotalBefore (before q) where
  irrefl a := decide_eq_false (lt_irrefl _)
  trans a b c hab hbc := decide_eq_true ((of_decide_eq_true hbc).trans (of_decide_eq_true hab))
  total a b hab := by
    by_cases ha : q a.val <;> by_cases hb : q b.val
    · rcases lt_or_gt_of_ne hab with h | h
      · exact .inl (decide_eq_true (keyR_same q (iff_of_true ha hb) h))
      · exact .inr (decide_eq_true (keyR_same q (iff_of_true hb ha) h))
    · exact .inl (decide_eq_true (keyR_other q ha hb))
    · exact .inr (decide_eq_true (keyR_other q hb ha))
    · rcases lt_or_gt_of_ne hab with h | h
      · exact .inl (decide_eq_true (keyR_same q (iff_of_false ha hb) h))
      · exact .inr (decide_eq_true (keyR_same q (iff_of_false hb ha) h))

/-- The `l`-th greatest key's column. -/
def pick (l : Fin 5000) : Fin 5000 := sortedFrom (before q) l

theorem count_le_all : Nat.count q 5000 ≤ 5000 := Nat.count_le q

/-- The `t`-th member. -/
def nthM (t : Fin (Nat.count q 5000)) : Fin 5000 := ⟨Row.slot q 5000 t.val, (Row.slot_some t.isLt).1⟩

theorem nthM_of (p : Fin 5000) (hq : q p.val) : ∃ t, nthM q t = p := by
  have hc := Row.count_mem hq p.isLt
  exact ⟨⟨Nat.count q p.val, hc⟩, Fin.ext (Row.count_inj (Row.slot_some hc).2.1 hq (Row.slot_some hc).2.2)⟩

theorem pick_nth (t : Fin (Nat.count q 5000)) : pick q (t.castLE (count_le_all q)) = nthM q t := by
  refine (before_strict q).sortedFrom_eq_of_prefix (count_le_all q) (nthM q) ?_ ?_ ?_ t
  · intro a b h
    have h' : Row.slot q 5000 a.val = Row.slot q 5000 b.val := congrArg Fin.val h
    refine Fin.ext ?_
    rw [← (Row.slot_some a.isLt).2.2, ← (Row.slot_some b.isLt).2.2, h']
  · intro a b hab
    have ha := (Row.slot_some a.isLt).2
    have hb := (Row.slot_some b.isLt).2
    have hlt : nthM q a < nthM q b := Row.count_lt (q := q) (by rw [show (nthM q a).val = Row.slot q 5000 a.val from rfl, show (nthM q b).val = Row.slot q 5000 b.val from rfl, ha.2, hb.2]; exact hab)
    exact decide_eq_false (lt_asymm (keyR_same q (iff_of_true ha.1 hb.1) hlt))
  · intro a p hp
    have ha := (Row.slot_some a.isLt).2
    refine decide_eq_false (lt_asymm (keyR_other q ha.1 fun hq => ?_))
    obtain ⟨t, ht⟩ := nthM_of q p hq
    exact hp t ht

theorem pick_member (l : Fin 5000) (hl : l.val < Nat.count q 5000) : (pick q l).val = Row.slot q 5000 l.val :=
  congrArg Fin.val (pick_nth q ⟨l.val, hl⟩)

theorem pick_other (l : Fin 5000) (hl : Nat.count q 5000 ≤ l.val) : ¬ q (pick q l).val := by
  intro hq
  obtain ⟨t, ht⟩ := nthM_of q (pick q l) hq
  have e : t.castLE (count_le_all q) = l := by
    apply sortedFrom_injective (before q)
    exact (pick_nth q t).trans ht
  have e' : (t.castLE (count_le_all q)).val = l.val := by rw [e]
  rw [Fin.val_castLE] at e'
  have h1 := t.isLt
  rw [e'] at h1
  exact Nat.not_le_of_lt h1 hl

end Cert.Proof.Ref

end
-- ==== Proof.RefValue.lean ====
/-
  The reference's result read at an index.
-/
module

public import proofs.«01_k».proof.Proof.RefNms
public import proofs.«01_k».proof.Proof.RefTop
public import Idealize.ShloMosaic.Lib.IndicatorCount

@[expose] public section

set_option maxRecDepth 16384

noncomputable section

namespace Cert.Proof.Ref

open Idealize.ShloMosaic
open Cert.ReferenceIdeal Cert.ReferenceIdeal.Gen Cert.Proof.Sc

/-! ## The gathers -/

/-- The gather of boxes at an index: the operand's row at the start word, read signed and clamped. -/
theorem gather_rows {α : Type} (x : S5000x7.Idx → α) (idx : IVec S5000x16x1 32) (r : Fin 5000) (l : Fin 16) (j : Fin 7) :
    Host.gather gather_S5000x7_S5000x16x1_S5000x16x7_2_0_n_n_0_2_17 x idx (ix3 r l j)
      = x (ix2 ⟨min (idx (ix3 r l 0)).toInt.toNat 4999, by omega⟩ j) := by
  unfold Host.gather
  refine congrArg x (funext fun a => Fin.ext ?_)
  match a with
  | ⟨0, _⟩ =>
    show (gather_S5000x7_S5000x16x1_S5000x16x7_2_0_n_n_0_2_17).start (ix3 r l j) idx 0 + _ + _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S5000x7_S5000x16x1_S5000x16x7_2_0_n_n_0_2_17).startIndexMap from List.mem_singleton.mpr rfl)]
    have hsi : (gather_S5000x7_S5000x16x1_S5000x16x7_2_0_n_n_0_2_17).siIdx (ix3 r l j)
        ⟨List.idxOf (0 : Fin 2) (gather_S5000x7_S5000x16x1_S5000x16x7_2_0_n_n_0_2_17).startIndexMap,
          List.idxOf_lt_length_iff.2 (List.mem_singleton.mpr rfl)⟩ = ix3 r l 0 := by
      funext b; refine Fin.ext ?_
      match b with
      | ⟨0, _⟩ => rfl
      | ⟨1, _⟩ => rfl
      | ⟨2, _⟩ => rfl
    rw [hsi]; rfl
  | ⟨1, _⟩ =>
    show (gather_S5000x7_S5000x16x1_S5000x16x7_2_0_n_n_0_2_17).start (ix3 r l j) idx 1 + _ + _ = _
    rw [GatherDims.batchCoord_eq_zero _ _ _ List.not_mem_nil]
    unfold GatherDims.start
    rw [dif_neg (show (1 : Fin 2) ∉ (gather_S5000x7_S5000x16x1_S5000x16x7_2_0_n_n_0_2_17).startIndexMap by
      intro h; exact absurd (List.mem_singleton.mp h) (by decide))]
    simp only [Nat.zero_add]
    rfl

/-- The gather of marks along a row, likewise. -/
theorem gather_marks {α : Type} (x : S5000x5000.Idx → α) (idx : IVec S5000x16x1 32) (r : Fin 5000) (l : Fin 16) :
    Host.gather gather_S5000x5000_S5000x16x1_S5000x16_n_1_0_0_1_2_11 x idx (ix2 r l)
      = x (ix2 r ⟨min (idx (ix3 r l 0)).toInt.toNat 4999, by omega⟩) := by
  unfold Host.gather
  refine congrArg x (funext fun a => Fin.ext ?_)
  match a with
  | ⟨0, _⟩ =>
    show (gather_S5000x5000_S5000x16x1_S5000x16_n_1_0_0_1_2_11).start (ix2 r l) idx 0 + _ + _ = _
    rw [GatherDims.offCoord_eq_zero _ _ _ (fun h => ((GatherDims.mem_sKept _ _).mp h).2 (List.mem_singleton.mpr rfl))]
    unfold GatherDims.start
    rw [dif_neg (show (0 : Fin 2) ∉ (gather_S5000x5000_S5000x16x1_S5000x16_n_1_0_0_1_2_11).startIndexMap by
      intro h; exact absurd (List.mem_singleton.mp h) (by decide))]
    simp only [Nat.zero_add, Nat.add_zero]
    rfl
  | ⟨1, _⟩ =>
    show (gather_S5000x5000_S5000x16x1_S5000x16_n_1_0_0_1_2_11).start (ix2 r l) idx 1 + _ + _ = _
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S5000x5000_S5000x16x1_S5000x16_n_1_0_0_1_2_11).startIndexMap from List.mem_singleton.mpr rfl)]
    have hsi : (gather_S5000x5000_S5000x16x1_S5000x16_n_1_0_0_1_2_11).siIdx (ix2 r l)
        ⟨List.idxOf (1 : Fin 2) (gather_S5000x5000_S5000x16x1_S5000x16_n_1_0_0_1_2_11).startIndexMap,
          List.idxOf_lt_length_iff.2 (List.mem_singleton.mpr rfl)⟩ = ix3 r l 0 := by
      funext b; refine Fin.ext ?_
      match b with
      | ⟨0, _⟩ => rfl
      | ⟨1, _⟩ => rfl
      | ⟨2, _⟩ => rfl
    rw [hsi]; rfl

/-! ## The chosen columns -/

variable (V : Valuation τ sig (Elt Ideal))

/-- The members of row `i`. -/
abbrev memberOf (i : Fin 5000) : ℕ → Prop := Member (box V) (scr V) (lab V) i

theorem key_at (i j : Fin 5000) : (Value.res_main_v120 V : S5000x5000.Idx → EReal) (ix2 i j) = ((keyR (memberOf V i) j : ℝ) : EReal) := by
  refine (v120_at V i j).trans ?_
  rw [one_eq, neg_one_eq, step_eq]
  unfold keyR
  by_cases h : memberOf V i j.val
  · rw [if_pos h, (v110_one V i j).mpr h, ValueIdx.select_one, ← EReal.coe_mul, ← EReal.coe_sub]
  · rw [if_neg h, ValueIdx.eq_zero_of_ne_one (mt (v110_one V i j).mp h), ValueIdx.select_zero, ← EReal.coe_mul, ← EReal.coe_sub]

/-- Which columns the `topK` picks: the first ones of the row sorted from above. -/
theorem topK_at (x : S5000x5000.Idx → EReal) (i : Fin 5000) (l : Fin 16) (hl : l.val < 5000) :
    (Host.topK S5000x16 1 (FloatOps.cmpfTotal (F := Ideal) (φ := .f32) .gt) x sliceFits_S5000x5000_S5000x16).2 (ix2 i l)
      = BitVec.ofNat 32 (sortedFrom (fun k k' : Fin 5000 => (FloatOps.cmpfTotal (F := Ideal) (φ := .f32) .gt (x ((ix2 i (⟨l.val, hl⟩ : Fin 5000) : S5000x5000.Idx).along 1 k))
          (x ((ix2 i (⟨l.val, hl⟩ : Fin 5000) : S5000x5000.Idx).along 1 k')) : BitVec 1) == 1#1) ⟨l.val, hl⟩).val := by
  have h1 : ∀ v : IVec S5000x5000 32, extractStridedSlice S5000x16 (fun _ => 0) v sliceFits_S5000x5000_S5000x16 (ix2 i l) = v (ix2 i ⟨l.val, hl⟩) := fun v => by
    refine congrArg v (funext fun a => Fin.ext ?_)
    match a with
    | ⟨0, _⟩ => show 0 + i.val = i.val; omega
    | ⟨1, _⟩ => show 0 + l.val = l.val; omega
  unfold Host.topK Host.sort2
  dsimp only
  rw [h1, dif_pos (by decide)]
  dsimp only
  rw [dif_pos (by decide)]
  have h2 : ∀ π : Fin 5000, iotaInDim S5000x5000 32 1 ((ix2 i (⟨l.val, hl⟩ : Fin 5000) : S5000x5000.Idx).along 1 π) = BitVec.ofNat 32 π.val := fun π => by
    have h3 : (ix2 i (⟨l.val, hl⟩ : Fin 5000) : S5000x5000.Idx).along 1 π = ix2 i π := funext fun a => by
      match a with
      | ⟨0, _⟩ => rfl
      | ⟨1, _⟩ => rfl
    rw [h3]
    rfl
  exact h2 _

/-- The order of the keys in one row. -/
theorem before_at (i : Fin 5000) (j : Fin 5000) :
    (fun k k' : Fin 5000 => ((FloatOps.cmpfTotal (F := Ideal) (φ := .f32) .gt ((Value.res_main_v120 V : S5000x5000.Idx → EReal) ((ix2 i j : S5000x5000.Idx).along 1 k))
        ((Value.res_main_v120 V : S5000x5000.Idx → EReal) ((ix2 i j : S5000x5000.Idx).along 1 k')) : BitVec 1) == 1#1)) = before (memberOf V i) := by
  have ha : ∀ k : Fin 5000, (ix2 i j : S5000x5000.Idx).along 1 k = ix2 i k := fun k => funext fun a => by
    match a with
    | ⟨0, _⟩ => rfl
    | ⟨1, _⟩ => rfl
  funext k k'
  rw [ha, ha, key_at, key_at]
  show (BitVec.ofBool (decide (((keyR (memberOf V i) k' : ℝ) : EReal) < ((keyR (memberOf V i) k : ℝ) : EReal))) == 1#1) = decide _
  rw [decide_eq_decide.mpr EReal.coe_lt_coe_iff]
  cases decide (keyR (memberOf V i) k' < keyR (memberOf V i) k) <;> rfl

theorem indices_at (i : Fin 5000) (l : Fin 16) (hl : l.val < 5000) :
    (Value.res_main_indices V : S5000x16.Idx → BitVec 32) (ix2 i l) = BitVec.ofNat 32 (pick (memberOf V i) ⟨l.val, hl⟩).val := by
  unfold Value.res_main_indices
  exact (topK_at _ i l hl).trans (congrArg (fun f : Fin 5000 → Fin 5000 → Bool => BitVec.ofNat 32 (sortedFrom f ⟨l.val, hl⟩).val) (before_at V i ⟨l.val, hl⟩))

section

variable (r : Fin 5000) (l : Fin 16) (hl : l.val < 5000)

theorem nonneg_word {n : ℕ} (h : n < 5000) : ¬ IntOp.cmpi .slt (BitVec.ofNat 32 n) 0#32 = 1#1 := by
  rw [Row.cmpi_slt_one, Row.word_toInt _ (by omega), show (0#32 : BitVec 32).toInt = 0 from rfl]
  omega

theorem v5_at : (Value.res_main_call6_v5 V : S5000x16x1.Idx → BitVec 32) (ix3 r l 0) = BitVec.ofNat 32 (pick (memberOf V r) ⟨l.val, hl⟩).val := by
  unfold Value.res_main_call6_v5; clean_types; pointwise
  have h := indices_at V r l hl
  simp only [h]
  rw [Row.select_mark, if_neg (nonneg_word (pick _ _).isLt)]

/-- The start words of the gather of boxes. -/
theorem start_at : (broadcastInDim S5000x16x1 ![0, 1] bcast_S5000x16_S5000x16x1_0_1
      (select (cmpi .slt (Value.res_main_indices V) (broadcastInDim S5000x16 ![] bcast_S_S5000x16 (constantI S_ 32 0#32)))
        (addi (Value.res_main_indices V) (broadcastInDim S5000x16 ![] bcast_S_S5000x16 (constantI S_ 32 5000#32))) (Value.res_main_indices V)) : S5000x16x1.Idx → BitVec 32) (ix3 r l 0)
      = BitVec.ofNat 32 (pick (memberOf V r) ⟨l.val, hl⟩).val := by
  pointwise
  have h := indices_at V r l hl
  simp only [h]
  rw [Row.select_mark, if_neg (nonneg_word (pick _ _).isLt)]

theorem clamp_word {n : ℕ} (h : n < 5000) : min (BitVec.ofNat 32 n).toInt.toNat 4999 = n := by
  rw [Row.word_toInt _ (by omega)]
  omega

include hl in
/-- A gathered word times its weight, or a zero where the mark is not set. -/
theorem cell_at (j : Fin 7) (w : EReal) :
    Scalar.select
      (Scalar.select
        (Finset.fold IntOp.andi (1#1) (fun x : Fin 1 => IntOp.andi (IntOp.cmpi .sge ((Value.res_main_call6_v5 V : S5000x16x1.Idx → BitVec 32) (ix3 r l x)) 0#32)
          (IntOp.cmpi .sle ((Value.res_main_call6_v5 V : S5000x16x1.Idx → BitVec 32) (ix3 r l x)) 4999#32)) Finset.univ)
        (Host.gather gather_S5000x5000_S5000x16x1_S5000x16_n_1_0_0_1_2_11 (Value.res_main_v110 V : S5000x5000.Idx → BitVec 1) (Value.res_main_call6_v5 V) (ix2 r l)) 1#1)
      (Host.gather gather_S5000x7_S5000x16x1_S5000x16x7_2_0_n_n_0_2_17 (box V)
        (broadcastInDim S5000x16x1 ![0, 1] bcast_S5000x16_S5000x16x1_0_1
          (select (cmpi .slt (Value.res_main_indices V) (broadcastInDim S5000x16 ![] bcast_S_S5000x16 (constantI S_ 32 0#32)))
            (addi (Value.res_main_indices V) (broadcastInDim S5000x16 ![] bcast_S_S5000x16 (constantI S_ 32 5000#32))) (Value.res_main_indices V)))
        (ix3 r l j) * w) 0
      = cell (box V) 0 (BitVec.ofNat 32 (Row.slot (memberOf V r) 5000 l.val)) j.val * w := by
  have hp := (pick (memberOf V r) ⟨l.val, hl⟩).isLt
  have hv := v5_at V r l hl
  have hf : Finset.fold IntOp.andi (1#1) (fun x : Fin 1 => IntOp.andi (IntOp.cmpi .sge ((Value.res_main_call6_v5 V : S5000x16x1.Idx → BitVec 32) (ix3 r l x)) 0#32)
      (IntOp.cmpi .sle ((Value.res_main_call6_v5 V : S5000x16x1.Idx → BitVec 32) (ix3 r l x)) 4999#32)) Finset.univ = 1#1 := by
    rw [Finset.univ_unique, Finset.fold_singleton, Row.andi_one, Row.andi_one]
    refine ⟨⟨?_, ?_⟩, rfl⟩
    · rw [Row.cmpi_sge_one, show (Value.res_main_call6_v5 V : S5000x16x1.Idx → BitVec 32) (ix3 r l default) = _ from hv, Row.word_toInt (pick _ _).val (by omega), show (0#32 : BitVec 32).toInt = 0 from rfl]
      exact Int.natCast_nonneg _
    · show BitVec.ofBool (BitVec.sle _ _) = 1#1
      rw [show (Value.res_main_call6_v5 V : S5000x16x1.Idx → BitVec 32) (ix3 r l default) = _ from hv, BitVec.sle, Row.word_toInt _ (by omega), show (4999#32 : BitVec 32).toInt = 4999 from rfl,
        decide_eq_true (by omega)]
      rfl
  have hc : ∀ h, (⟨min ((Value.res_main_call6_v5 V : S5000x16x1.Idx → BitVec 32) (ix3 r l 0)).toInt.toNat 4999, h⟩ : Fin 5000) = pick (memberOf V r) ⟨l.val, hl⟩ := fun h =>
    Fin.ext (by show min _ 4999 = _; rw [hv]; exact clamp_word hp)
  rw [hf, ValueIdx.select_one, gather_marks, hc, gather_rows]
  by_cases hm : l.val < Nat.count (memberOf V r) 5000
  · have hs := Row.slot_some hm
    have hb : (Value.res_main_v110 V : S5000x5000.Idx → BitVec 1) (ix2 r (pick (memberOf V r) ⟨l.val, hl⟩)) = 1#1 := by
      rw [v110_one, pick_member _ ⟨l.val, hl⟩ hm]
      exact hs.2.1
    have hn : (BitVec.ofNat 32 (Row.slot (memberOf V r) 5000 l.val)).toNat = Row.slot (memberOf V r) 5000 l.val := by
      rw [BitVec.toNat_ofNat]; exact Nat.mod_eq_of_lt (by omega)
    rw [hb, ValueIdx.select_one]
    unfold cell
    rw [dif_pos ⟨by rw [hn]; exact hs.1, j.isLt⟩]
    refine congrArg (fun x => x * w) ((congrArg (fun k => box V (ix2 k j)) (Fin.ext ?_)).trans (congrArg (box V) (ix2_eq_valueIdx _ _)))
    exact (congrArg (fun x : BitVec 32 => min x.toInt.toNat 4999) (start_at V r l hl)).trans ((clamp_word hp).trans ((pick_member _ ⟨l.val, hl⟩ hm).trans hn.symm))
  · have hb : ¬ (Value.res_main_v110 V : S5000x5000.Idx → BitVec 1) (ix2 r (pick (memberOf V r) ⟨l.val, hl⟩)) = 1#1 := by
      rw [v110_one]
      exact pick_other _ _ (not_lt.mp hm)
    rw [ValueIdx.eq_zero_of_ne_one hb, ValueIdx.select_zero, Row.slot_none (not_lt.mp hm)]
    unfold cell
    rw [dif_neg (fun h => absurd h.1 (by decide)), zero_mul]

end

theorem v149_at (r : Fin 5000) (j : Fin 7) : (Value.res_main_v149 V : S5000x7.Idx → EReal) (ix2 r j)
    = net (fun k => cell (box V) 0 (BitVec.ofNat 32 (Row.slot (memberOf V r) 5000 k.val)) j.val)
        (fun i k => (V (Proc.devRef .tc main_arg3) : S16x16.Idx → EReal) (ix2 i k)) (fun i => (V (Proc.devRef .tc main_arg4) : S16.Idx → EReal) (ix1 i))
        (fun o i => (V (Proc.devRef .tc main_arg5) : S16x16.Idx → EReal) (ix2 o i)) (fun o => (V (Proc.devRef .tc main_arg6) : S16.Idx → EReal) (ix1 o))
        (fun o => (V (Proc.devRef .tc main_arg7) : S1x16.Idx → EReal) (ix2 0 o)) ((V (Proc.devRef .tc main_arg8) : S1.Idx → EReal) (ix1 0)) := by
  unfold Value.res_main_v149; clean_types; simp only [id_eq]; pointwise
  have h := fun l : Fin 16 => cell_at V r l (by omega) j
  simp only [h]
  rfl

theorem card_count (q : ℕ → Prop) [DecidablePred q] (n : ℕ) (p : Fin n → Prop) [DecidablePred p] (h : ∀ j, p j ↔ q j.val) : (Finset.univ.filter p).card = Nat.count q n := by
  rw [Nat.count_eq_card_filter_range]
  refine Finset.card_nbij Fin.val ?_ ?_ ?_
  · intro j hj
    exact Finset.mem_coe.mpr (Finset.mem_filter.mpr ⟨Finset.mem_range.mpr j.isLt, (h j).mp (Finset.mem_filter.mp (Finset.mem_coe.mp hj)).2⟩)
  · exact fun a _ b _ e => Fin.ext e
  · intro x hx
    have hx' := Finset.mem_filter.mp (Finset.mem_coe.mp hx)
    exact ⟨⟨x, Finset.mem_range.mp hx'.1⟩, Finset.mem_coe.mpr (Finset.mem_filter.mpr ⟨Finset.mem_univ _, (h _).mpr hx'.2⟩), rfl⟩

open scoped Classical in
theorem count_gt (r : Fin 5000) : IntOp.cmpi .sgt (Finset.fold IntOp.addi 0#32 (fun x : Fin 5000 => BitVec.setWidth 32 ((Value.res_main_v110 V : S5000x5000.Idx → BitVec 1) (ix2 r x))) Finset.univ) 1#32 = 1#1
    ↔ 2 ≤ Nat.count (memberOf V r) 5000 := by
  rw [IndicatorCount.fold_addi_setWidth_eq_card (w := 32) (fun x : Fin 5000 => (Value.res_main_v110 V : S5000x5000.Idx → BitVec 1) (ix2 r x)) Finset.univ,
    card_count (memberOf V r) 5000 _ fun j => v110_one V r j]
  have hle : Nat.count (memberOf V r) 5000 ≤ 5000 := Nat.count_le _
  have h : ∀ a b : BitVec 32, IntOp.cmpi .sgt a b = 1#1 ↔ b.toInt < a.toInt := fun a b => by
    show BitVec.ofBool (decide (b.toInt < a.toInt)) = 1#1 ↔ _
    exact bool_one _
  rw [h, Row.word_toInt _ (by omega), Row.word_toInt _ (by omega)]
  omega

/-- The reference's result as its run leaves it. -/
def result : FVec Ideal S5000x7 .f32 :=
  select (broadcastInDim S5000x7 ![0, 1] bcast_S5000x1_S5000x7_0_1 (broadcastInDim S5000x1 ![0] bcast_S5000_S5000x1_0 (Value.res_main_v99 V)))
    (select (broadcastInDim S5000x7 ![0, 1] bcast_S5000x1_S5000x7_0_1 (broadcastInDim S5000x1 ![0] bcast_S5000_S5000x1_0
        (andi (Value.res_main_v99 V) (cmpi .sgt (Host.reduce IntOp.addi (extui 32 (Value.res_main_v110 V) natLt_1_32) (constantI S_ 32 0#32) reducesTo_S5000x5000_S5000_d1 h_S_)
          (broadcastInDim S5000 ![] bcast_S_S5000 (constantI S_ 32 1#32))))))
      (concatenate S5000x7 1 [⟨S5000x3, ((extractStridedSlice S5000x3 ![0, 0] (Value.res_main_v149 V) slices_S5000x7_S5000x3_0_0) : (⟨S5000x3, .f32⟩ : BufTy).Contents (Elt Ideal))⟩,
        ⟨S5000x3, ((maximumf (broadcastInDim S5000x3 ![] bcast_S_S5000x3 (id (constant S_ .f32 0x3727C5AC#32))) (extractStridedSlice S5000x3 ![0, 3] (Value.res_main_v149 V) slices_S5000x7_S5000x3_0_3)) : (⟨S5000x3, .f32⟩ : BufTy).Contents (Elt Ideal))⟩,
        ⟨S5000x1, ((extractStridedSlice S5000x1 ![0, 6] (Value.res_main_v149 V) slices_S5000x7_S5000x1_0_6) : (⟨S5000x1, .f32⟩ : BufTy).Contents (Elt Ideal))⟩] concatenates_S5000x3_S5000x3_S5000x1_S5000x7_d1
        : (⟨S5000x7, .f32⟩ : BufTy).Contents (Elt Ideal))
      (Value.res_main_v8 V))
    (broadcastInDim S5000x7 ![] bcast_S_S5000x7 (id (constant (F := Ideal) S_ .f32 0x00000000#32)) : FVec Ideal S5000x7 .f32)

/-- The choice that the two marks of a row make. -/
theorem choice (p q : BitVec 1) (P Q : Prop) [Decidable P] [Decidable Q] (hp : p = 1#1 ↔ P) (hq : q = 1#1 ↔ Q) (x y z : EReal) :
    Scalar.select p (Scalar.select (IntOp.andi p q) x y) z = if P then (if Q then x else y) else z := by
  by_cases h : P
  · rw [if_pos h, hp.mpr h, ValueIdx.select_one]
    by_cases h' : Q
    · rw [if_pos h', hq.mpr h']; rfl
    · rw [if_neg h', ValueIdx.eq_zero_of_ne_one fun e => h' (hq.mp e)]; rfl
  · rw [if_neg h, ValueIdx.eq_zero_of_ne_one fun e => h (hp.mp e)]; rfl

open scoped Classical in
theorem ref_apply (r : Fin 5000) (j : Fin 7) : (result V : S5000x7.Idx → EReal) (ix2 r j)
    = specOut (box V) (scr V) (lab V) (V (Proc.devRef .tc main_arg3)) (V (Proc.devRef .tc main_arg4)) (V (Proc.devRef .tc main_arg5)) (V (Proc.devRef .tc main_arg6))
        (V (Proc.devRef .tc main_arg7)) (V (Proc.devRef .tc main_arg8)) r j := by
  unfold result
  clean_types
  pointwise
  have hz : (id (constant (F := Ideal) S_ FTy.f32 0#32) ix0 : EReal) = 0 := Ideal.ofBits_zero_f32
  have he : (id (constant (F := Ideal) S_ FTy.f32 925353388#32) ix0 : EReal) = Ideal.ofBits .f32 0x3727C5AC#32 := rfl
  rw [hz, he]
  refine (choice _ _ _ _ (v99_one V r) (count_gt V r) _ _ _).trans ?_
  unfold specOut
  refine if_congr Iff.rfl (if_congr Iff.rfl ?_ rfl) rfl
  unfold floorAt
  by_cases h1 : j.val < 3
  · rw [dif_pos h1, if_neg (by omega), max_bot_right]
    exact v149_at V r j
  · rw [dif_neg h1]
    by_cases h2 : j.val - 3 < 3
    · rw [dif_pos h2]
      have hq : (Value.res_main_v149 V : S5000x7.Idx → EReal) (ix2 r ⟨3 + (j.val - 3), by omega⟩) = _ :=
        (congrArg (fun q => (Value.res_main_v149 V : S5000x7.Idx → EReal) (ix2 r q)) (Fin.ext (by show 3 + (j.val - 3) = j.val; omega))).trans (v149_at V r j)
      refine (congrArg (fun x : EReal => max (Ideal.ofBits .f32 0x3727C5AC#32) x) hq).trans ?_
      rw [if_pos (by omega)]
      exact max_comm _ _
    · rw [dif_neg h2]
      refine Eq.trans ?_ ((congrArg (fun x : EReal => max _ x) (if_neg (by omega))).trans (max_bot_right _)).symm
      refine (congrArg (fun q => (Value.res_main_v149 V : S5000x7.Idx → EReal) (ix2 r q)) (Fin.ext ?_)).trans (v149_at V r j)
      show 6 + (j.val - 3 - 3) = j.val
      omega

end Cert.Proof.Ref

end
-- ==== Proof.Bits.Sum.lean ====
/-
  The kernel's test for a marked column, at the machine's words: the marks are whole numbers, whose sum is exact, and it is
  positive exactly where a mark is set.
-/
module

public import proofs.«01_k».proof.Proof.Bits.NmsStep
public import Idealize.ShloMosaic.Lib.Pointwise
public import Idealize.ShloMosaic.Lib.NatWords
public import Idealize.ShloMosaic.Lib.NatWordsOrder

@[expose] public section

set_option maxRecDepth 16384

noncomputable section

namespace Cert.Proof.ScB

open Cert.Kernel Cert.Kernel.Gen
open Idealize.ShloMosaic

/-- The number that a mark stands for. -/
def markNat (v : IVec S256x512 1) : S1x256x512.Idx → ℕ :=
  shapeCast S1x256x512 (fun j => (v j).toNat) shapeCasts_S256x512_S1x256x512

theorem mark_word (b : BitVec 1) : (FloatOps.sitofp (F := Bits) .f32 (BitVec.setWidth 32 b) : Bits .f32) = Bits.f32OfNat b.toNat := by
  have h : (BitVec.setWidth 32 b).toNat = b.toNat := by
    rw [BitVec.toNat_setWidth]; exact Nat.mod_eq_of_lt (by have := b.isLt; omega)
  refine (Bits.sitofp32_eq_f32OfNat (BitVec.setWidth 32 b) (by decide) (by rw [h]; have := b.isLt; omega)).trans ?_
  rw [h]

theorem markNat_at (v : IVec S256x512 1) (b : Fin 256) (c : Fin 512) : markNat v (ix3 0 b c) = (v (ix2 b c)).toNat := by
  unfold markNat
  rw [shapeCast_apply _ _ (ix3 (0 : Fin 1) b c) (ix2 b c) (by
    rw [Shape.rowMajor_val_two, Shape.rowMajor_val_three]
    show b.val * 512 + c.val = (0 * 256 + b.val) * 512 + c.val
    omega)]

theorem markNat_some (v : IVec S256x512 1) (i : S1x256x512.Idx) : ∃ j, markNat v i = (v j).toNat := ⟨_, rfl⟩

theorem markNat_pos (v : IVec S256x512 1) : (∃ i, 0 < markNat v i) ↔ ∃ j, v j = 1#1 := by
  constructor
  · rintro ⟨i, hi⟩
    obtain ⟨j, hj⟩ := markNat_some v i
    refine ⟨j, BitVec.eq_of_toNat_eq ?_⟩
    have := (v j).isLt
    show (v j).toNat = 1
    omega
  · rintro ⟨j, hj⟩
    have hv : v (ix2 (j 0) (j 1)) = 1#1 := (congrArg v (eq_ix2 j)).symm.trans hj
    exact ⟨ix3 0 (j 0) (j 1), lt_of_lt_of_eq Nat.one_pos ((markNat_at v (j 0) (j 1)).trans (congrArg BitVec.toNat hv)).symm⟩

/-- A sum of as many marks as there are entries is exact, and positive where a mark is set. -/
theorem sum_pos {s t : Shape} {axes : List (Fin s.rank)} (src : FVec Bits s .f32) (n : s.Idx → ℕ) (hsrc : ∀ i, src i = Bits.f32OfNat (n i)) (hn : ∀ i, n i ≤ 1)
    (hc : Fintype.card s.Idx < 2 ^ 24) (h : s.Reduces axes t) (ht : ∀ b, t.size b = 1)
    (hφ : FKind.Formats .f32) (hacc : 0x00000000#32 = FKind.add.neutral .f32 hφ) (j : t.Idx) :
    Scalar.cmpf (F := Bits) .ogt (multiReduction .add axes t src 0x00000000#32 h hφ hacc j) (Scalar.ofBits .f32 0x00000000#32) = 1#1 ↔ ∃ i, 0 < n i := by
  have hu : Bits.reduceFiber h j = Finset.univ := Finset.filter_true_of_mem fun i _ => funext fun b => Fin.ext (by
    have h1 : (h.drop i b).val < 1 := lt_of_lt_of_eq (h.drop i b).isLt (ht b)
    have h2 : (j b).val < 1 := lt_of_lt_of_eq (j b).isLt (ht b)
    omega)
  have hS : (Bits.reduceFiber h j).sum n < 2 ^ 24 := by
    rw [hu]
    refine lt_of_le_of_lt (Finset.sum_le_card_nsmul Finset.univ n 1 fun i _ => hn i) ?_
    rw [smul_eq_mul, mul_one]
    exact hc
  have hm : multiReduction (F := Bits) .add axes t src 0x00000000#32 h hφ hacc j = Bits.f32OfNat ((Bits.reduceFiber h j).sum n) :=
    Bits.multiReduction_add_nat axes h src j n (fun i _ => by rw [hsrc i]; exact Bits.natOfF32?_f32OfNat _ (lt_of_le_of_lt (hn i) (by decide))) hS
  rw [hm]
  have hz : (Scalar.ofBits .f32 0x00000000#32 : Bits .f32) = Bits.f32OfNat 0 := Bits.f32OfNat_zero.symm
  rw [hz]
  show Bits.cmpf32 .ogt (Bits.f32OfNat _) (Bits.f32OfNat 0) = 1#1 ↔ _
  rw [Bits.cmpf32_ogt_nat hS (by decide), hu]
  have hp : 0 < Finset.univ.sum n ↔ ∃ i, 0 < n i := by
    rw [Nat.pos_iff_ne_zero, Ne, Finset.sum_eq_zero_iff]
    push Not
    exact ⟨fun ⟨i, _, hi⟩ => ⟨i, Nat.pos_of_ne_zero hi⟩, fun ⟨i, hi⟩ => ⟨i, Finset.mem_univ _, hi.ne'⟩⟩
  rw [← hp]
  by_cases h0 : 0 < Finset.univ.sum n <;> simp [h0]

theorem card_marks : Fintype.card S1x256x512.Idx < 2 ^ 24 := by
  have h : Function.Injective fun i : S1x256x512.Idx => ((i 0, i 1, i 2) : Fin 1 × Fin 256 × Fin 512) := fun i j e => by
    have h0 : i 0 = j 0 := congrArg Prod.fst e
    have h1 : i 1 = j 1 := congrArg (fun x => x.2.1) e
    have h2 : i 2 = j 2 := congrArg (fun x => x.2.2) e
    funext a
    match a with
    | ⟨0, _⟩ => exact h0
    | ⟨1, _⟩ => exact h1
    | ⟨2, _⟩ => exact h2
  refine lt_of_le_of_lt (Fintype.card_le_of_injective _ h) ?_
  rw [Fintype.card_prod, Fintype.card_prod, Fintype.card_fin, Fintype.card_fin, Fintype.card_fin]
  norm_num

instance : SumTest Bits where
  test v := (sum_pos _ (markNat v) (fun i => mark_word _) (fun i => by
    obtain ⟨j, hj⟩ := markNat_some v i
    have := (v j).isLt
    omega) card_marks reduces_S1x256x512_S1 (by decide) (.inl rfl) rfl _).trans (markNat_pos v)

end Cert.Proof.ScB

end
-- ==== Proof.lean ====
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.NmsPicks
public import proofs.«01_k».proof.Proof.RefValue
public import proofs.«01_k».proof.Proof.Bits.First
public import proofs.«01_k».proof.Proof.Bits.Sum
public import Idealize.ShloMosaic.Lib.Quiescent

@[expose] public section

set_option maxRecDepth 8192

noncomputable section

namespace Cert.Proof

open Idealize.ShloMosaic Idealize.ShloMosaic.StableHlo Idealize.SL.Sem

/-- The kernel's arguments at the end of its run. -/
theorem kept (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal)) (h : Sc.QC m r) (d : Dev Cert.KernelIdeal.nD) :
    r.2.mem (d, Proc.devRef .tc Cert.KernelIdeal.main_arg0) = m (d, Proc.devRef .tc Cert.KernelIdeal.main_arg0) ∧
    r.2.mem (d, Proc.devRef .tc Cert.KernelIdeal.main_arg1) = m (d, Proc.devRef .tc Cert.KernelIdeal.main_arg1) ∧
    r.2.mem (d, Proc.devRef .tc Cert.KernelIdeal.main_arg2) = m (d, Proc.devRef .tc Cert.KernelIdeal.main_arg2) ∧
    r.2.mem (d, Proc.devRef .tc Cert.KernelIdeal.main_arg3) = m (d, Proc.devRef .tc Cert.KernelIdeal.main_arg3) ∧
    r.2.mem (d, Proc.devRef .tc Cert.KernelIdeal.main_arg4) = m (d, Proc.devRef .tc Cert.KernelIdeal.main_arg4) ∧
    r.2.mem (d, Proc.devRef .tc Cert.KernelIdeal.main_arg5) = m (d, Proc.devRef .tc Cert.KernelIdeal.main_arg5) ∧
    r.2.mem (d, Proc.devRef .tc Cert.KernelIdeal.main_arg6) = m (d, Proc.devRef .tc Cert.KernelIdeal.main_arg6) ∧
    r.2.mem (d, Proc.devRef .tc Cert.KernelIdeal.main_arg7) = m (d, Proc.devRef .tc Cert.KernelIdeal.main_arg7) ∧
    r.2.mem (d, Proc.devRef .tc Cert.KernelIdeal.main_arg8) = m (d, Proc.devRef .tc Cert.KernelIdeal.main_arg8) :=
  have e : ∀ a : Ref Cert.KernelIdeal.sig .tc, a ∈ [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8] → r.2.mem (d, Proc.devRef .tc a) = m (d, Proc.devRef .tc a) := fun a ha =>
    (h.1 d _ (by revert a; decide)).trans (Sc.V7_arg m d (by revert a; decide) (by revert a; decide) (by revert a; decide) (by revert a; decide) (by revert a; decide)
      (by revert a; decide) (by revert a; decide))
  ⟨e _ (by decide), e _ (by decide), e _ (by decide), e _ (by decide), e _ (by decide), e _ (by decide), e _ (by decide), e _ (by decide), e _ (by decide)⟩

/-- The kernel's arguments at the end of its run at the machine words. -/
theorem keptB (m : (ℓ : Loc Cert.Kernel.nD Cert.Kernel.τ Cert.Kernel.sig) → Buf (Elt Bits) ℓ)
    (r : PUnit × MemSt Cert.Kernel.nD Cert.Kernel.τ Cert.Kernel.sig (Elt Bits)) (h : ScB.QC m r) (d : Dev Cert.Kernel.nD) :
    r.2.mem (d, Proc.devRef .tc Cert.Kernel.main_arg0) = m (d, Proc.devRef .tc Cert.Kernel.main_arg0) ∧
    r.2.mem (d, Proc.devRef .tc Cert.Kernel.main_arg1) = m (d, Proc.devRef .tc Cert.Kernel.main_arg1) ∧
    r.2.mem (d, Proc.devRef .tc Cert.Kernel.main_arg2) = m (d, Proc.devRef .tc Cert.Kernel.main_arg2) ∧
    r.2.mem (d, Proc.devRef .tc Cert.Kernel.main_arg3) = m (d, Proc.devRef .tc Cert.Kernel.main_arg3) ∧
    r.2.mem (d, Proc.devRef .tc Cert.Kernel.main_arg4) = m (d, Proc.devRef .tc Cert.Kernel.main_arg4) ∧
    r.2.mem (d, Proc.devRef .tc Cert.Kernel.main_arg5) = m (d, Proc.devRef .tc Cert.Kernel.main_arg5) ∧
    r.2.mem (d, Proc.devRef .tc Cert.Kernel.main_arg6) = m (d, Proc.devRef .tc Cert.Kernel.main_arg6) ∧
    r.2.mem (d, Proc.devRef .tc Cert.Kernel.main_arg7) = m (d, Proc.devRef .tc Cert.Kernel.main_arg7) ∧
    r.2.mem (d, Proc.devRef .tc Cert.Kernel.main_arg8) = m (d, Proc.devRef .tc Cert.Kernel.main_arg8) :=
  have e : ∀ a : Ref Cert.Kernel.sig .tc, a ∈ [Cert.Kernel.main_arg0, Cert.Kernel.main_arg1, Cert.Kernel.main_arg2, Cert.Kernel.main_arg3, Cert.Kernel.main_arg4, Cert.Kernel.main_arg5, Cert.Kernel.main_arg6, Cert.Kernel.main_arg7, Cert.Kernel.main_arg8] → r.2.mem (d, Proc.devRef .tc a) = m (d, Proc.devRef .tc a) := fun a ha =>
    (h.1 d _ (by revert a; decide)).trans (ScB.V7_arg m d (by revert a; decide) (by revert a; decide) (by revert a; decide) (by revert a; decide) (by revert a; decide)
      (by revert a; decide) (by revert a; decide))
  ⟨e _ (by decide), e _ (by decide), e _ (by decide), e _ (by decide), e _ (by decide), e _ (by decide), e _ (by decide), e _ (by decide), e _ (by decide)⟩

theorem frame_kernel : Cert.quiescent_Kernel := by
  intro m ρ _
  exact (θ_run Cert.Kernel.defs _ _).mono (fun r h => ⟨fun c => keptB m r h c, h.2⟩)
    (ScB.run_main (F := Bits) m ρ (ScB.nv_le m) (ScB.addrs_lt m))

theorem frame_ideal : Cert.quiescent_KernelIdeal := by
  intro m ρ _
  exact (θ_run Cert.KernelIdeal.defs _ _).mono (fun r h => ⟨fun c => kept m r h c, h.2⟩)
    (Sc.run_main (F := Ideal) m ρ (Sc.nv_le m) (Sc.addrs_lt m))

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's run at the machine's words. -/
theorem frame_words : Cert.quiescent_Reference := by
  intro m ρ _
  exact (θ_run Cert.Reference.defs _ _).mono (fun r h => ⟨fun c => (h c).2, sem_eq_zero_of_no_sems (by decide) r.2⟩)
    (Cert.Reference.Value.run (F := Bits) m ρ)

theorem preserves : Cert.preserves_Kernel_KernelIdeal := IdealRules.named_const.statement Cert.KernelIdeal.κ "least" .f32 0xFF7FC99E#32 ⊥ rfl

/-! ## Both programs order the boxes by the same sort -/

variable (V : Valuation Cert.ReferenceIdeal.τ Cert.ReferenceIdeal.sig (Elt Ideal))

theorem box_sorted : Ref.box V = Sc.sBox (F := Ideal) (V (Proc.devRef .tc Cert.ReferenceIdeal.main_arg0)) (V (Proc.devRef .tc Cert.ReferenceIdeal.main_arg1)) := rfl

theorem scr_sorted : Ref.scr V = Sc.sScr (F := Ideal) (V (Proc.devRef .tc Cert.ReferenceIdeal.main_arg1)) := rfl

theorem lab_sorted : Ref.lab V = Sc.sLab (F := Ideal) (V (Proc.devRef .tc Cert.ReferenceIdeal.main_arg2)) (V (Proc.devRef .tc Cert.ReferenceIdeal.main_arg1)) := rfl

/-- The kernel's result is the reference's. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Ref.result (launchContents m' c) = Sc.V7 m c Sc.res' := by
  obtain ⟨h0, h1, h2, h3, h4, h5, h6, h7, h8⟩ := hm
  have hb : Ref.box (launchContents m' c) = Sc.boxS m c := (box_sorted _).trans (congrArg₂ (Sc.sBox (F := Ideal)) h0 h1)
  have hs : Ref.scr (launchContents m' c) = Sc.scrS m c := (scr_sorted _).trans (congrArg (Sc.sScr (F := Ideal)) h1)
  have hl : Ref.lab (launchContents m' c) = Sc.labS m c := (lab_sorted _).trans (congrArg₂ (Sc.sLab (F := Ideal)) h2 h1)
  have h : ∀ (r : Fin 5000) (j : Fin 7), (Ref.result (launchContents m' c) : Cert.KernelIdeal.S5000x7.Idx → EReal) (ix2 r j)
      = (Sc.V7 m c Sc.res' : Cert.KernelIdeal.S5000x7.Idx → EReal) (ix2 r j) := fun r j => by
    refine (Ref.ref_apply (launchContents m' c) r j).trans (Eq.trans ?_ (Sc.V7_spec m c r j).symm)
    rw [hb, hs, hl]
    show Sc.specOut _ _ _ (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) r j = _
    rw [h3, h4, h5, h6, h7, h8]
  exact funext fun i => (congrArg _ (eq_ix2 i)).trans ((h (i 0) (i 1)).trans (congrArg _ (eq_ix2 i).symm))

theorem algebraic : Cert.algebraic_KernelIdeal_ReferenceIdeal := by
  intro m ρ m' ρ' _ hm
  refine ⟨fun c => Sc.V7 m c Sc.res', ?_, ?_⟩
  · exact (θ_run Cert.KernelIdeal.defs _ _).mono (fun r h c => ⟨h.1 c Sc.res' (by decide), kept m r h c⟩)
      (Sc.run_main (F := Ideal) m ρ (Sc.nv_le m) (Sc.addrs_lt m))
  · exact (θ_run Cert.ReferenceIdeal.defs _ _).mono (fun _ h c => ⟨(h c).1.trans (values m m' c (hm c)), (h c).2⟩)
      (Cert.ReferenceIdeal.Value.run (F := Ideal) m' ρ')

theorem claim : Cert.Claim := ⟨Cert.Kernel.Gen.facts, Cert.KernelIdeal.Gen.facts, Cert.Reference.Gen.facts, Cert.ReferenceIdeal.Gen.facts,
  frame_kernel, frame_ideal, frame_words, frame_reference, preserves, algebraic⟩

end Cert.Proof

end
